-- ==== Defs.lean ====
def Pre_CmpAttn (m : (ℓ : Loc Cert.CmpAttn.nD Cert.CmpAttn.τ Cert.CmpAttn.sig) → Buf (Elt Bits) ℓ) : Prop :=
  True

def Pre_CmpAttnIdeal (m : (ℓ : Loc Cert.CmpAttnIdeal.nD Cert.CmpAttnIdeal.τ Cert.CmpAttnIdeal.sig) → Buf (Elt Ideal) ℓ) : Prop :=
  True

def Pre_CmpAttnRefIdeal (m : (ℓ : Loc Cert.CmpAttnRefIdeal.nD Cert.CmpAttnRefIdeal.τ Cert.CmpAttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Raw (m : (ℓ : Loc Cert.Raw.nD Cert.Raw.τ Cert.Raw.sig) → Buf (Elt Bits) ℓ) : Prop :=
  True

def Pre_RawIdeal (m : (ℓ : Loc Cert.RawIdeal.nD Cert.RawIdeal.τ Cert.RawIdeal.sig) → Buf (Elt Ideal) ℓ) : Prop :=
  True

def Pre_RawRefIdeal (m : (ℓ : Loc Cert.RawRefIdeal.nD Cert.RawRefIdeal.τ Cert.RawRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_RawCmp (m : (ℓ : Loc Cert.RawCmp.nD Cert.RawCmp.τ Cert.RawCmp.sig) → Buf (Elt Bits) ℓ) : Prop :=
  True

def Pre_RawCmpIdeal (m : (ℓ : Loc Cert.RawCmpIdeal.nD Cert.RawCmpIdeal.τ Cert.RawCmpIdeal.sig) → Buf (Elt Ideal) ℓ) : Prop :=
  True

def Pre_RawCmpRefIdeal (m : (ℓ : Loc Cert.RawCmpRefIdeal.nD Cert.RawCmpRefIdeal.τ Cert.RawCmpRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_RawSample (m : (ℓ : Loc Cert.RawSample.nD Cert.RawSample.τ Cert.RawSample.sig) → Buf (Elt Bits) ℓ) : Prop :=
  True

def Pre_RawSampleIdeal (m : (ℓ : Loc Cert.RawSampleIdeal.nD Cert.RawSampleIdeal.τ Cert.RawSampleIdeal.sig) → Buf (Elt Ideal) ℓ) : Prop :=
  True

def Pre_RawSampleRefIdeal (m : (ℓ : Loc Cert.RawSampleRefIdeal.nD Cert.RawSampleRefIdeal.τ Cert.RawSampleRefIdeal.sig) → Buf (Elt Ideal) ℓ) : Prop :=
  True

def Pre_KvSample (m : (ℓ : Loc Cert.KvSample.nD Cert.KvSample.τ Cert.KvSample.sig) → Buf (Elt Bits) ℓ) : Prop :=
  True

def Pre_KvSampleIdeal (m : (ℓ : Loc Cert.KvSampleIdeal.nD Cert.KvSampleIdeal.τ Cert.KvSampleIdeal.sig) → Buf (Elt Ideal) ℓ) : Prop :=
  True

def Pre_KvSampleRefIdeal (m : (ℓ : Loc Cert.KvSampleRefIdeal.nD Cert.KvSampleRefIdeal.τ Cert.KvSampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_PleSample (m : (ℓ : Loc Cert.PleSample.nD Cert.PleSample.τ Cert.PleSample.sig) → Buf (Elt Bits) ℓ) : Prop :=
  True

def Pre_PleSampleIdeal (m : (ℓ : Loc Cert.PleSampleIdeal.nD Cert.PleSampleIdeal.τ Cert.PleSampleIdeal.sig) → Buf (Elt Ideal) ℓ) : Prop :=
  True

def Pre_PleSampleRefIdeal (m : (ℓ : Loc Cert.PleSampleRefIdeal.nD Cert.PleSampleRefIdeal.τ Cert.PleSampleRefIdeal.sig) → Buf (Elt Ideal) ℓ) : Prop :=
  True

def Pre_WinSample (m : (ℓ : Loc Cert.WinSample.nD Cert.WinSample.τ Cert.WinSample.sig) → Buf (Elt Bits) ℓ) : Prop :=
  True

def Pre_WinSampleIdeal (m : (ℓ : Loc Cert.WinSampleIdeal.nD Cert.WinSampleIdeal.τ Cert.WinSampleIdeal.sig) → Buf (Elt Ideal) ℓ) : Prop :=
  True

def Pre_WinSampleRefIdeal (m : (ℓ : Loc Cert.WinSampleRefIdeal.nD Cert.WinSampleRefIdeal.τ Cert.WinSampleRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def quiescent_CmpAttn [hCmpAttn : Cert.CmpAttn.Facts] : Prop :=
  ∀ (m : (ℓ : Loc Cert.CmpAttn.nD Cert.CmpAttn.τ Cert.CmpAttn.sig) → Buf (Elt Bits) ℓ) (g : Dev Cert.CmpAttn.nD → PrngReg), Pre_CmpAttn m →
    θ_run (Cert.CmpAttn.defs (F := Bits)) (onTc (τ := Cert.CmpAttn.τ) (Cert.CmpAttn.main (F := Bits))) ⟨m, fun _ => 0, g⟩ (fun r => (∀ c : Dev Cert.CmpAttn.nD,
      r.2.mem ((c.tc : Thread Cert.CmpAttn.nD Cert.CmpAttn.τ).loc Cert.CmpAttn.main_arg0) = m ((c.tc : Thread Cert.CmpAttn.nD Cert.CmpAttn.τ).loc Cert.CmpAttn.main_arg0)
      ∧ r.2.mem ((c.tc : Thread Cert.CmpAttn.nD Cert.CmpAttn.τ).loc Cert.CmpAttn.main_arg1) = m ((c.tc : Thread Cert.CmpAttn.nD Cert.CmpAttn.τ).loc Cert.CmpAttn.main_arg1)
      ∧ r.2.mem ((c.tc : Thread Cert.CmpAttn.nD Cert.CmpAttn.τ).loc Cert.CmpAttn.main_arg2) = m ((c.tc : Thread Cert.CmpAttn.nD Cert.CmpAttn.τ).loc Cert.CmpAttn.main_arg2))
      ∧ r.2.sem = fun _ => 0)

def quiescent_CmpAttnIdeal [hCmpAttnIdeal : Cert.CmpAttnIdeal.Facts] : Prop :=
  ∀ (m : (ℓ : Loc Cert.CmpAttnIdeal.nD Cert.CmpAttnIdeal.τ Cert.CmpAttnIdeal.sig) → Buf (Elt Ideal) ℓ) (g : Dev Cert.CmpAttnIdeal.nD → PrngReg), Pre_CmpAttnIdeal m →
    θ_run (Cert.CmpAttnIdeal.defs (F := Ideal)) (onTc (τ := Cert.CmpAttnIdeal.τ) (Cert.CmpAttnIdeal.main (F := Ideal))) ⟨m, fun _ => 0, g⟩ (fun r => (∀ c : Dev Cert.CmpAttnIdeal.nD,
      r.2.mem ((c.tc : Thread Cert.CmpAttnIdeal.nD Cert.CmpAttnIdeal.τ).loc Cert.CmpAttnIdeal.main_arg0) = m ((c.tc : Thread Cert.CmpAttnIdeal.nD Cert.CmpAttnIdeal.τ).loc Cert.CmpAttnIdeal.main_arg0)
      ∧ r.2.mem ((c.tc : Thread Cert.CmpAttnIdeal.nD Cert.CmpAttnIdeal.τ).loc Cert.CmpAttnIdeal.main_arg1) = m ((c.tc : Thread Cert.CmpAttnIdeal.nD Cert.CmpAttnIdeal.τ).loc Cert.CmpAttnIdeal.main_arg1)
      ∧ r.2.mem ((c.tc : Thread Cert.CmpAttnIdeal.nD Cert.CmpAttnIdeal.τ).loc Cert.CmpAttnIdeal.main_arg2) = m ((c.tc : Thread Cert.CmpAttnIdeal.nD Cert.CmpAttnIdeal.τ).loc Cert.CmpAttnIdeal.main_arg2))
      ∧ r.2.sem = fun _ => 0)

def quiescent_CmpAttnRefIdeal [hCmpAttnRefIdeal : Cert.CmpAttnRefIdeal.Facts] : Prop :=
  ∀ (m : (ℓ : Loc Cert.CmpAttnRefIdeal.nD Cert.CmpAttnRefIdeal.τ Cert.CmpAttnRefIdeal.sig) → Buf (Elt Ideal) ℓ) (g : Dev Cert.CmpAttnRefIdeal.nD → PrngReg), Pre_CmpAttnRefIdeal m →
    θ_run (Cert.CmpAttnRefIdeal.defs (F := Ideal)) (onTc (τ := Cert.CmpAttnRefIdeal.τ) (Cert.CmpAttnRefIdeal.main (F := Ideal))) ⟨m, fun _ => 0, g⟩ (fun r => (∀ c : Dev Cert.CmpAttnRefIdeal.nD,
      r.2.mem ((c.tc : Thread Cert.CmpAttnRefIdeal.nD Cert.CmpAttnRefIdeal.τ).loc Cert.CmpAttnRefIdeal.main_arg0) = m ((c.tc : Thread Cert.CmpAttnRefIdeal.nD Cert.CmpAttnRefIdeal.τ).loc Cert.CmpAttnRefIdeal.main_arg0)
      ∧ r.2.mem ((c.tc : Thread Cert.CmpAttnRefIdeal.nD Cert.CmpAttnRefIdeal.τ).loc Cert.CmpAttnRefIdeal.main_arg1) = m ((c.tc : Thread Cert.CmpAttnRefIdeal.nD Cert.CmpAttnRefIdeal.τ).loc Cert.CmpAttnRefIdeal.main_arg1)
      ∧ r.2.mem ((c.tc : Thread Cert.CmpAttnRefIdeal.nD Cert.CmpAttnRefIdeal.τ).loc Cert.CmpAttnRefIdeal.main_arg2) = m ((c.tc : Thread Cert.CmpAttnRefIdeal.nD Cert.CmpAttnRefIdeal.τ).loc Cert.CmpAttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Raw [hRaw : Cert.Raw.Facts] : Prop :=
  ∀ (m : (ℓ : Loc Cert.Raw.nD Cert.Raw.τ Cert.Raw.sig) → Buf (Elt Bits) ℓ) (g : Dev Cert.Raw.nD → PrngReg), Pre_Raw m →
    θ_run (Cert.Raw.defs (F := Bits)) (onTc (τ := Cert.Raw.τ) (Cert.Raw.main (F := Bits))) ⟨m, fun _ => 0, g⟩ (fun r => (∀ c : Dev Cert.Raw.nD,
      r.2.mem ((c.tc : Thread Cert.Raw.nD Cert.Raw.τ).loc Cert.Raw.main_arg0) = m ((c.tc : Thread Cert.Raw.nD Cert.Raw.τ).loc Cert.Raw.main_arg0)
      ∧ r.2.mem ((c.tc : Thread Cert.Raw.nD Cert.Raw.τ).loc Cert.Raw.main_arg1) = m ((c.tc : Thread Cert.Raw.nD Cert.Raw.τ).loc Cert.Raw.main_arg1)
      ∧ r.2.mem ((c.tc : Thread Cert.Raw.nD Cert.Raw.τ).loc Cert.Raw.main_arg2) = m ((c.tc : Thread Cert.Raw.nD Cert.Raw.τ).loc Cert.Raw.main_arg2))
      ∧ r.2.sem = fun _ => 0)

def quiescent_RawIdeal [hRawIdeal : Cert.RawIdeal.Facts] : Prop :=
  ∀ (m : (ℓ : Loc Cert.RawIdeal.nD Cert.RawIdeal.τ Cert.RawIdeal.sig) → Buf (Elt Ideal) ℓ) (g : Dev Cert.RawIdeal.nD → PrngReg), Pre_RawIdeal m →
    θ_run (Cert.RawIdeal.defs (F := Ideal)) (onTc (τ := Cert.RawIdeal.τ) (Cert.RawIdeal.main (F := Ideal))) ⟨m, fun _ => 0, g⟩ (fun r => (∀ c : Dev Cert.RawIdeal.nD,
      r.2.mem ((c.tc : Thread Cert.RawIdeal.nD Cert.RawIdeal.τ).loc Cert.RawIdeal.main_arg0) = m ((c.tc : Thread Cert.RawIdeal.nD Cert.RawIdeal.τ).loc Cert.RawIdeal.main_arg0)
      ∧ r.2.mem ((c.tc : Thread Cert.RawIdeal.nD Cert.RawIdeal.τ).loc Cert.RawIdeal.main_arg1) = m ((c.tc : Thread Cert.RawIdeal.nD Cert.RawIdeal.τ).loc Cert.RawIdeal.main_arg1)
      ∧ r.2.mem ((c.tc : Thread Cert.RawIdeal.nD Cert.RawIdeal.τ).loc Cert.RawIdeal.main_arg2) = m ((c.tc : Thread Cert.RawIdeal.nD Cert.RawIdeal.τ).loc Cert.RawIdeal.main_arg2))
      ∧ r.2.sem = fun _ => 0)

def quiescent_RawRefIdeal [hRawRefIdeal : Cert.RawRefIdeal.Facts] : Prop :=
  ∀ (m : (ℓ : Loc Cert.RawRefIdeal.nD Cert.RawRefIdeal.τ Cert.RawRefIdeal.sig) → Buf (Elt Ideal) ℓ) (g : Dev Cert.RawRefIdeal.nD → PrngReg), Pre_RawRefIdeal m →
    θ_run (Cert.RawRefIdeal.defs (F := Ideal)) (onTc (τ := Cert.RawRefIdeal.τ) (Cert.RawRefIdeal.main (F := Ideal))) ⟨m, fun _ => 0, g⟩ (fun r => (∀ c : Dev Cert.RawRefIdeal.nD,
      r.2.mem ((c.tc : Thread Cert.RawRefIdeal.nD Cert.RawRefIdeal.τ).loc Cert.RawRefIdeal.main_arg0) = m ((c.tc : Thread Cert.RawRefIdeal.nD Cert.RawRefIdeal.τ).loc Cert.RawRefIdeal.main_arg0)
      ∧ r.2.mem ((c.tc : Thread Cert.RawRefIdeal.nD Cert.RawRefIdeal.τ).loc Cert.RawRefIdeal.main_arg1) = m ((c.tc : Thread Cert.RawRefIdeal.nD Cert.RawRefIdeal.τ).loc Cert.RawRefIdeal.main_arg1)
      ∧ r.2.mem ((c.tc : Thread Cert.RawRefIdeal.nD Cert.RawRefIdeal.τ).loc Cert.RawRefIdeal.main_arg2) = m ((c.tc : Thread Cert.RawRefIdeal.nD Cert.RawRefIdeal.τ).loc Cert.RawRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_RawCmp [hRawCmp : Cert.RawCmp.Facts] : Prop :=
  ∀ (m : (ℓ : Loc Cert.RawCmp.nD Cert.RawCmp.τ Cert.RawCmp.sig) → Buf (Elt Bits) ℓ) (g : Dev Cert.RawCmp.nD → PrngReg), Pre_RawCmp m →
    θ_run (Cert.RawCmp.defs (F := Bits)) (onTc (τ := Cert.RawCmp.τ) (Cert.RawCmp.main (F := Bits))) ⟨m, fun _ => 0, g⟩ (fun r => (∀ c : Dev Cert.RawCmp.nD,
      r.2.mem ((c.tc : Thread Cert.RawCmp.nD Cert.RawCmp.τ).loc Cert.RawCmp.main_arg0) = m ((c.tc : Thread Cert.RawCmp.nD Cert.RawCmp.τ).loc Cert.RawCmp.main_arg0)
      ∧ r.2.mem ((c.tc : Thread Cert.RawCmp.nD Cert.RawCmp.τ).loc Cert.RawCmp.main_arg1) = m ((c.tc : Thread Cert.RawCmp.nD Cert.RawCmp.τ).loc Cert.RawCmp.main_arg1)
      ∧ r.2.mem ((c.tc : Thread Cert.RawCmp.nD Cert.RawCmp.τ).loc Cert.RawCmp.main_arg2) = m ((c.tc : Thread Cert.RawCmp.nD Cert.RawCmp.τ).loc Cert.RawCmp.main_arg2))
      ∧ r.2.sem = fun _ => 0)

def quiescent_RawCmpIdeal [hRawCmpIdeal : Cert.RawCmpIdeal.Facts] : Prop :=
  ∀ (m : (ℓ : Loc Cert.RawCmpIdeal.nD Cert.RawCmpIdeal.τ Cert.RawCmpIdeal.sig) → Buf (Elt Ideal) ℓ) (g : Dev Cert.RawCmpIdeal.nD → PrngReg), Pre_RawCmpIdeal m →
    θ_run (Cert.RawCmpIdeal.defs (F := Ideal)) (onTc (τ := Cert.RawCmpIdeal.τ) (Cert.RawCmpIdeal.main (F := Ideal))) ⟨m, fun _ => 0, g⟩ (fun r => (∀ c : Dev Cert.RawCmpIdeal.nD,
      r.2.mem ((c.tc : Thread Cert.RawCmpIdeal.nD Cert.RawCmpIdeal.τ).loc Cert.RawCmpIdeal.main_arg0) = m ((c.tc : Thread Cert.RawCmpIdeal.nD Cert.RawCmpIdeal.τ).loc Cert.RawCmpIdeal.main_arg0)
      ∧ r.2.mem ((c.tc : Thread Cert.RawCmpIdeal.nD Cert.RawCmpIdeal.τ).loc Cert.RawCmpIdeal.main_arg1) = m ((c.tc : Thread Cert.RawCmpIdeal.nD Cert.RawCmpIdeal.τ).loc Cert.RawCmpIdeal.main_arg1)
      ∧ r.2.mem ((c.tc : Thread Cert.RawCmpIdeal.nD Cert.RawCmpIdeal.τ).loc Cert.RawCmpIdeal.main_arg2) = m ((c.tc : Thread Cert.RawCmpIdeal.nD Cert.RawCmpIdeal.τ).loc Cert.RawCmpIdeal.main_arg2))
      ∧ r.2.sem = fun _ => 0)

def quiescent_RawCmpRefIdeal [hRawCmpRefIdeal : Cert.RawCmpRefIdeal.Facts] : Prop :=
  ∀ (m : (ℓ : Loc Cert.RawCmpRefIdeal.nD Cert.RawCmpRefIdeal.τ Cert.RawCmpRefIdeal.sig) → Buf (Elt Ideal) ℓ) (g : Dev Cert.RawCmpRefIdeal.nD → PrngReg), Pre_RawCmpRefIdeal m →
    θ_run (Cert.RawCmpRefIdeal.defs (F := Ideal)) (onTc (τ := Cert.RawCmpRefIdeal.τ) (Cert.RawCmpRefIdeal.main (F := Ideal))) ⟨m, fun _ => 0, g⟩ (fun r => (∀ c : Dev Cert.RawCmpRefIdeal.nD,
      r.2.mem ((c.tc : Thread Cert.RawCmpRefIdeal.nD Cert.RawCmpRefIdeal.τ).loc Cert.RawCmpRefIdeal.main_arg0) = m ((c.tc : Thread Cert.RawCmpRefIdeal.nD Cert.RawCmpRefIdeal.τ).loc Cert.RawCmpRefIdeal.main_arg0)
      ∧ r.2.mem ((c.tc : Thread Cert.RawCmpRefIdeal.nD Cert.RawCmpRefIdeal.τ).loc Cert.RawCmpRefIdeal.main_arg1) = m ((c.tc : Thread Cert.RawCmpRefIdeal.nD Cert.RawCmpRefIdeal.τ).loc Cert.RawCmpRefIdeal.main_arg1)
      ∧ r.2.mem ((c.tc : Thread Cert.RawCmpRefIdeal.nD Cert.RawCmpRefIdeal.τ).loc Cert.RawCmpRefIdeal.main_arg2) = m ((c.tc : Thread Cert.RawCmpRefIdeal.nD Cert.RawCmpRefIdeal.τ).loc Cert.RawCmpRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_RawSample [hRawSample : Cert.RawSample.Facts] : Prop :=
  ∀ (m : (ℓ : Loc Cert.RawSample.nD Cert.RawSample.τ Cert.RawSample.sig) → Buf (Elt Bits) ℓ) (g : Dev Cert.RawSample.nD → PrngReg), Pre_RawSample m →
    θ_run (Cert.RawSample.defs (F := Bits)) (onTc (τ := Cert.RawSample.τ) (Cert.RawSample.main (F := Bits))) ⟨m, fun _ => 0, g⟩ (fun r => (∀ c : Dev Cert.RawSample.nD,
      r.2.mem ((c.tc : Thread Cert.RawSample.nD Cert.RawSample.τ).loc Cert.RawSample.main_arg0) = m ((c.tc : Thread Cert.RawSample.nD Cert.RawSample.τ).loc Cert.RawSample.main_arg0)
      ∧ r.2.mem ((c.tc : Thread Cert.RawSample.nD Cert.RawSample.τ).loc Cert.RawSample.main_arg1) = m ((c.tc : Thread Cert.RawSample.nD Cert.RawSample.τ).loc Cert.RawSample.main_arg1)
      ∧ r.2.mem ((c.tc : Thread Cert.RawSample.nD Cert.RawSample.τ).loc Cert.RawSample.main_arg2) = m ((c.tc : Thread Cert.RawSample.nD Cert.RawSample.τ).loc Cert.RawSample.main_arg2))
      ∧ r.2.sem = fun _ => 0)

def quiescent_RawSampleIdeal [hRawSampleIdeal : Cert.RawSampleIdeal.Facts] : Prop :=
  ∀ (m : (ℓ : Loc Cert.RawSampleIdeal.nD Cert.RawSampleIdeal.τ Cert.RawSampleIdeal.sig) → Buf (Elt Ideal) ℓ) (g : Dev Cert.RawSampleIdeal.nD → PrngReg), Pre_RawSampleIdeal m →
    θ_run (Cert.RawSampleIdeal.defs (F := Ideal)) (onTc (τ := Cert.RawSampleIdeal.τ) (Cert.RawSampleIdeal.main (F := Ideal))) ⟨m, fun _ => 0, g⟩ (fun r => (∀ c : Dev Cert.RawSampleIdeal.nD,
      r.2.mem ((c.tc : Thread Cert.RawSampleIdeal.nD Cert.RawSampleIdeal.τ).loc Cert.RawSampleIdeal.main_arg0) = m ((c.tc : Thread Cert.RawSampleIdeal.nD Cert.RawSampleIdeal.τ).loc Cert.RawSampleIdeal.main_arg0)
      ∧ r.2.mem ((c.tc : Thread Cert.RawSampleIdeal.nD Cert.RawSampleIdeal.τ).loc Cert.RawSampleIdeal.main_arg1) = m ((c.tc : Thread Cert.RawSampleIdeal.nD Cert.RawSampleIdeal.τ).loc Cert.RawSampleIdeal.main_arg1)
      ∧ r.2.mem ((c.tc : Thread Cert.RawSampleIdeal.nD Cert.RawSampleIdeal.τ).loc Cert.RawSampleIdeal.main_arg2) = m ((c.tc : Thread Cert.RawSampleIdeal.nD Cert.RawSampleIdeal.τ).loc Cert.RawSampleIdeal.main_arg2))
      ∧ r.2.sem = fun _ => 0)

def quiescent_RawSampleRefIdeal [hRawSampleRefIdeal : Cert.RawSampleRefIdeal.Facts] : Prop :=
  ∀ (m : (ℓ : Loc Cert.RawSampleRefIdeal.nD Cert.RawSampleRefIdeal.τ Cert.RawSampleRefIdeal.sig) → Buf (Elt Ideal) ℓ) (g : Dev Cert.RawSampleRefIdeal.nD → PrngReg), Pre_RawSampleRefIdeal m →
    θ_run (Cert.RawSampleRefIdeal.defs (F := Ideal)) (onTc (τ := Cert.RawSampleRefIdeal.τ) (Cert.RawSampleRefIdeal.main (F := Ideal))) ⟨m, fun _ => 0, g⟩ (fun r => (∀ c : Dev Cert.RawSampleRefIdeal.nD,
      r.2.mem ((c.tc : Thread Cert.RawSampleRefIdeal.nD Cert.RawSampleRefIdeal.τ).loc Cert.RawSampleRefIdeal.main_arg0) = m ((c.tc : Thread Cert.RawSampleRefIdeal.nD Cert.RawSampleRefIdeal.τ).loc Cert.RawSampleRefIdeal.main_arg0)
      ∧ r.2.mem ((c.tc : Thread Cert.RawSampleRefIdeal.nD Cert.RawSampleRefIdeal.τ).loc Cert.RawSampleRefIdeal.main_arg1) = m ((c.tc : Thread Cert.RawSampleRefIdeal.nD Cert.RawSampleRefIdeal.τ).loc Cert.RawSampleRefIdeal.main_arg1)
      ∧ r.2.mem ((c.tc : Thread Cert.RawSampleRefIdeal.nD Cert.RawSampleRefIdeal.τ).loc Cert.RawSampleRefIdeal.main_arg2) = m ((c.tc : Thread Cert.RawSampleRefIdeal.nD Cert.RawSampleRefIdeal.τ).loc Cert.RawSampleRefIdeal.main_arg2))
      ∧ r.2.sem = fun _ => 0)

def quiescent_KvSample [hKvSample : Cert.KvSample.Facts] : Prop :=
  ∀ (m : (ℓ : Loc Cert.KvSample.nD Cert.KvSample.τ Cert.KvSample.sig) → Buf (Elt Bits) ℓ) (g : Dev Cert.KvSample.nD → PrngReg), Pre_KvSample m →
    θ_run (Cert.KvSample.defs (F := Bits)) (onTc (τ := Cert.KvSample.τ) (Cert.KvSample.main (F := Bits))) ⟨m, fun _ => 0, g⟩ (fun r => (∀ c : Dev Cert.KvSample.nD,
      r.2.mem ((c.tc : Thread Cert.KvSample.nD Cert.KvSample.τ).loc Cert.KvSample.main_arg0) = m ((c.tc : Thread Cert.KvSample.nD Cert.KvSample.τ).loc Cert.KvSample.main_arg0)
      ∧ r.2.mem ((c.tc : Thread Cert.KvSample.nD Cert.KvSample.τ).loc Cert.KvSample.main_arg1) = m ((c.tc : Thread Cert.KvSample.nD Cert.KvSample.τ).loc Cert.KvSample.main_arg1)
      ∧ r.2.mem ((c.tc : Thread Cert.KvSample.nD Cert.KvSample.τ).loc Cert.KvSample.main_arg2) = m ((c.tc : Thread Cert.KvSample.nD Cert.KvSample.τ).loc Cert.KvSample.main_arg2)
      ∧ r.2.mem ((c.tc : Thread Cert.KvSample.nD Cert.KvSample.τ).loc Cert.KvSample.main_arg3) = m ((c.tc : Thread Cert.KvSample.nD Cert.KvSample.τ).loc Cert.KvSample.main_arg3))
      ∧ r.2.sem = fun _ => 0)

def quiescent_KvSampleIdeal [hKvSampleIdeal : Cert.KvSampleIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg), Pre_KvSampleIdeal m →
    θ_run (Cert.KvSampleIdeal.defs (F := Ideal)) (onTc (τ := Cert.KvSampleIdeal.τ) (Cert.KvSampleIdeal.main (F := Ideal))) ⟨m, fun _ => 0, g⟩ (fun r => (∀ c : Dev Cert.KvSampleIdeal.nD,
      r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
      ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
      ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
      ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3))
      ∧ r.2.sem = fun _ => 0)

def quiescent_KvSampleRefIdeal [hKvSampleRefIdeal : Cert.KvSampleRefIdeal.Facts] : Prop :=
  ∀ (m : (ℓ : Loc Cert.KvSampleRefIdeal.nD Cert.KvSampleRefIdeal.τ Cert.KvSampleRefIdeal.sig) → Buf (Elt Ideal) ℓ) (g : Dev Cert.KvSampleRefIdeal.nD → PrngReg), Pre_KvSampleRefIdeal m →
    θ_run (Cert.KvSampleRefIdeal.defs (F := Ideal)) (onTc (τ := Cert.KvSampleRefIdeal.τ) (Cert.KvSampleRefIdeal.main (F := Ideal))) ⟨m, fun _ => 0, g⟩ (fun r => (∀ c : Dev Cert.KvSampleRefIdeal.nD,
      r.2.mem ((c.tc : Thread Cert.KvSampleRefIdeal.nD Cert.KvSampleRefIdeal.τ).loc Cert.KvSampleRefIdeal.main_arg0) = m ((c.tc : Thread Cert.KvSampleRefIdeal.nD Cert.KvSampleRefIdeal.τ).loc Cert.KvSampleRefIdeal.main_arg0)
      ∧ r.2.mem ((c.tc : Thread Cert.KvSampleRefIdeal.nD Cert.KvSampleRefIdeal.τ).loc Cert.KvSampleRefIdeal.main_arg1) = m ((c.tc : Thread Cert.KvSampleRefIdeal.nD Cert.KvSampleRefIdeal.τ).loc Cert.KvSampleRefIdeal.main_arg1)
      ∧ r.2.mem ((c.tc : Thread Cert.KvSampleRefIdeal.nD Cert.KvSampleRefIdeal.τ).loc Cert.KvSampleRefIdeal.main_arg2) = m ((c.tc : Thread Cert.KvSampleRefIdeal.nD Cert.KvSampleRefIdeal.τ).loc Cert.KvSampleRefIdeal.main_arg2)
      ∧ r.2.mem ((c.tc : Thread Cert.KvSampleRefIdeal.nD Cert.KvSampleRefIdeal.τ).loc Cert.KvSampleRefIdeal.main_arg3) = m ((c.tc : Thread Cert.KvSampleRefIdeal.nD Cert.KvSampleRefIdeal.τ).loc Cert.KvSampleRefIdeal.main_arg3))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6))
      ∧ r.2.sem = fun _ => 0)

def quiescent_PleSample [hPleSample : Cert.PleSample.Facts] : Prop :=
  ∀ (m : (ℓ : Loc Cert.PleSample.nD Cert.PleSample.τ Cert.PleSample.sig) → Buf (Elt Bits) ℓ) (g : Dev Cert.PleSample.nD → PrngReg), Pre_PleSample m →
    θ_run (Cert.PleSample.defs (F := Bits)) (onTc (τ := Cert.PleSample.τ) (Cert.PleSample.main (F := Bits))) ⟨m, fun _ => 0, g⟩ (fun r => (∀ c : Dev Cert.PleSample.nD,
      r.2.mem ((c.tc : Thread Cert.PleSample.nD Cert.PleSample.τ).loc Cert.PleSample.main_arg0) = m ((c.tc : Thread Cert.PleSample.nD Cert.PleSample.τ).loc Cert.PleSample.main_arg0)
      ∧ r.2.mem ((c.tc : Thread Cert.PleSample.nD Cert.PleSample.τ).loc Cert.PleSample.main_arg1) = m ((c.tc : Thread Cert.PleSample.nD Cert.PleSample.τ).loc Cert.PleSample.main_arg1)
      ∧ r.2.mem ((c.tc : Thread Cert.PleSample.nD Cert.PleSample.τ).loc Cert.PleSample.main_arg2) = m ((c.tc : Thread Cert.PleSample.nD Cert.PleSample.τ).loc Cert.PleSample.main_arg2)
      ∧ r.2.mem ((c.tc : Thread Cert.PleSample.nD Cert.PleSample.τ).loc Cert.PleSample.main_arg3) = m ((c.tc : Thread Cert.PleSample.nD Cert.PleSample.τ).loc Cert.PleSample.main_arg3)
      ∧ r.2.mem ((c.tc : Thread Cert.PleSample.nD Cert.PleSample.τ).loc Cert.PleSample.main_arg4) = m ((c.tc : Thread Cert.PleSample.nD Cert.PleSample.τ).loc Cert.PleSample.main_arg4))
      ∧ r.2.sem = fun _ => 0)

def quiescent_PleSampleIdeal [hPleSampleIdeal : Cert.PleSampleIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg), Pre_PleSampleIdeal m →
    θ_run (Cert.PleSampleIdeal.defs (F := Ideal)) (onTc (τ := Cert.PleSampleIdeal.τ) (Cert.PleSampleIdeal.main (F := Ideal))) ⟨m, fun _ => 0, g⟩ (fun r => (∀ c : Dev Cert.PleSampleIdeal.nD,
      r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
      ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
      ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
      ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
      ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ r.2.sem = fun _ => 0)

def quiescent_PleSampleRefIdeal [hPleSampleRefIdeal : Cert.PleSampleRefIdeal.Facts] : Prop :=
  ∀ (m : (ℓ : Loc Cert.PleSampleRefIdeal.nD Cert.PleSampleRefIdeal.τ Cert.PleSampleRefIdeal.sig) → Buf (Elt Ideal) ℓ) (g : Dev Cert.PleSampleRefIdeal.nD → PrngReg), Pre_PleSampleRefIdeal m →
    θ_run (Cert.PleSampleRefIdeal.defs (F := Ideal)) (onTc (τ := Cert.PleSampleRefIdeal.τ) (Cert.PleSampleRefIdeal.main (F := Ideal))) ⟨m, fun _ => 0, g⟩ (fun r => (∀ c : Dev Cert.PleSampleRefIdeal.nD,
      r.2.mem ((c.tc : Thread Cert.PleSampleRefIdeal.nD Cert.PleSampleRefIdeal.τ).loc Cert.PleSampleRefIdeal.main_arg0) = m ((c.tc : Thread Cert.PleSampleRefIdeal.nD Cert.PleSampleRefIdeal.τ).loc Cert.PleSampleRefIdeal.main_arg0)
      ∧ r.2.mem ((c.tc : Thread Cert.PleSampleRefIdeal.nD Cert.PleSampleRefIdeal.τ).loc Cert.PleSampleRefIdeal.main_arg1) = m ((c.tc : Thread Cert.PleSampleRefIdeal.nD Cert.PleSampleRefIdeal.τ).loc Cert.PleSampleRefIdeal.main_arg1)
      ∧ r.2.mem ((c.tc : Thread Cert.PleSampleRefIdeal.nD Cert.PleSampleRefIdeal.τ).loc Cert.PleSampleRefIdeal.main_arg2) = m ((c.tc : Thread Cert.PleSampleRefIdeal.nD Cert.PleSampleRefIdeal.τ).loc Cert.PleSampleRefIdeal.main_arg2)
      ∧ r.2.mem ((c.tc : Thread Cert.PleSampleRefIdeal.nD Cert.PleSampleRefIdeal.τ).loc Cert.PleSampleRefIdeal.main_arg3) = m ((c.tc : Thread Cert.PleSampleRefIdeal.nD Cert.PleSampleRefIdeal.τ).loc Cert.PleSampleRefIdeal.main_arg3)
      ∧ r.2.mem ((c.tc : Thread Cert.PleSampleRefIdeal.nD Cert.PleSampleRefIdeal.τ).loc Cert.PleSampleRefIdeal.main_arg4) = m ((c.tc : Thread Cert.PleSampleRefIdeal.nD Cert.PleSampleRefIdeal.τ).loc Cert.PleSampleRefIdeal.main_arg4))
      ∧ r.2.sem = fun _ => 0)

def quiescent_WinSample [hWinSample : Cert.WinSample.Facts] : Prop :=
  ∀ (m : (ℓ : Loc Cert.WinSample.nD Cert.WinSample.τ Cert.WinSample.sig) → Buf (Elt Bits) ℓ) (g : Dev Cert.WinSample.nD → PrngReg), Pre_WinSample m →
    θ_run (Cert.WinSample.defs (F := Bits)) (onTc (τ := Cert.WinSample.τ) (Cert.WinSample.main (F := Bits))) ⟨m, fun _ => 0, g⟩ (fun r => (∀ c : Dev Cert.WinSample.nD,
      r.2.mem ((c.tc : Thread Cert.WinSample.nD Cert.WinSample.τ).loc Cert.WinSample.main_arg0) = m ((c.tc : Thread Cert.WinSample.nD Cert.WinSample.τ).loc Cert.WinSample.main_arg0)
      ∧ r.2.mem ((c.tc : Thread Cert.WinSample.nD Cert.WinSample.τ).loc Cert.WinSample.main_arg1) = m ((c.tc : Thread Cert.WinSample.nD Cert.WinSample.τ).loc Cert.WinSample.main_arg1)
      ∧ r.2.mem ((c.tc : Thread Cert.WinSample.nD Cert.WinSample.τ).loc Cert.WinSample.main_arg2) = m ((c.tc : Thread Cert.WinSample.nD Cert.WinSample.τ).loc Cert.WinSample.main_arg2)
      ∧ r.2.mem ((c.tc : Thread Cert.WinSample.nD Cert.WinSample.τ).loc Cert.WinSample.main_arg3) = m ((c.tc : Thread Cert.WinSample.nD Cert.WinSample.τ).loc Cert.WinSample.main_arg3)
      ∧ r.2.mem ((c.tc : Thread Cert.WinSample.nD Cert.WinSample.τ).loc Cert.WinSample.main_arg4) = m ((c.tc : Thread Cert.WinSample.nD Cert.WinSample.τ).loc Cert.WinSample.main_arg4)
      ∧ r.2.mem ((c.tc : Thread Cert.WinSample.nD Cert.WinSample.τ).loc Cert.WinSample.main_arg5) = m ((c.tc : Thread Cert.WinSample.nD Cert.WinSample.τ).loc Cert.WinSample.main_arg5))
      ∧ r.2.sem = fun _ => 0)

def quiescent_WinSampleIdeal [hWinSampleIdeal : Cert.WinSampleIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg), Pre_WinSampleIdeal m →
    θ_run (Cert.WinSampleIdeal.defs (F := Ideal)) (onTc (τ := Cert.WinSampleIdeal.τ) (Cert.WinSampleIdeal.main (F := Ideal))) ⟨m, fun _ => 0, g⟩ (fun r => (∀ c : Dev Cert.WinSampleIdeal.nD,
      r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
      ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
      ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
      ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3)
      ∧ r.2.mem ((c.tc : Thread Cert.WinSampleIdeal.nD Cert.WinSampleIdeal.τ).loc Cert.WinSampleIdeal.main_arg4) = m ((c.tc : Thread Cert.WinSampleIdeal.nD Cert.WinSampleIdeal.τ).loc Cert.WinSampleIdeal.main_arg4)
      ∧ r.2.mem ((c.tc : Thread Cert.WinSampleIdeal.nD Cert.WinSampleIdeal.τ).loc Cert.WinSampleIdeal.main_arg5) = m ((c.tc : Thread Cert.WinSampleIdeal.nD Cert.WinSampleIdeal.τ).loc Cert.WinSampleIdeal.main_arg5))
      ∧ r.2.sem = fun _ => 0)

def quiescent_WinSampleRefIdeal [hWinSampleRefIdeal : Cert.WinSampleRefIdeal.Facts] : Prop :=
  ∀ (m : (ℓ : Loc Cert.WinSampleRefIdeal.nD Cert.WinSampleRefIdeal.τ Cert.WinSampleRefIdeal.sig) → Buf (Elt Ideal) ℓ) (g : Dev Cert.WinSampleRefIdeal.nD → PrngReg), Pre_WinSampleRefIdeal m →
    θ_run (Cert.WinSampleRefIdeal.defs (F := Ideal)) (onTc (τ := Cert.WinSampleRefIdeal.τ) (Cert.WinSampleRefIdeal.main (F := Ideal))) ⟨m, fun _ => 0, g⟩ (fun r => (∀ c : Dev Cert.WinSampleRefIdeal.nD,
      r.2.mem ((c.tc : Thread Cert.WinSampleRefIdeal.nD Cert.WinSampleRefIdeal.τ).loc Cert.WinSampleRefIdeal.main_arg0) = m ((c.tc : Thread Cert.WinSampleRefIdeal.nD Cert.WinSampleRefIdeal.τ).loc Cert.WinSampleRefIdeal.main_arg0)
      ∧ r.2.mem ((c.tc : Thread Cert.WinSampleRefIdeal.nD Cert.WinSampleRefIdeal.τ).loc Cert.WinSampleRefIdeal.main_arg1) = m ((c.tc : Thread Cert.WinSampleRefIdeal.nD Cert.WinSampleRefIdeal.τ).loc Cert.WinSampleRefIdeal.main_arg1)
      ∧ r.2.mem ((c.tc : Thread Cert.WinSampleRefIdeal.nD Cert.WinSampleRefIdeal.τ).loc Cert.WinSampleRefIdeal.main_arg2) = m ((c.tc : Thread Cert.WinSampleRefIdeal.nD Cert.WinSampleRefIdeal.τ).loc Cert.WinSampleRefIdeal.main_arg2)
      ∧ r.2.mem ((c.tc : Thread Cert.WinSampleRefIdeal.nD Cert.WinSampleRefIdeal.τ).loc Cert.WinSampleRefIdeal.main_arg3) = m ((c.tc : Thread Cert.WinSampleRefIdeal.nD Cert.WinSampleRefIdeal.τ).loc Cert.WinSampleRefIdeal.main_arg3)
      ∧ r.2.mem ((c.tc : Thread Cert.WinSampleRefIdeal.nD Cert.WinSampleRefIdeal.τ).loc Cert.WinSampleRefIdeal.main_arg4) = m ((c.tc : Thread Cert.WinSampleRefIdeal.nD Cert.WinSampleRefIdeal.τ).loc Cert.WinSampleRefIdeal.main_arg4)
      ∧ r.2.mem ((c.tc : Thread Cert.WinSampleRefIdeal.nD Cert.WinSampleRefIdeal.τ).loc Cert.WinSampleRefIdeal.main_arg5) = m ((c.tc : Thread Cert.WinSampleRefIdeal.nD Cert.WinSampleRefIdeal.τ).loc Cert.WinSampleRefIdeal.main_arg5))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5)
      ∧ r.2.mem ((c.tc : Thread Cert.ConvSample.nD Cert.ConvSample.τ).loc Cert.ConvSample.main_arg6) = m ((c.tc : Thread Cert.ConvSample.nD Cert.ConvSample.τ).loc Cert.ConvSample.main_arg6))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
      ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
      ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4)
      ∧ r.2.mem ((c.tc : Thread Cert.ConvSampleRefIdeal.nD Cert.ConvSampleRefIdeal.τ).loc Cert.ConvSampleRefIdeal.main_arg5) = m ((c.tc : Thread Cert.ConvSampleRefIdeal.nD Cert.ConvSampleRefIdeal.τ).loc Cert.ConvSampleRefIdeal.main_arg5)
      ∧ r.2.mem ((c.tc : Thread Cert.ConvSampleRefIdeal.nD Cert.ConvSampleRefIdeal.τ).loc Cert.ConvSampleRefIdeal.main_arg6) = m ((c.tc : Thread Cert.ConvSampleRefIdeal.nD Cert.ConvSampleRefIdeal.τ).loc Cert.ConvSampleRefIdeal.main_arg6))
      ∧ r.2.sem = fun _ => 0)

def preserves_CmpAttn_CmpAttnIdeal : Prop :=
  True

def algebraic_CmpAttnIdeal_CmpAttnRefIdeal [hCmpAttnIdeal : Cert.CmpAttnIdeal.Facts] [hCmpAttnRefIdeal : Cert.CmpAttnRefIdeal.Facts] : Prop :=
  ∀ (m : (ℓ : Loc Cert.CmpAttnIdeal.nD Cert.CmpAttnIdeal.τ Cert.CmpAttnIdeal.sig) → Buf (Elt Ideal) ℓ) (g : Dev Cert.CmpAttnIdeal.nD → PrngReg)
    (m' : (ℓ : Loc Cert.CmpAttnRefIdeal.nD Cert.CmpAttnRefIdeal.τ Cert.CmpAttnRefIdeal.sig) → Buf (Elt Ideal) ℓ) (g' : Dev Cert.CmpAttnRefIdeal.nD → PrngReg), Pre_CmpAttnIdeal m →
    (∀ c : Dev Cert.CmpAttnIdeal.nD,
      m' ((c.tc : Thread Cert.CmpAttnRefIdeal.nD Cert.CmpAttnRefIdeal.τ).loc Cert.CmpAttnRefIdeal.main_arg0) = m ((c.tc : Thread Cert.CmpAttnIdeal.nD Cert.CmpAttnIdeal.τ).loc Cert.CmpAttnIdeal.main_arg0)
      ∧ m' ((c.tc : Thread Cert.CmpAttnRefIdeal.nD Cert.CmpAttnRefIdeal.τ).loc Cert.CmpAttnRefIdeal.main_arg1) = m ((c.tc : Thread Cert.CmpAttnIdeal.nD Cert.CmpAttnIdeal.τ).loc Cert.CmpAttnIdeal.main_arg1)
      ∧ m' ((c.tc : Thread Cert.CmpAttnRefIdeal.nD Cert.CmpAttnRefIdeal.τ).loc Cert.CmpAttnRefIdeal.main_arg2) = m ((c.tc : Thread Cert.CmpAttnIdeal.nD Cert.CmpAttnIdeal.τ).loc Cert.CmpAttnIdeal.main_arg2)) →
    ∃ (v0 : (c : Dev Cert.CmpAttnIdeal.nD) → Buf (Elt Ideal) ((c.tc : Thread Cert.CmpAttnIdeal.nD Cert.CmpAttnIdeal.τ).loc Cert.CmpAttnIdeal.main_v0_0)) (v1 : (c : Dev Cert.CmpAttnIdeal.nD) → Buf (Elt Ideal) ((c.tc : Thread Cert.CmpAttnIdeal.nD Cert.CmpAttnIdeal.τ).loc Cert.CmpAttnIdeal.main_v0_1)),
      θ_run (Cert.CmpAttnIdeal.defs (F := Ideal)) (onTc (τ := Cert.CmpAttnIdeal.τ) (Cert.CmpAttnIdeal.main (F := Ideal))) ⟨m, fun _ => 0, g⟩ (fun r => ∀ c : Dev Cert.CmpAttnIdeal.nD,
          r.2.mem ((c.tc : Thread Cert.CmpAttnIdeal.nD Cert.CmpAttnIdeal.τ).loc Cert.CmpAttnIdeal.main_v0_0) = v0 c
          ∧ r.2.mem ((c.tc : Thread Cert.CmpAttnIdeal.nD Cert.CmpAttnIdeal.τ).loc Cert.CmpAttnIdeal.main_v0_1) = v1 c
          ∧ r.2.mem ((c.tc : Thread Cert.CmpAttnIdeal.nD Cert.CmpAttnIdeal.τ).loc Cert.CmpAttnIdeal.main_arg0) = m ((c.tc : Thread Cert.CmpAttnIdeal.nD Cert.CmpAttnIdeal.τ).loc Cert.CmpAttnIdeal.main_arg0)
          ∧ r.2.mem ((c.tc : Thread Cert.CmpAttnIdeal.nD Cert.CmpAttnIdeal.τ).loc Cert.CmpAttnIdeal.main_arg1) = m ((c.tc : Thread Cert.CmpAttnIdeal.nD Cert.CmpAttnIdeal.τ).loc Cert.CmpAttnIdeal.main_arg1)
          ∧ r.2.mem ((c.tc : Thread Cert.CmpAttnIdeal.nD Cert.CmpAttnIdeal.τ).loc Cert.CmpAttnIdeal.main_arg2) = m ((c.tc : Thread Cert.CmpAttnIdeal.nD Cert.CmpAttnIdeal.τ).loc Cert.CmpAttnIdeal.main_arg2))
      ∧ θ_run (Cert.CmpAttnRefIdeal.defs (F := Ideal)) (onTc (τ := Cert.CmpAttnRefIdeal.τ) (Cert.CmpAttnRefIdeal.main (F := Ideal))) ⟨m', fun _ => 0, g'⟩ (fun r => ∀ c : Dev Cert.CmpAttnRefIdeal.nD,
          r.2.mem ((c.tc : Thread Cert.CmpAttnRefIdeal.nD Cert.CmpAttnRefIdeal.τ).loc Cert.CmpAttnRefIdeal.main_v28) = v0 c
          ∧ r.2.mem ((c.tc : Thread Cert.CmpAttnRefIdeal.nD Cert.CmpAttnRefIdeal.τ).loc Cert.CmpAttnRefIdeal.main_v29) = v1 c
          ∧ r.2.mem ((c.tc : Thread Cert.CmpAttnRefIdeal.nD Cert.CmpAttnRefIdeal.τ).loc Cert.CmpAttnRefIdeal.main_arg0) = m' ((c.tc : Thread Cert.CmpAttnRefIdeal.nD Cert.CmpAttnRefIdeal.τ).loc Cert.CmpAttnRefIdeal.main_arg0)
          ∧ r.2.mem ((c.tc : Thread Cert.CmpAttnRefIdeal.nD Cert.CmpAttnRefIdeal.τ).loc Cert.CmpAttnRefIdeal.main_arg1) = m' ((c.tc : Thread Cert.CmpAttnRefIdeal.nD Cert.CmpAttnRefIdeal.τ).loc Cert.CmpAttnRefIdeal.main_arg1)
          ∧ r.2.mem ((c.tc : Thread Cert.CmpAttnRefIdeal.nD Cert.CmpAttnRefIdeal.τ).loc Cert.CmpAttnRefIdeal.main_arg2) = m' ((c.tc : Thread Cert.CmpAttnRefIdeal.nD Cert.CmpAttnRefIdeal.τ).loc Cert.CmpAttnRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5_0)) (v1 : (c : Dev Cert.FfnIdeal.nD) → Buf (Elt Ideal) ((c.tc : Thread Cert.FfnIdeal.nD Cert.FfnIdeal.τ).loc Cert.FfnIdeal.main_v5_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5_0) = v0 c
          ∧ r.2.mem ((c.tc : Thread Cert.FfnIdeal.nD Cert.FfnIdeal.τ).loc Cert.FfnIdeal.main_v5_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v52) = v0 c
          ∧ r.2.mem ((c.tc : Thread Cert.FfnRefIdeal.nD Cert.FfnRefIdeal.τ).loc Cert.FfnRefIdeal.main_v53) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Raw_RawIdeal : Prop :=
  True

def algebraic_RawIdeal_RawRefIdeal [hRawIdeal : Cert.RawIdeal.Facts] [hRawRefIdeal : Cert.RawRefIdeal.Facts] : Prop :=
  ∀ (m : (ℓ : Loc Cert.RawIdeal.nD Cert.RawIdeal.τ Cert.RawIdeal.sig) → Buf (Elt Ideal) ℓ) (g : Dev Cert.RawIdeal.nD → PrngReg)
    (m' : (ℓ : Loc Cert.RawRefIdeal.nD Cert.RawRefIdeal.τ Cert.RawRefIdeal.sig) → Buf (Elt Ideal) ℓ) (g' : Dev Cert.RawRefIdeal.nD → PrngReg), Pre_RawIdeal m →
    (∀ c : Dev Cert.RawIdeal.nD,
      m' ((c.tc : Thread Cert.RawRefIdeal.nD Cert.RawRefIdeal.τ).loc Cert.RawRefIdeal.main_arg0) = m ((c.tc : Thread Cert.RawIdeal.nD Cert.RawIdeal.τ).loc Cert.RawIdeal.main_arg0)
      ∧ m' ((c.tc : Thread Cert.RawRefIdeal.nD Cert.RawRefIdeal.τ).loc Cert.RawRefIdeal.main_arg1) = m ((c.tc : Thread Cert.RawIdeal.nD Cert.RawIdeal.τ).loc Cert.RawIdeal.main_arg1)
      ∧ m' ((c.tc : Thread Cert.RawRefIdeal.nD Cert.RawRefIdeal.τ).loc Cert.RawRefIdeal.main_arg2) = m ((c.tc : Thread Cert.RawIdeal.nD Cert.RawIdeal.τ).loc Cert.RawIdeal.main_arg2)) →
    ∃ (v0 : (c : Dev Cert.RawIdeal.nD) → Buf (Elt Ideal) ((c.tc : Thread Cert.RawIdeal.nD Cert.RawIdeal.τ).loc Cert.RawIdeal.main_v2)),
      θ_run (Cert.RawIdeal.defs (F := Ideal)) (onTc (τ := Cert.RawIdeal.τ) (Cert.RawIdeal.main (F := Ideal))) ⟨m, fun _ => 0, g⟩ (fun r => ∀ c : Dev Cert.RawIdeal.nD,
          r.2.mem ((c.tc : Thread Cert.RawIdeal.nD Cert.RawIdeal.τ).loc Cert.RawIdeal.main_v2) = v0 c
          ∧ r.2.mem ((c.tc : Thread Cert.RawIdeal.nD Cert.RawIdeal.τ).loc Cert.RawIdeal.main_arg0) = m ((c.tc : Thread Cert.RawIdeal.nD Cert.RawIdeal.τ).loc Cert.RawIdeal.main_arg0)
          ∧ r.2.mem ((c.tc : Thread Cert.RawIdeal.nD Cert.RawIdeal.τ).loc Cert.RawIdeal.main_arg1) = m ((c.tc : Thread Cert.RawIdeal.nD Cert.RawIdeal.τ).loc Cert.RawIdeal.main_arg1)
          ∧ r.2.mem ((c.tc : Thread Cert.RawIdeal.nD Cert.RawIdeal.τ).loc Cert.RawIdeal.main_arg2) = m ((c.tc : Thread Cert.RawIdeal.nD Cert.RawIdeal.τ).loc Cert.RawIdeal.main_arg2))
      ∧ θ_run (Cert.RawRefIdeal.defs (F := Ideal)) (onTc (τ := Cert.RawRefIdeal.τ) (Cert.RawRefIdeal.main (F := Ideal))) ⟨m', fun _ => 0, g'⟩ (fun r => ∀ c : Dev Cert.RawRefIdeal.nD,
          r.2.mem ((c.tc : Thread Cert.RawRefIdeal.nD Cert.RawRefIdeal.τ).loc Cert.RawRefIdeal.main_v13) = v0 c
          ∧ r.2.mem ((c.tc : Thread Cert.RawRefIdeal.nD Cert.RawRefIdeal.τ).loc Cert.RawRefIdeal.main_arg0) = m' ((c.tc : Thread Cert.RawRefIdeal.nD Cert.RawRefIdeal.τ).loc Cert.RawRefIdeal.main_arg0)
          ∧ r.2.mem ((c.tc : Thread Cert.RawRefIdeal.nD Cert.RawRefIdeal.τ).loc Cert.RawRefIdeal.main_arg1) = m' ((c.tc : Thread Cert.RawRefIdeal.nD Cert.RawRefIdeal.τ).loc Cert.RawRefIdeal.main_arg1)
          ∧ r.2.mem ((c.tc : Thread Cert.RawRefIdeal.nD Cert.RawRefIdeal.τ).loc Cert.RawRefIdeal.main_arg2) = m' ((c.tc : Thread Cert.RawRefIdeal.nD Cert.RawRefIdeal.τ).loc Cert.RawRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v22) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_RawCmp_RawCmpIdeal : Prop :=
  True

def algebraic_RawCmpIdeal_RawCmpRefIdeal [hRawCmpIdeal : Cert.RawCmpIdeal.Facts] [hRawCmpRefIdeal : Cert.RawCmpRefIdeal.Facts] : Prop :=
  ∀ (m : (ℓ : Loc Cert.RawCmpIdeal.nD Cert.RawCmpIdeal.τ Cert.RawCmpIdeal.sig) → Buf (Elt Ideal) ℓ) (g : Dev Cert.RawCmpIdeal.nD → PrngReg)
    (m' : (ℓ : Loc Cert.RawCmpRefIdeal.nD Cert.RawCmpRefIdeal.τ Cert.RawCmpRefIdeal.sig) → Buf (Elt Ideal) ℓ) (g' : Dev Cert.RawCmpRefIdeal.nD → PrngReg), Pre_RawCmpIdeal m →
    (∀ c : Dev Cert.RawCmpIdeal.nD,
      m' ((c.tc : Thread Cert.RawCmpRefIdeal.nD Cert.RawCmpRefIdeal.τ).loc Cert.RawCmpRefIdeal.main_arg0) = m ((c.tc : Thread Cert.RawCmpIdeal.nD Cert.RawCmpIdeal.τ).loc Cert.RawCmpIdeal.main_arg0)
      ∧ m' ((c.tc : Thread Cert.RawCmpRefIdeal.nD Cert.RawCmpRefIdeal.τ).loc Cert.RawCmpRefIdeal.main_arg1) = m ((c.tc : Thread Cert.RawCmpIdeal.nD Cert.RawCmpIdeal.τ).loc Cert.RawCmpIdeal.main_arg1)
      ∧ m' ((c.tc : Thread Cert.RawCmpRefIdeal.nD Cert.RawCmpRefIdeal.τ).loc Cert.RawCmpRefIdeal.main_arg2) = m ((c.tc : Thread Cert.RawCmpIdeal.nD Cert.RawCmpIdeal.τ).loc Cert.RawCmpIdeal.main_arg2)) →
    ∃ (v0 : (c : Dev Cert.RawCmpIdeal.nD) → Buf (Elt Ideal) ((c.tc : Thread Cert.RawCmpIdeal.nD Cert.RawCmpIdeal.τ).loc Cert.RawCmpIdeal.main_v2)),
      θ_run (Cert.RawCmpIdeal.defs (F := Ideal)) (onTc (τ := Cert.RawCmpIdeal.τ) (Cert.RawCmpIdeal.main (F := Ideal))) ⟨m, fun _ => 0, g⟩ (fun r => ∀ c : Dev Cert.RawCmpIdeal.nD,
          r.2.mem ((c.tc : Thread Cert.RawCmpIdeal.nD Cert.RawCmpIdeal.τ).loc Cert.RawCmpIdeal.main_v2) = v0 c
          ∧ r.2.mem ((c.tc : Thread Cert.RawCmpIdeal.nD Cert.RawCmpIdeal.τ).loc Cert.RawCmpIdeal.main_arg0) = m ((c.tc : Thread Cert.RawCmpIdeal.nD Cert.RawCmpIdeal.τ).loc Cert.RawCmpIdeal.main_arg0)
          ∧ r.2.mem ((c.tc : Thread Cert.RawCmpIdeal.nD Cert.RawCmpIdeal.τ).loc Cert.RawCmpIdeal.main_arg1) = m ((c.tc : Thread Cert.RawCmpIdeal.nD Cert.RawCmpIdeal.τ).loc Cert.RawCmpIdeal.main_arg1)
          ∧ r.2.mem ((c.tc : Thread Cert.RawCmpIdeal.nD Cert.RawCmpIdeal.τ).loc Cert.RawCmpIdeal.main_arg2) = m ((c.tc : Thread Cert.RawCmpIdeal.nD Cert.RawCmpIdeal.τ).loc Cert.RawCmpIdeal.main_arg2))
      ∧ θ_run (Cert.RawCmpRefIdeal.defs (F := Ideal)) (onTc (τ := Cert.RawCmpRefIdeal.τ) (Cert.RawCmpRefIdeal.main (F := Ideal))) ⟨m', fun _ => 0, g'⟩ (fun r => ∀ c : Dev Cert.RawCmpRefIdeal.nD,
          r.2.mem ((c.tc : Thread Cert.RawCmpRefIdeal.nD Cert.RawCmpRefIdeal.τ).loc Cert.RawCmpRefIdeal.main_v13) = v0 c
          ∧ r.2.mem ((c.tc : Thread Cert.RawCmpRefIdeal.nD Cert.RawCmpRefIdeal.τ).loc Cert.RawCmpRefIdeal.main_arg0) = m' ((c.tc : Thread Cert.RawCmpRefIdeal.nD Cert.RawCmpRefIdeal.τ).loc Cert.RawCmpRefIdeal.main_arg0)
          ∧ r.2.mem ((c.tc : Thread Cert.RawCmpRefIdeal.nD Cert.RawCmpRefIdeal.τ).loc Cert.RawCmpRefIdeal.main_arg1) = m' ((c.tc : Thread Cert.RawCmpRefIdeal.nD Cert.RawCmpRefIdeal.τ).loc Cert.RawCmpRefIdeal.main_arg1)
          ∧ r.2.mem ((c.tc : Thread Cert.RawCmpRefIdeal.nD Cert.RawCmpRefIdeal.τ).loc Cert.RawCmpRefIdeal.main_arg2) = m' ((c.tc : Thread Cert.RawCmpRefIdeal.nD Cert.RawCmpRefIdeal.τ).loc Cert.RawCmpRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v21_0)) (v1 : (c : Dev Cert.KvIdeal.nD) → Buf (Elt Ideal) ((c.tc : Thread Cert.KvIdeal.nD Cert.KvIdeal.τ).loc Cert.KvIdeal.main_v21_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v21_0) = v0 c
          ∧ r.2.mem ((c.tc : Thread Cert.KvIdeal.nD Cert.KvIdeal.τ).loc Cert.KvIdeal.main_v21_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v69) = v0 c
          ∧ r.2.mem ((c.tc : Thread Cert.KvRefIdeal.nD Cert.KvRefIdeal.τ).loc Cert.KvRefIdeal.main_v70) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v15) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_RawSample_RawSampleIdeal : Prop :=
  True

def algebraic_RawSampleIdeal_RawSampleRefIdeal [hRawSampleIdeal : Cert.RawSampleIdeal.Facts] [hRawSampleRefIdeal : Cert.RawSampleRefIdeal.Facts] : Prop :=
  ∀ (m : (ℓ : Loc Cert.RawSampleIdeal.nD Cert.RawSampleIdeal.τ Cert.RawSampleIdeal.sig) → Buf (Elt Ideal) ℓ) (g : Dev Cert.RawSampleIdeal.nD → PrngReg)
    (m' : (ℓ : Loc Cert.RawSampleRefIdeal.nD Cert.RawSampleRefIdeal.τ Cert.RawSampleRefIdeal.sig) → Buf (Elt Ideal) ℓ) (g' : Dev Cert.RawSampleRefIdeal.nD → PrngReg), Pre_RawSampleIdeal m →
    (∀ c : Dev Cert.RawSampleIdeal.nD,
      m' ((c.tc : Thread Cert.RawSampleRefIdeal.nD Cert.RawSampleRefIdeal.τ).loc Cert.RawSampleRefIdeal.main_arg0) = m ((c.tc : Thread Cert.RawSampleIdeal.nD Cert.RawSampleIdeal.τ).loc Cert.RawSampleIdeal.main_arg0)
      ∧ m' ((c.tc : Thread Cert.RawSampleRefIdeal.nD Cert.RawSampleRefIdeal.τ).loc Cert.RawSampleRefIdeal.main_arg1) = m ((c.tc : Thread Cert.RawSampleIdeal.nD Cert.RawSampleIdeal.τ).loc Cert.RawSampleIdeal.main_arg1)
      ∧ m' ((c.tc : Thread Cert.RawSampleRefIdeal.nD Cert.RawSampleRefIdeal.τ).loc Cert.RawSampleRefIdeal.main_arg2) = m ((c.tc : Thread Cert.RawSampleIdeal.nD Cert.RawSampleIdeal.τ).loc Cert.RawSampleIdeal.main_arg2)) →
    ∃ (v0 : (c : Dev Cert.RawSampleIdeal.nD) → Buf (Elt Ideal) ((c.tc : Thread Cert.RawSampleIdeal.nD Cert.RawSampleIdeal.τ).loc Cert.RawSampleIdeal.main_v2)),
      θ_run (Cert.RawSampleIdeal.defs (F := Ideal)) (onTc (τ := Cert.RawSampleIdeal.τ) (Cert.RawSampleIdeal.main (F := Ideal))) ⟨m, fun _ => 0, g⟩ (fun r => ∀ c : Dev Cert.RawSampleIdeal.nD,
          r.2.mem ((c.tc : Thread Cert.RawSampleIdeal.nD Cert.RawSampleIdeal.τ).loc Cert.RawSampleIdeal.main_v2) = v0 c
          ∧ r.2.mem ((c.tc : Thread Cert.RawSampleIdeal.nD Cert.RawSampleIdeal.τ).loc Cert.RawSampleIdeal.main_arg0) = m ((c.tc : Thread Cert.RawSampleIdeal.nD Cert.RawSampleIdeal.τ).loc Cert.RawSampleIdeal.main_arg0)
          ∧ r.2.mem ((c.tc : Thread Cert.RawSampleIdeal.nD Cert.RawSampleIdeal.τ).loc Cert.RawSampleIdeal.main_arg1) = m ((c.tc : Thread Cert.RawSampleIdeal.nD Cert.RawSampleIdeal.τ).loc Cert.RawSampleIdeal.main_arg1)
          ∧ r.2.mem ((c.tc : Thread Cert.RawSampleIdeal.nD Cert.RawSampleIdeal.τ).loc Cert.RawSampleIdeal.main_arg2) = m ((c.tc : Thread Cert.RawSampleIdeal.nD Cert.RawSampleIdeal.τ).loc Cert.RawSampleIdeal.main_arg2))
      ∧ θ_run (Cert.RawSampleRefIdeal.defs (F := Ideal)) (onTc (τ := Cert.RawSampleRefIdeal.τ) (Cert.RawSampleRefIdeal.main (F := Ideal))) ⟨m', fun _ => 0, g'⟩ (fun r => ∀ c : Dev Cert.RawSampleRefIdeal.nD,
          r.2.mem ((c.tc : Thread Cert.RawSampleRefIdeal.nD Cert.RawSampleRefIdeal.τ).loc Cert.RawSampleRefIdeal.main_v13) = v0 c
          ∧ r.2.mem ((c.tc : Thread Cert.RawSampleRefIdeal.nD Cert.RawSampleRefIdeal.τ).loc Cert.RawSampleRefIdeal.main_arg0) = m' ((c.tc : Thread Cert.RawSampleRefIdeal.nD Cert.RawSampleRefIdeal.τ).loc Cert.RawSampleRefIdeal.main_arg0)
          ∧ r.2.mem ((c.tc : Thread Cert.RawSampleRefIdeal.nD Cert.RawSampleRefIdeal.τ).loc Cert.RawSampleRefIdeal.main_arg1) = m' ((c.tc : Thread Cert.RawSampleRefIdeal.nD Cert.RawSampleRefIdeal.τ).loc Cert.RawSampleRefIdeal.main_arg1)
          ∧ r.2.mem ((c.tc : Thread Cert.RawSampleRefIdeal.nD Cert.RawSampleRefIdeal.τ).loc Cert.RawSampleRefIdeal.main_arg2) = m' ((c.tc : Thread Cert.RawSampleRefIdeal.nD Cert.RawSampleRefIdeal.τ).loc Cert.RawSampleRefIdeal.main_arg2))

def preserves_KvSample_KvSampleIdeal : Prop :=
  True

def algebraic_KvSampleIdeal_KvSampleRefIdeal [hKvSampleIdeal : Cert.KvSampleIdeal.Facts] [hKvSampleRefIdeal : Cert.KvSampleRefIdeal.Facts] : Prop :=
  ∀ (m : (ℓ : Loc Cert.KvSampleIdeal.nD Cert.KvSampleIdeal.τ Cert.KvSampleIdeal.sig) → Buf (Elt Ideal) ℓ) (g : Dev Cert.KvSampleIdeal.nD → PrngReg)
    (m' : (ℓ : Loc Cert.KvSampleRefIdeal.nD Cert.KvSampleRefIdeal.τ Cert.KvSampleRefIdeal.sig) → Buf (Elt Ideal) ℓ) (g' : Dev Cert.KvSampleRefIdeal.nD → PrngReg), Pre_KvSampleIdeal m →
    (∀ c : Dev Cert.KvSampleIdeal.nD,
      m' ((c.tc : Thread Cert.KvSampleRefIdeal.nD Cert.KvSampleRefIdeal.τ).loc Cert.KvSampleRefIdeal.main_arg0) = m ((c.tc : Thread Cert.KvSampleIdeal.nD Cert.KvSampleIdeal.τ).loc Cert.KvSampleIdeal.main_arg0)
      ∧ m' ((c.tc : Thread Cert.KvSampleRefIdeal.nD Cert.KvSampleRefIdeal.τ).loc Cert.KvSampleRefIdeal.main_arg1) = m ((c.tc : Thread Cert.KvSampleIdeal.nD Cert.KvSampleIdeal.τ).loc Cert.KvSampleIdeal.main_arg1)
      ∧ m' ((c.tc : Thread Cert.KvSampleRefIdeal.nD Cert.KvSampleRefIdeal.τ).loc Cert.KvSampleRefIdeal.main_arg2) = m ((c.tc : Thread Cert.KvSampleIdeal.nD Cert.KvSampleIdeal.τ).loc Cert.KvSampleIdeal.main_arg2)
      ∧ m' ((c.tc : Thread Cert.KvSampleRefIdeal.nD Cert.KvSampleRefIdeal.τ).loc Cert.KvSampleRefIdeal.main_arg3) = m ((c.tc : Thread Cert.KvSampleIdeal.nD Cert.KvSampleIdeal.τ).loc Cert.KvSampleIdeal.main_arg3)) →
    ∃ (v0 : (c : Dev Cert.KvSampleIdeal.nD) → Buf (Elt Ideal) ((c.tc : Thread Cert.KvSampleIdeal.nD Cert.KvSampleIdeal.τ).loc Cert.KvSampleIdeal.main_v21_0)) (v1 : (c : Dev Cert.KvSampleIdeal.nD) → Buf (Elt Ideal) ((c.tc : Thread Cert.KvSampleIdeal.nD Cert.KvSampleIdeal.τ).loc Cert.KvSampleIdeal.main_v21_1)),
      θ_run (Cert.KvSampleIdeal.defs (F := Ideal)) (onTc (τ := Cert.KvSampleIdeal.τ) (Cert.KvSampleIdeal.main (F := Ideal))) ⟨m, fun _ => 0, g⟩ (fun r => ∀ c : Dev Cert.KvSampleIdeal.nD,
          r.2.mem ((c.tc : Thread Cert.KvSampleIdeal.nD Cert.KvSampleIdeal.τ).loc Cert.KvSampleIdeal.main_v21_0) = v0 c
          ∧ r.2.mem ((c.tc : Thread Cert.KvSampleIdeal.nD Cert.KvSampleIdeal.τ).loc Cert.KvSampleIdeal.main_v21_1) = v1 c
          ∧ r.2.mem ((c.tc : Thread Cert.KvSampleIdeal.nD Cert.KvSampleIdeal.τ).loc Cert.KvSampleIdeal.main_arg0) = m ((c.tc : Thread Cert.KvSampleIdeal.nD Cert.KvSampleIdeal.τ).loc Cert.KvSampleIdeal.main_arg0)
          ∧ r.2.mem ((c.tc : Thread Cert.KvSampleIdeal.nD Cert.KvSampleIdeal.τ).loc Cert.KvSampleIdeal.main_arg1) = m ((c.tc : Thread Cert.KvSampleIdeal.nD Cert.KvSampleIdeal.τ).loc Cert.KvSampleIdeal.main_arg1)
          ∧ r.2.mem ((c.tc : Thread Cert.KvSampleIdeal.nD Cert.KvSampleIdeal.τ).loc Cert.KvSampleIdeal.main_arg2) = m ((c.tc : Thread Cert.KvSampleIdeal.nD Cert.KvSampleIdeal.τ).loc Cert.KvSampleIdeal.main_arg2)
          ∧ r.2.mem ((c.tc : Thread Cert.KvSampleIdeal.nD Cert.KvSampleIdeal.τ).loc Cert.KvSampleIdeal.main_arg3) = m ((c.tc : Thread Cert.KvSampleIdeal.nD Cert.KvSampleIdeal.τ).loc Cert.KvSampleIdeal.main_arg3))
      ∧ θ_run (Cert.KvSampleRefIdeal.defs (F := Ideal)) (onTc (τ := Cert.KvSampleRefIdeal.τ) (Cert.KvSampleRefIdeal.main (F := Ideal))) ⟨m', fun _ => 0, g'⟩ (fun r => ∀ c : Dev Cert.KvSampleRefIdeal.nD,
          r.2.mem ((c.tc : Thread Cert.KvSampleRefIdeal.nD Cert.KvSampleRefIdeal.τ).loc Cert.KvSampleRefIdeal.main_v70) = v0 c
          ∧ r.2.mem ((c.tc : Thread Cert.KvSampleRefIdeal.nD Cert.KvSampleRefIdeal.τ).loc Cert.KvSampleRefIdeal.main_v71) = v1 c
          ∧ r.2.mem ((c.tc : Thread Cert.KvSampleRefIdeal.nD Cert.KvSampleRefIdeal.τ).loc Cert.KvSampleRefIdeal.main_arg0) = m' ((c.tc : Thread Cert.KvSampleRefIdeal.nD Cert.KvSampleRefIdeal.τ).loc Cert.KvSampleRefIdeal.main_arg0)
          ∧ r.2.mem ((c.tc : Thread Cert.KvSampleRefIdeal.nD Cert.KvSampleRefIdeal.τ).loc Cert.KvSampleRefIdeal.main_arg1) = m' ((c.tc : Thread Cert.KvSampleRefIdeal.nD Cert.KvSampleRefIdeal.τ).loc Cert.KvSampleRefIdeal.main_arg1)
          ∧ r.2.mem ((c.tc : Thread Cert.KvSampleRefIdeal.nD Cert.KvSampleRefIdeal.τ).loc Cert.KvSampleRefIdeal.main_arg2) = m' ((c.tc : Thread Cert.KvSampleRefIdeal.nD Cert.KvSampleRefIdeal.τ).loc Cert.KvSampleRefIdeal.main_arg2)
          ∧ r.2.mem ((c.tc : Thread Cert.KvSampleRefIdeal.nD Cert.KvSampleRefIdeal.τ).loc Cert.KvSampleRefIdeal.main_arg3) = m' ((c.tc : Thread Cert.KvSampleRefIdeal.nD Cert.KvSampleRefIdeal.τ).loc Cert.KvSampleRefIdeal.main_arg3))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)) →
    ∃ (v0 : (c : Dev Cert.FfnSampleIdeal.nD) → Buf (Elt Ideal) ((c.tc : Thread Cert.FfnSampleIdeal.nD Cert.FfnSampleIdeal.τ).loc Cert.FfnSampleIdeal.main_v6_0)) (v1 : (c : Dev Cert.FfnSampleIdeal.nD) → Buf (Elt Ideal) ((c.tc : Thread Cert.FfnSampleIdeal.nD Cert.FfnSampleIdeal.τ).loc Cert.FfnSampleIdeal.main_v9)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v6_0) = v0 c
          ∧ r.2.mem ((c.tc : Thread Cert.FfnSampleIdeal.nD Cert.FfnSampleIdeal.τ).loc Cert.FfnSampleIdeal.main_v9) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v51) = v0 c
          ∧ r.2.mem ((c.tc : Thread Cert.FfnSampleRefIdeal.nD Cert.FfnSampleRefIdeal.τ).loc Cert.FfnSampleRefIdeal.main_v52) = v1 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6))

def preserves_PleSample_PleSampleIdeal : Prop :=
  True

def algebraic_PleSampleIdeal_PleSampleRefIdeal [hPleSampleIdeal : Cert.PleSampleIdeal.Facts] [hPleSampleRefIdeal : Cert.PleSampleRefIdeal.Facts] : Prop :=
  ∀ (m : (ℓ : Loc Cert.PleSampleIdeal.nD Cert.PleSampleIdeal.τ Cert.PleSampleIdeal.sig) → Buf (Elt Ideal) ℓ) (g : Dev Cert.PleSampleIdeal.nD → PrngReg)
    (m' : (ℓ : Loc Cert.PleSampleRefIdeal.nD Cert.PleSampleRefIdeal.τ Cert.PleSampleRefIdeal.sig) → Buf (Elt Ideal) ℓ) (g' : Dev Cert.PleSampleRefIdeal.nD → PrngReg), Pre_PleSampleIdeal m →
    (∀ c : Dev Cert.PleSampleIdeal.nD,
      m' ((c.tc : Thread Cert.PleSampleRefIdeal.nD Cert.PleSampleRefIdeal.τ).loc Cert.PleSampleRefIdeal.main_arg0) = m ((c.tc : Thread Cert.PleSampleIdeal.nD Cert.PleSampleIdeal.τ).loc Cert.PleSampleIdeal.main_arg0)
      ∧ m' ((c.tc : Thread Cert.PleSampleRefIdeal.nD Cert.PleSampleRefIdeal.τ).loc Cert.PleSampleRefIdeal.main_arg1) = m ((c.tc : Thread Cert.PleSampleIdeal.nD Cert.PleSampleIdeal.τ).loc Cert.PleSampleIdeal.main_arg1)
      ∧ m' ((c.tc : Thread Cert.PleSampleRefIdeal.nD Cert.PleSampleRefIdeal.τ).loc Cert.PleSampleRefIdeal.main_arg2) = m ((c.tc : Thread Cert.PleSampleIdeal.nD Cert.PleSampleIdeal.τ).loc Cert.PleSampleIdeal.main_arg2)
      ∧ m' ((c.tc : Thread Cert.PleSampleRefIdeal.nD Cert.PleSampleRefIdeal.τ).loc Cert.PleSampleRefIdeal.main_arg3) = m ((c.tc : Thread Cert.PleSampleIdeal.nD Cert.PleSampleIdeal.τ).loc Cert.PleSampleIdeal.main_arg3)
      ∧ m' ((c.tc : Thread Cert.PleSampleRefIdeal.nD Cert.PleSampleRefIdeal.τ).loc Cert.PleSampleRefIdeal.main_arg4) = m ((c.tc : Thread Cert.PleSampleIdeal.nD Cert.PleSampleIdeal.τ).loc Cert.PleSampleIdeal.main_arg4)) →
    ∃ (v0 : (c : Dev Cert.PleSampleIdeal.nD) → Buf (Elt Ideal) ((c.tc : Thread Cert.PleSampleIdeal.nD Cert.PleSampleIdeal.τ).loc Cert.PleSampleIdeal.main_v3)),
      θ_run (Cert.PleSampleIdeal.defs (F := Ideal)) (onTc (τ := Cert.PleSampleIdeal.τ) (Cert.PleSampleIdeal.main (F := Ideal))) ⟨m, fun _ => 0, g⟩ (fun r => ∀ c : Dev Cert.PleSampleIdeal.nD,
          r.2.mem ((c.tc : Thread Cert.PleSampleIdeal.nD Cert.PleSampleIdeal.τ).loc Cert.PleSampleIdeal.main_v3) = v0 c
          ∧ r.2.mem ((c.tc : Thread Cert.PleSampleIdeal.nD Cert.PleSampleIdeal.τ).loc Cert.PleSampleIdeal.main_arg0) = m ((c.tc : Thread Cert.PleSampleIdeal.nD Cert.PleSampleIdeal.τ).loc Cert.PleSampleIdeal.main_arg0)
          ∧ r.2.mem ((c.tc : Thread Cert.PleSampleIdeal.nD Cert.PleSampleIdeal.τ).loc Cert.PleSampleIdeal.main_arg1) = m ((c.tc : Thread Cert.PleSampleIdeal.nD Cert.PleSampleIdeal.τ).loc Cert.PleSampleIdeal.main_arg1)
          ∧ r.2.mem ((c.tc : Thread Cert.PleSampleIdeal.nD Cert.PleSampleIdeal.τ).loc Cert.PleSampleIdeal.main_arg2) = m ((c.tc : Thread Cert.PleSampleIdeal.nD Cert.PleSampleIdeal.τ).loc Cert.PleSampleIdeal.main_arg2)
          ∧ r.2.mem ((c.tc : Thread Cert.PleSampleIdeal.nD Cert.PleSampleIdeal.τ).loc Cert.PleSampleIdeal.main_arg3) = m ((c.tc : Thread Cert.PleSampleIdeal.nD Cert.PleSampleIdeal.τ).loc Cert.PleSampleIdeal.main_arg3)
          ∧ r.2.mem ((c.tc : Thread Cert.PleSampleIdeal.nD Cert.PleSampleIdeal.τ).loc Cert.PleSampleIdeal.main_arg4) = m ((c.tc : Thread Cert.PleSampleIdeal.nD Cert.PleSampleIdeal.τ).loc Cert.PleSampleIdeal.main_arg4))
      ∧ θ_run (Cert.PleSampleRefIdeal.defs (F := Ideal)) (onTc (τ := Cert.PleSampleRefIdeal.τ) (Cert.PleSampleRefIdeal.main (F := Ideal))) ⟨m', fun _ => 0, g'⟩ (fun r => ∀ c : Dev Cert.PleSampleRefIdeal.nD,
          r.2.mem ((c.tc : Thread Cert.PleSampleRefIdeal.nD Cert.PleSampleRefIdeal.τ).loc Cert.PleSampleRefIdeal.main_v22) = v0 c
          ∧ r.2.mem ((c.tc : Thread Cert.PleSampleRefIdeal.nD Cert.PleSampleRefIdeal.τ).loc Cert.PleSampleRefIdeal.main_arg0) = m' ((c.tc : Thread Cert.PleSampleRefIdeal.nD Cert.PleSampleRefIdeal.τ).loc Cert.PleSampleRefIdeal.main_arg0)
          ∧ r.2.mem ((c.tc : Thread Cert.PleSampleRefIdeal.nD Cert.PleSampleRefIdeal.τ).loc Cert.PleSampleRefIdeal.main_arg1) = m' ((c.tc : Thread Cert.PleSampleRefIdeal.nD Cert.PleSampleRefIdeal.τ).loc Cert.PleSampleRefIdeal.main_arg1)
          ∧ r.2.mem ((c.tc : Thread Cert.PleSampleRefIdeal.nD Cert.PleSampleRefIdeal.τ).loc Cert.PleSampleRefIdeal.main_arg2) = m' ((c.tc : Thread Cert.PleSampleRefIdeal.nD Cert.PleSampleRefIdeal.τ).loc Cert.PleSampleRefIdeal.main_arg2)
          ∧ r.2.mem ((c.tc : Thread Cert.PleSampleRefIdeal.nD Cert.PleSampleRefIdeal.τ).loc Cert.PleSampleRefIdeal.main_arg3) = m' ((c.tc : Thread Cert.PleSampleRefIdeal.nD Cert.PleSampleRefIdeal.τ).loc Cert.PleSampleRefIdeal.main_arg3)
          ∧ r.2.mem ((c.tc : Thread Cert.PleSampleRefIdeal.nD Cert.PleSampleRefIdeal.τ).loc Cert.PleSampleRefIdeal.main_arg4) = m' ((c.tc : Thread Cert.PleSampleRefIdeal.nD Cert.PleSampleRefIdeal.τ).loc Cert.PleSampleRefIdeal.main_arg4))

def preserves_WinSample_WinSampleIdeal : Prop :=
  True

def algebraic_WinSampleIdeal_WinSampleRefIdeal [hWinSampleIdeal : Cert.WinSampleIdeal.Facts] [hWinSampleRefIdeal : Cert.WinSampleRefIdeal.Facts] : Prop :=
  ∀ (m : (ℓ : Loc Cert.WinSampleIdeal.nD Cert.WinSampleIdeal.τ Cert.WinSampleIdeal.sig) → Buf (Elt Ideal) ℓ) (g : Dev Cert.WinSampleIdeal.nD → PrngReg)
    (m' : (ℓ : Loc Cert.WinSampleRefIdeal.nD Cert.WinSampleRefIdeal.τ Cert.WinSampleRefIdeal.sig) → Buf (Elt Ideal) ℓ) (g' : Dev Cert.WinSampleRefIdeal.nD → PrngReg), Pre_WinSampleIdeal m →
    (∀ c : Dev Cert.WinSampleIdeal.nD,
      m' ((c.tc : Thread Cert.WinSampleRefIdeal.nD Cert.WinSampleRefIdeal.τ).loc Cert.WinSampleRefIdeal.main_arg0) = m ((c.tc : Thread Cert.WinSampleIdeal.nD Cert.WinSampleIdeal.τ).loc Cert.WinSampleIdeal.main_arg0)
      ∧ m' ((c.tc : Thread Cert.WinSampleRefIdeal.nD Cert.WinSampleRefIdeal.τ).loc Cert.WinSampleRefIdeal.main_arg1) = m ((c.tc : Thread Cert.WinSampleIdeal.nD Cert.WinSampleIdeal.τ).loc Cert.WinSampleIdeal.main_arg1)
      ∧ m' ((c.tc : Thread Cert.WinSampleRefIdeal.nD Cert.WinSampleRefIdeal.τ).loc Cert.WinSampleRefIdeal.main_arg2) = m ((c.tc : Thread Cert.WinSampleIdeal.nD Cert.WinSampleIdeal.τ).loc Cert.WinSampleIdeal.main_arg2)
      ∧ m' ((c.tc : Thread Cert.WinSampleRefIdeal.nD Cert.WinSampleRefIdeal.τ).loc Cert.WinSampleRefIdeal.main_arg3) = m ((c.tc : Thread Cert.WinSampleIdeal.nD Cert.WinSampleIdeal.τ).loc Cert.WinSampleIdeal.main_arg3)
      ∧ m' ((c.tc : Thread Cert.WinSampleRefIdeal.nD Cert.WinSampleRefIdeal.τ).loc Cert.WinSampleRefIdeal.main_arg4) = m ((c.tc : Thread Cert.WinSampleIdeal.nD Cert.WinSampleIdeal.τ).loc Cert.WinSampleIdeal.main_arg4)
      ∧ m' ((c.tc : Thread Cert.WinSampleRefIdeal.nD Cert.WinSampleRefIdeal.τ).loc Cert.WinSampleRefIdeal.main_arg5) = m ((c.tc : Thread Cert.WinSampleIdeal.nD Cert.WinSampleIdeal.τ).loc Cert.WinSampleIdeal.main_arg5)) →
    ∃ (v0 : (c : Dev Cert.WinSampleIdeal.nD) → Buf (Elt Ideal) ((c.tc : Thread Cert.WinSampleIdeal.nD Cert.WinSampleIdeal.τ).loc Cert.WinSampleIdeal.main_v0_1)),
      θ_run (Cert.WinSampleIdeal.defs (F := Ideal)) (onTc (τ := Cert.WinSampleIdeal.τ) (Cert.WinSampleIdeal.main (F := Ideal))) ⟨m, fun _ => 0, g⟩ (fun r => ∀ c : Dev Cert.WinSampleIdeal.nD,
          r.2.mem ((c.tc : Thread Cert.WinSampleIdeal.nD Cert.WinSampleIdeal.τ).loc Cert.WinSampleIdeal.main_v0_1) = v0 c
          ∧ r.2.mem ((c.tc : Thread Cert.WinSampleIdeal.nD Cert.WinSampleIdeal.τ).loc Cert.WinSampleIdeal.main_arg0) = m ((c.tc : Thread Cert.WinSampleIdeal.nD Cert.WinSampleIdeal.τ).loc Cert.WinSampleIdeal.main_arg0)
          ∧ r.2.mem ((c.tc : Thread Cert.WinSampleIdeal.nD Cert.WinSampleIdeal.τ).loc Cert.WinSampleIdeal.main_arg1) = m ((c.tc : Thread Cert.WinSampleIdeal.nD Cert.WinSampleIdeal.τ).loc Cert.WinSampleIdeal.main_arg1)
          ∧ r.2.mem ((c.tc : Thread Cert.WinSampleIdeal.nD Cert.WinSampleIdeal.τ).loc Cert.WinSampleIdeal.main_arg2) = m ((c.tc : Thread Cert.WinSampleIdeal.nD Cert.WinSampleIdeal.τ).loc Cert.WinSampleIdeal.main_arg2)
          ∧ r.2.mem ((c.tc : Thread Cert.WinSampleIdeal.nD Cert.WinSampleIdeal.τ).loc Cert.WinSampleIdeal.main_arg3) = m ((c.tc : Thread Cert.WinSampleIdeal.nD Cert.WinSampleIdeal.τ).loc Cert.WinSampleIdeal.main_arg3)
          ∧ r.2.mem ((c.tc : Thread Cert.WinSampleIdeal.nD Cert.WinSampleIdeal.τ).loc Cert.WinSampleIdeal.main_arg4) = m ((c.tc : Thread Cert.WinSampleIdeal.nD Cert.WinSampleIdeal.τ).loc Cert.WinSampleIdeal.main_arg4)
          ∧ r.2.mem ((c.tc : Thread Cert.WinSampleIdeal.nD Cert.WinSampleIdeal.τ).loc Cert.WinSampleIdeal.main_arg5) = m ((c.tc : Thread Cert.WinSampleIdeal.nD Cert.WinSampleIdeal.τ).loc Cert.WinSampleIdeal.main_arg5))
      ∧ θ_run (Cert.WinSampleRefIdeal.defs (F := Ideal)) (onTc (τ := Cert.WinSampleRefIdeal.τ) (Cert.WinSampleRefIdeal.main (F := Ideal))) ⟨m', fun _ => 0, g'⟩ (fun r => ∀ c : Dev Cert.WinSampleRefIdeal.nD,
          r.2.mem ((c.tc : Thread Cert.WinSampleRefIdeal.nD Cert.WinSampleRefIdeal.τ).loc Cert.WinSampleRefIdeal.main_v1) = v0 c
          ∧ r.2.mem ((c.tc : Thread Cert.WinSampleRefIdeal.nD Cert.WinSampleRefIdeal.τ).loc Cert.WinSampleRefIdeal.main_arg0) = m' ((c.tc : Thread Cert.WinSampleRefIdeal.nD Cert.WinSampleRefIdeal.τ).loc Cert.WinSampleRefIdeal.main_arg0)
          ∧ r.2.mem ((c.tc : Thread Cert.WinSampleRefIdeal.nD Cert.WinSampleRefIdeal.τ).loc Cert.WinSampleRefIdeal.main_arg1) = m' ((c.tc : Thread Cert.WinSampleRefIdeal.nD Cert.WinSampleRefIdeal.τ).loc Cert.WinSampleRefIdeal.main_arg1)
          ∧ r.2.mem ((c.tc : Thread Cert.WinSampleRefIdeal.nD Cert.WinSampleRefIdeal.τ).loc Cert.WinSampleRefIdeal.main_arg2) = m' ((c.tc : Thread Cert.WinSampleRefIdeal.nD Cert.WinSampleRefIdeal.τ).loc Cert.WinSampleRefIdeal.main_arg2)
          ∧ r.2.mem ((c.tc : Thread Cert.WinSampleRefIdeal.nD Cert.WinSampleRefIdeal.τ).loc Cert.WinSampleRefIdeal.main_arg3) = m' ((c.tc : Thread Cert.WinSampleRefIdeal.nD Cert.WinSampleRefIdeal.τ).loc Cert.WinSampleRefIdeal.main_arg3)
          ∧ r.2.mem ((c.tc : Thread Cert.WinSampleRefIdeal.nD Cert.WinSampleRefIdeal.τ).loc Cert.WinSampleRefIdeal.main_arg4) = m' ((c.tc : Thread Cert.WinSampleRefIdeal.nD Cert.WinSampleRefIdeal.τ).loc Cert.WinSampleRefIdeal.main_arg4)
          ∧ r.2.mem ((c.tc : Thread Cert.WinSampleRefIdeal.nD Cert.WinSampleRefIdeal.τ).loc Cert.WinSampleRefIdeal.main_arg5) = m' ((c.tc : Thread Cert.WinSampleRefIdeal.nD Cert.WinSampleRefIdeal.τ).loc Cert.WinSampleRefIdeal.main_arg5))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v21_0)) (v1 : (c : Dev Cert.QueryIdeal.nD) → Buf (Elt Ideal) ((c.tc : Thread Cert.QueryIdeal.nD Cert.QueryIdeal.τ).loc Cert.QueryIdeal.main_v21_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v21_0) = v0 c
          ∧ r.2.mem ((c.tc : Thread Cert.QueryIdeal.nD Cert.QueryIdeal.τ).loc Cert.QueryIdeal.main_v21_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v63) = v0 c
          ∧ r.2.mem ((c.tc : Thread Cert.QueryRefIdeal.nD Cert.QueryRefIdeal.τ).loc Cert.QueryRefIdeal.main_v65) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v5_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v13) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)
      ∧ m' ((c.tc : Thread Cert.ConvSampleRefIdeal.nD Cert.ConvSampleRefIdeal.τ).loc Cert.ConvSampleRefIdeal.main_arg4) = m ((c.tc : Thread Cert.ConvSampleIdeal.nD Cert.ConvSampleIdeal.τ).loc Cert.ConvSampleIdeal.main_arg4)
      ∧ m' ((c.tc : Thread Cert.ConvSampleRefIdeal.nD Cert.ConvSampleRefIdeal.τ).loc Cert.ConvSampleRefIdeal.main_arg5) = m ((c.tc : Thread Cert.ConvSampleIdeal.nD Cert.ConvSampleIdeal.τ).loc Cert.ConvSampleIdeal.main_arg5)
      ∧ m' ((c.tc : Thread Cert.ConvSampleRefIdeal.nD Cert.ConvSampleRefIdeal.τ).loc Cert.ConvSampleRefIdeal.main_arg6) = m ((c.tc : Thread Cert.ConvSampleIdeal.nD Cert.ConvSampleIdeal.τ).loc Cert.ConvSampleIdeal.main_arg6)) →
    ∃ (v0 : (c : Dev Cert.ConvSampleIdeal.nD) → Buf (Elt Ideal) ((c.tc : Thread Cert.ConvSampleIdeal.nD Cert.ConvSampleIdeal.τ).loc Cert.ConvSampleIdeal.main_v5_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v5_1) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5)
          ∧ r.2.mem ((c.tc : Thread Cert.ConvSampleIdeal.nD Cert.ConvSampleIdeal.τ).loc Cert.ConvSampleIdeal.main_arg6) = m ((c.tc : Thread Cert.ConvSampleIdeal.nD Cert.ConvSampleIdeal.τ).loc Cert.ConvSampleIdeal.main_arg6))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v11) = v0 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3)
          ∧ r.2.mem ((c.tc : Thread Cert.ConvSampleRefIdeal.nD Cert.ConvSampleRefIdeal.τ).loc Cert.ConvSampleRefIdeal.main_arg4) = m' ((c.tc : Thread Cert.ConvSampleRefIdeal.nD Cert.ConvSampleRefIdeal.τ).loc Cert.ConvSampleRefIdeal.main_arg4)
          ∧ r.2.mem ((c.tc : Thread Cert.ConvSampleRefIdeal.nD Cert.ConvSampleRefIdeal.τ).loc Cert.ConvSampleRefIdeal.main_arg5) = m' ((c.tc : Thread Cert.ConvSampleRefIdeal.nD Cert.ConvSampleRefIdeal.τ).loc Cert.ConvSampleRefIdeal.main_arg5)
          ∧ r.2.mem ((c.tc : Thread Cert.ConvSampleRefIdeal.nD Cert.ConvSampleRefIdeal.τ).loc Cert.ConvSampleRefIdeal.main_arg6) = m' ((c.tc : Thread Cert.ConvSampleRefIdeal.nD Cert.ConvSampleRefIdeal.τ).loc Cert.ConvSampleRefIdeal.main_arg6))

def Claim : Prop :=
  ∃ (hCmpAttn : Cert.CmpAttn.Facts) (hCmpAttnIdeal : Cert.CmpAttnIdeal.Facts) (hCmpAttnRefIdeal : Cert.CmpAttnRefIdeal.Facts) (hFfn : Cert.Ffn.Facts) (hFfnIdeal : Cert.FfnIdeal.Facts) (hFfnRefIdeal : Cert.FfnRefIdeal.Facts) (hRaw : Cert.Raw.Facts) (hRawIdeal : Cert.RawIdeal.Facts) (hRawRefIdeal : Cert.RawRefIdeal.Facts) (hPle : Cert.Ple.Facts) (hPleIdeal : Cert.PleIdeal.Facts) (hPleRefIdeal : Cert.PleRefIdeal.Facts) (hRawCmp : Cert.RawCmp.Facts) (hRawCmpIdeal : Cert.RawCmpIdeal.Facts) (hRawCmpRefIdeal : Cert.RawCmpRefIdeal.Facts) (hKv : Cert.Kv.Facts) (hKvIdeal : Cert.KvIdeal.Facts) (hKvRefIdeal : Cert.KvRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hRawSample : Cert.RawSample.Facts) (hRawSampleIdeal : Cert.RawSampleIdeal.Facts) (hRawSampleRefIdeal : Cert.RawSampleRefIdeal.Facts) (hKvSample : Cert.KvSample.Facts) (hKvSampleIdeal : Cert.KvSampleIdeal.Facts) (hKvSampleRefIdeal : Cert.KvSampleRefIdeal.Facts) (hFfnSample : Cert.FfnSample.Facts) (hFfnSampleIdeal : Cert.FfnSampleIdeal.Facts) (hFfnSampleRefIdeal : Cert.FfnSampleRefIdeal.Facts) (hPleSample : Cert.PleSample.Facts) (hPleSampleIdeal : Cert.PleSampleIdeal.Facts) (hPleSampleRefIdeal : Cert.PleSampleRefIdeal.Facts) (hWinSample : Cert.WinSample.Facts) (hWinSampleIdeal : Cert.WinSampleIdeal.Facts) (hWinSampleRefIdeal : Cert.WinSampleRefIdeal.Facts) (hQuery : Cert.Query.Facts) (hQueryIdeal : Cert.QueryIdeal.Facts) (hQueryRefIdeal : Cert.QueryRefIdeal.Facts) (hConv : Cert.Conv.Facts) (hConvIdeal : Cert.ConvIdeal.Facts) (hConvRefIdeal : Cert.ConvRefIdeal.Facts) (hConvSample : Cert.ConvSample.Facts) (hConvSampleIdeal : Cert.ConvSampleIdeal.Facts) (hConvSampleRefIdeal : Cert.ConvSampleRefIdeal.Facts),
    quiescent_CmpAttn (hCmpAttn := hCmpAttn)
    ∧ quiescent_CmpAttnIdeal (hCmpAttnIdeal := hCmpAttnIdeal)
    ∧ quiescent_CmpAttnRefIdeal (hCmpAttnRefIdeal := hCmpAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Raw (hRaw := hRaw)
    ∧ quiescent_RawIdeal (hRawIdeal := hRawIdeal)
    ∧ quiescent_RawRefIdeal (hRawRefIdeal := hRawRefIdeal)
    ∧ quiescent_Ple (hPle := hPle)
    ∧ quiescent_PleIdeal (hPleIdeal := hPleIdeal)
    ∧ quiescent_PleRefIdeal (hPleRefIdeal := hPleRefIdeal)
    ∧ quiescent_RawCmp (hRawCmp := hRawCmp)
    ∧ quiescent_RawCmpIdeal (hRawCmpIdeal := hRawCmpIdeal)
    ∧ quiescent_RawCmpRefIdeal (hRawCmpRefIdeal := hRawCmpRefIdeal)
    ∧ quiescent_Kv (hKv := hKv)
    ∧ quiescent_KvIdeal (hKvIdeal := hKvIdeal)
    ∧ quiescent_KvRefIdeal (hKvRefIdeal := hKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_RawSample (hRawSample := hRawSample)
    ∧ quiescent_RawSampleIdeal (hRawSampleIdeal := hRawSampleIdeal)
    ∧ quiescent_RawSampleRefIdeal (hRawSampleRefIdeal := hRawSampleRefIdeal)
    ∧ quiescent_KvSample (hKvSample := hKvSample)
    ∧ quiescent_KvSampleIdeal (hKvSampleIdeal := hKvSampleIdeal)
    ∧ quiescent_KvSampleRefIdeal (hKvSampleRefIdeal := hKvSampleRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_PleSample (hPleSample := hPleSample)
    ∧ quiescent_PleSampleIdeal (hPleSampleIdeal := hPleSampleIdeal)
    ∧ quiescent_PleSampleRefIdeal (hPleSampleRefIdeal := hPleSampleRefIdeal)
    ∧ quiescent_WinSample (hWinSample := hWinSample)
    ∧ quiescent_WinSampleIdeal (hWinSampleIdeal := hWinSampleIdeal)
    ∧ quiescent_WinSampleRefIdeal (hWinSampleRefIdeal := hWinSampleRefIdeal)
    ∧ quiescent_Query (hQuery := hQuery)
    ∧ quiescent_QueryIdeal (hQueryIdeal := hQueryIdeal)
    ∧ quiescent_QueryRefIdeal (hQueryRefIdeal := hQueryRefIdeal)
    ∧ quiescent_Conv (hConv := hConv)
    ∧ quiescent_ConvIdeal (hConvIdeal := hConvIdeal)
    ∧ quiescent_ConvRefIdeal (hConvRefIdeal := hConvRefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ preserves_CmpAttn_CmpAttnIdeal
    ∧ algebraic_CmpAttnIdeal_CmpAttnRefIdeal (hCmpAttnIdeal := hCmpAttnIdeal) (hCmpAttnRefIdeal := hCmpAttnRefIdeal)
    ∧ preserves_Ffn_FfnIdeal
    ∧ algebraic_FfnIdeal_FfnRefIdeal (hFfnIdeal := hFfnIdeal) (hFfnRefIdeal := hFfnRefIdeal)
    ∧ preserves_Raw_RawIdeal
    ∧ algebraic_RawIdeal_RawRefIdeal (hRawIdeal := hRawIdeal) (hRawRefIdeal := hRawRefIdeal)
    ∧ preserves_Ple_PleIdeal
    ∧ algebraic_PleIdeal_PleRefIdeal (hPleIdeal := hPleIdeal) (hPleRefIdeal := hPleRefIdeal)
    ∧ preserves_RawCmp_RawCmpIdeal
    ∧ algebraic_RawCmpIdeal_RawCmpRefIdeal (hRawCmpIdeal := hRawCmpIdeal) (hRawCmpRefIdeal := hRawCmpRefIdeal)
    ∧ preserves_Kv_KvIdeal
    ∧ algebraic_KvIdeal_KvRefIdeal (hKvIdeal := hKvIdeal) (hKvRefIdeal := hKvRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_RawSample_RawSampleIdeal
    ∧ algebraic_RawSampleIdeal_RawSampleRefIdeal (hRawSampleIdeal := hRawSampleIdeal) (hRawSampleRefIdeal := hRawSampleRefIdeal)
    ∧ preserves_KvSample_KvSampleIdeal
    ∧ algebraic_KvSampleIdeal_KvSampleRefIdeal (hKvSampleIdeal := hKvSampleIdeal) (hKvSampleRefIdeal := hKvSampleRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_PleSample_PleSampleIdeal
    ∧ algebraic_PleSampleIdeal_PleSampleRefIdeal (hPleSampleIdeal := hPleSampleIdeal) (hPleSampleRefIdeal := hPleSampleRefIdeal)
    ∧ preserves_WinSample_WinSampleIdeal
    ∧ algebraic_WinSampleIdeal_WinSampleRefIdeal (hWinSampleIdeal := hWinSampleIdeal) (hWinSampleRefIdeal := hWinSampleRefIdeal)
    ∧ preserves_Query_QueryIdeal
    ∧ algebraic_QueryIdeal_QueryRefIdeal (hQueryIdeal := hQueryIdeal) (hQueryRefIdeal := hQueryRefIdeal)
    ∧ preserves_Conv_ConvIdeal
    ∧ algebraic_ConvIdeal_ConvRefIdeal (hConvIdeal := hConvIdeal) (hConvRefIdeal := hConvRefIdeal)
    ∧ preserves_ConvSample_ConvSampleIdeal
    ∧ algebraic_ConvSampleIdeal_ConvSampleRefIdeal (hConvSampleIdeal := hConvSampleIdeal) (hConvSampleRefIdeal := hConvSampleRefIdeal)
-- ==== CmpAttn.lean ====
abbrev S32x16x128 : Shape := ⟨3, ![32, 16, 128]⟩
abbrev S32x1024x512 : Shape := ⟨3, ![32, 1024, 512]⟩
abbrev S32x4x1024 : Shape := ⟨3, ![32, 4, 1024]⟩
abbrev S1x16x128 : Shape := ⟨3, ![1, 16, 128]⟩
abbrev S1x1024x512 : Shape := ⟨3, ![1, 1024, 512]⟩
abbrev S1x4x1024 : Shape := ⟨3, ![1, 4, 1024]⟩
abbrev S1x1024 : Shape := ⟨2, ![1, 1024]⟩
abbrev S1x4x128 : Shape := ⟨3, ![1, 4, 128]⟩
abbrev S4x128 : Shape := ⟨2, ![4, 128]⟩
abbrev S1x1024x128 : Shape := ⟨3, ![1, 1024, 128]⟩
abbrev S1024x128 : Shape := ⟨2, ![1024, 128]⟩
abbrev S4x1024 : Shape := ⟨2, ![4, 1024]⟩
abbrev S4 : Shape := ⟨1, ![4]⟩
abbrev S4x1 : Shape := ⟨2, ![4, 1]⟩
abbrev S1024 : Shape := ⟨1, ![1024]⟩
abbrev S1x1x1024 : Shape := ⟨3, ![1, 1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32x16x128, .f32⟩
  | .hbm, ⟨1, _⟩ => ⟨S32x1024x512, .f32⟩
  | .hbm, ⟨2, _⟩ => ⟨S32x1024x512, .f32⟩
  | .hbm, ⟨3, _⟩ => ⟨S32x16x128, .f32⟩
  | .hbm, ⟨4, _⟩ => ⟨S32x4x1024, .f32⟩
  | .local _ .vmem, ⟨0, _⟩ => ⟨S1x16x128, .f32⟩
  | .local _ .vmem, ⟨1, _⟩ => ⟨S1x16x128, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x16x128, .f32⟩
  | .local _ .vmem, ⟨7, _⟩ => ⟨S1x16x128, .f32⟩
  | .local _ .vmem, ⟨8, _⟩ => ⟨S1x4x1024, .f32⟩
  | .local _ .vmem, ⟨9, _⟩ => ⟨S1x4x1024, .f32⟩
  | _, _ => ⟨S32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CmpAttnRefIdeal.lean ====
abbrev S32x16x128 : Shape := ⟨3, ![32, 16, 128]⟩
abbrev S32x1024x512 : Shape := ⟨3, ![32, 1024, 512]⟩
abbrev S32x4x4x128 : Shape := ⟨4, ![32, 4, 4, 128]⟩
abbrev S32x1024x4x128 : Shape := ⟨4, ![32, 1024, 4, 128]⟩
abbrev S32x4x4x1024 : Shape := ⟨4, ![32, 4, 4, 1024]⟩
abbrev S_ : Shape := ⟨0, ![]⟩
abbrev S1024 : Shape := ⟨1, ![1024]⟩
abbrev S1x1x1x1024 : Shape := ⟨4, ![1, 1, 1, 1024]⟩
abbrev S32x4x4 : Shape := ⟨3, ![32, 4, 4]⟩
abbrev S32x4x4x1 : Shape := ⟨4, ![32, 4, 4, 1]⟩
abbrev S32x4x1024 : Shape := ⟨3, ![32, 4, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x16x128, .f32⟩
  | .hbm, ⟨1, _⟩ => ⟨S32x1024x512, .f32⟩
  | .hbm, ⟨2, _⟩ => ⟨S32x1024x512, .f32⟩
  | .hbm, ⟨3, _⟩ => ⟨S32x4x4x128, .f32⟩
  | .hbm, ⟨4, _⟩ => ⟨S32x1024x4x128, .f32⟩
  | .hbm, ⟨5, _⟩ => ⟨S32x1024x4x128, .f32⟩
  | .hbm, ⟨6, _⟩ => ⟨S32x4x4x1024, .f32⟩
  | .hbm, ⟨7, _⟩ => ⟨S_, .f32⟩
  | .hbm, ⟨8, _⟩ => ⟨S32x4x4x1024, .f32⟩
  | .hbm, ⟨9, _⟩ => ⟨S32x4x4x1024, .f32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S1x1x1x1024, .i1⟩
  | .hbm, ⟨21, _⟩ => ⟨S_, .f32⟩
  | .hbm, ⟨22, _⟩ => ⟨S_, .f32⟩
  | .hbm, ⟨23, _⟩ => ⟨S32x4x4x1024, .i1⟩
  | .hbm, ⟨24, _⟩ => ⟨S32x4x4x1024, .f32⟩
  | .hbm, ⟨25, _⟩ => ⟨S32x4x4x1024, .f32⟩
  | .hbm, ⟨26, _⟩ => ⟨S_, .f32⟩
  | .hbm, ⟨27, _⟩ => ⟨S32x4x4, .f32⟩
  | .hbm, ⟨28, _⟩ => ⟨S_, .f32⟩
  | .hbm, ⟨29, _⟩ => ⟨S32x4x4, .f32⟩
  | .hbm, ⟨30, _⟩ => ⟨S32x4x4, .f32⟩
  | .hbm, ⟨31, _⟩ => ⟨S32x4x4x1, .f32⟩
  | .hbm, ⟨32, _⟩ => ⟨S32x4x4x1024, .f32⟩
  | .hbm, ⟨33, _⟩ => ⟨S32x4x4x1024, .f32⟩
  | .hbm, ⟨34, _⟩ => ⟨S32x4x4x1024, .f32⟩
  | .hbm, ⟨35, _⟩ => ⟨S_, .f32⟩
  | .hbm, ⟨36, _⟩ => ⟨S32x4x4, .f32⟩
  | .hbm, ⟨37, _⟩ => ⟨S32x4x4x1, .f32⟩
  | .hbm, ⟨38, _⟩ => ⟨S32x4x4x1024, .f32⟩
  | .hbm, ⟨39, _⟩ => ⟨S32x4x4x1024, .f32⟩
  | .hbm, ⟨40, _⟩ => ⟨S_, .f32⟩
  | .hbm, ⟨41, _⟩ => ⟨S_, .f32⟩
  | .hbm, ⟨42, _⟩ => ⟨S32x4x4x1024, .i1⟩
  | .hbm, ⟨43, _⟩ => ⟨S32x4x4x1024, .f32⟩
  | .hbm, ⟨44, _⟩ => ⟨S32x4x4x1024, .f32⟩
  | .hbm, ⟨45, _⟩ => ⟨S32x4x4x128, .f32⟩
  | .hbm, ⟨46, _⟩ => ⟨S32x16x128, .f32⟩
  | .hbm, ⟨47, _⟩ => ⟨S_, .f32⟩
  | .hbm, ⟨48, _⟩ => ⟨S32x4x1024, .f32⟩
  | _, _ => ⟨S32x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S_ : Shape := ⟨0, ![]⟩
abbrev S8x6144 : Shape := ⟨2, ![8, 6144]⟩
abbrev S1x2048 : Shape := ⟨2, ![1, 2048]⟩
abbrev S1x6144 : Shape := ⟨2, ![1, 6144]⟩
abbrev S8x8x6144 : Shape := ⟨3, ![8, 8, 6144]⟩
abbrev S512x2048 : Shape := ⟨2, ![512, 2048]⟩
abbrev S8x2048 : Shape := ⟨2, ![8, 2048]⟩
abbrev S2048x512 : Shape := ⟨2, ![2048, 512]⟩
abbrev S8x512 : Shape := ⟨2, ![8, 512]⟩
abbrev S1x512 : Shape := ⟨2, ![1, 512]⟩
abbrev S1x8x512 : Shape := ⟨3, ![1, 8, 512]⟩
abbrev S520x2048 : Shape := ⟨2, ![520, 2048]⟩
abbrev S8 : Shape := ⟨1, ![8]⟩
abbrev S8x1 : Shape := ⟨2, ![8, 1]⟩
abbrev S512 : Shape := ⟨1, ![512]⟩
abbrev S512x1 : Shape := ⟨2, ![512, 1]⟩
abbrev S520x512 : Shape := ⟨2, ![520, 512]⟩
abbrev S512x512 : Shape := ⟨2, ![512, 512]⟩

abbrev nBuf : Space → Nat
  | .hbm => 15
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S3x6144, .f32⟩
  | .hbm, ⟨4, _⟩ => ⟨S6144, .f32⟩
  | .hbm, ⟨5, _⟩ => ⟨S6144x2048, .f32⟩
  | .hbm, ⟨6, _⟩ => ⟨S_, .i32⟩
  | .hbm, ⟨7, _⟩ => ⟨S_, .f32⟩
  | .hbm, ⟨8, _⟩ => ⟨S8x6144, .f32⟩
  | .hbm, ⟨9, _⟩ => ⟨S1x2048, .f32⟩
  | .hbm, ⟨10, _⟩ => ⟨S2048x12288, .bf16⟩
  | .hbm, ⟨11, _⟩ => ⟨S1x6144, .f32⟩
  | .hbm, ⟨12, _⟩ => ⟨S6144x2048, .bf16⟩
  | .hbm, ⟨13, _⟩ => ⟨S16384x2048, .f32⟩
  | .hbm, ⟨14, _⟩ => ⟨S8x8x6144, .f32⟩
  | .local _ .vmem, ⟨0, _⟩ => ⟨S512x2048, .f32⟩
  | .local _ .vmem, ⟨1, _⟩ => ⟨S512x2048, .f32⟩
  | .local _ .vmem, ⟨2, _⟩ => ⟨S8x2048, .f32⟩
  | .local _ .vmem, ⟨3, _⟩ => ⟨S8x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S8x512, .f32⟩
  | .local _ .vmem, ⟨10, _⟩ => ⟨S8x512, .f32⟩
  | .local _ .vmem, ⟨11, _⟩ => ⟨S1x512, .f32⟩
  | .local _ .vmem, ⟨12, _⟩ => ⟨S1x512, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | .local _ .vmem, ⟨16, _⟩ => ⟨S512x2048, .f32⟩
  | .local _ .vmem, ⟨17, _⟩ => ⟨S1x8x512, .f32⟩
  | .local _ .vmem, ⟨18, _⟩ => ⟨S1x8x512, .f32⟩
  | .local _ .vmem, ⟨19, _⟩ => ⟨S520x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![8, 4, 12], ![false, false, false]⟩

def k0_cond2 (i : grid0.Coords) : BitVec 1 :=
  let arg2 : BitVec 32 := BitVec.ofNat 32 (i 2).val
  let c0_i32_20 : BitVec 32 := 0#32
  let v45 : BitVec 1 := Scalar.cmpi .eq arg2 c0_i32_20
  let v46 : BitVec 32 := Scalar.extui v45
  let c0_i32_21 : BitVec 32 := 0#32
  let v47 : BitVec 1 := Scalar.cmpi .ne v46 c0_i32_21
  v47

def k0_cond3 (i : grid0.Coords) : BitVec 1 :=
  let arg2 : BitVec 32 := BitVec.ofNat 32 (i 2).val
  let c0_i32_22 : BitVec 32 := 0#32
  let v48 : BitVec 1 := Scalar.cmpi .sgt arg2 c0_i32_22
  let v49 : BitVec 32 := Scalar.extui v48
  let c0_i32_23 : BitVec 32 := 0#32
  let v50 : BitVec 1 := Scalar.cmpi .ne v49 c0_i32_23
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg2
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]
-- ==== FfnRefIdeal.lean ====
abbrev S16384x2048 : Shape := ⟨2, ![16384, 2048]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x12288 : Shape := ⟨3, ![8, 2048, 12288]⟩
abbrev S8x2048x6144 : Shape := ⟨3, ![8, 2048, 6144]⟩
abbrev S8x2x6144 : Shape := ⟨3, ![8, 2, 6144]⟩
abbrev S8x2050x6144 : Shape := ⟨3, ![8, 2050, 6144]⟩
abbrev S1x6144 : Shape := ⟨2, ![1, 6144]⟩
abbrev S1x1x6144 : Shape := ⟨3, ![1, 1, 6144]⟩
abbrev S8x8x6144 : Shape := ⟨3, ![8, 8, 6144]⟩

abbrev nBuf : Space → Nat
  | .hbm => 66
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x12288, .f32⟩
  | .hbm, ⟨3, _⟩ => ⟨S3x6144, .f32⟩
  | .hbm, ⟨4, _⟩ => ⟨S6144, .f32⟩
  | .hbm, ⟨5, _⟩ => ⟨S6144x2048, .f32⟩
  | .hbm, ⟨6, _⟩ => ⟨S8x2048x2048, .f32⟩
  | .hbm, ⟨7, _⟩ => ⟨S8x2048x2048, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S1x1x2048, .f32⟩
  | .hbm, ⟨21, _⟩ => ⟨S8x2048x2048, .f32⟩
  | .hbm, ⟨22, _⟩ => ⟨S8x2048x2048, .f32⟩
  | .hbm, ⟨23, _⟩ => ⟨S8x2048x12288, .f32⟩
  | .hbm, ⟨24, _⟩ => ⟨S8x2048x6144, .f32⟩
  | .hbm, ⟨25, _⟩ => ⟨S8x2048x6144, .f32⟩
  | .hbm, ⟨26, _⟩ => ⟨S_, .f32⟩
  | .hbm, ⟨27, _⟩ => ⟨S8x2x6144, .f32⟩
  | .hbm, ⟨28, _⟩ => ⟨S8x2050x6144, .f32⟩
  | .hbm, ⟨29, _⟩ => ⟨S8x2048x6144, .f32⟩
  | .hbm, ⟨30, _⟩ => ⟨S1x6144, .f32⟩
  | .hbm, ⟨31, _⟩ => ⟨S6144, .f32⟩
  | .hbm, ⟨32, _⟩ => ⟨S1x1x6144, .f32⟩
  | .hbm, ⟨33, _⟩ => ⟨S8x2048x6144, .f32⟩
  | .hbm, ⟨34, _⟩ => ⟨S8x2048x6144, .f32⟩
  | .hbm, ⟨35, _⟩ => ⟨S8x2048x6144, .f32⟩
  | .hbm, ⟨36, _⟩ => ⟨S1x6144, .f32⟩
  | .hbm, ⟨37, _⟩ => ⟨S6144, .f32⟩
  | .hbm, ⟨38, _⟩ => ⟨S1x1x6144, .f32⟩
  | .hbm, ⟨39, _⟩ => ⟨S8x2048x6144, .f32⟩
  | .hbm, ⟨40, _⟩ => ⟨S8x2048x6144, .f32⟩
  | .hbm, ⟨41, _⟩ => ⟨S8x2048x6144, .f32⟩
  | .hbm, ⟨42, _⟩ => ⟨S1x6144, .f32⟩
  | .hbm, ⟨43, _⟩ => ⟨S6144, .f32⟩
  | .hbm, ⟨44, _⟩ => ⟨S1x1x6144, .f32⟩
  | .hbm, ⟨45, _⟩ => ⟨S8x2048x6144, .f32⟩
  | .hbm, ⟨46, _⟩ => ⟨S8x2048x6144, .f32⟩
  | .hbm, ⟨47, _⟩ => ⟨S8x2048x6144, .f32⟩
  | .hbm, ⟨48, _⟩ => ⟨S8x2048x6144, .f32⟩
  | .hbm, ⟨49, _⟩ => ⟨S1x1x6144, .f32⟩
  | .hbm, ⟨50, _⟩ => ⟨S8x2048x6144, .f32⟩
  | .hbm, ⟨51, _⟩ => ⟨S8x2048x6144, .f32⟩
  | .hbm, ⟨52, _⟩ => ⟨S_, .f32⟩
  | .hbm, ⟨53, _⟩ => ⟨S8x2048x6144, .f32⟩
  | .hbm, ⟨54, _⟩ => ⟨S8x2048x6144, .f32⟩
  | .hbm, ⟨55, _⟩ => ⟨S8x2048x6144, .f32⟩
  | .hbm, ⟨56, _⟩ => ⟨S_, .f32⟩
  | .hbm, ⟨57, _⟩ => ⟨S8x2048x6144, .f32⟩
  | .hbm, ⟨58, _⟩ => ⟨S8x2048x6144, .f32⟩
  | .hbm, ⟨59, _⟩ => ⟨S8x2048x6144, .f32⟩
  | .hbm, ⟨60, _⟩ => ⟨S8x2048x6144, .f32⟩
  | .hbm, ⟨61, _⟩ => ⟨S8x2048x6144, .f32⟩
  | .hbm, ⟨62, _⟩ => ⟨S8x2048x2048, .f32⟩
  | .hbm, ⟨63, _⟩ => ⟨S8x2048x2048, .f32⟩
  | .hbm, ⟨64, _⟩ => ⟨S16384x2048, .f32⟩
  | .hbm, ⟨65, _⟩ => ⟨S8x8x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Raw.lean ====
abbrev S16384x2048 : Shape := ⟨2, ![16384, 2048]⟩
abbrev S2048 : Shape := ⟨1, ![2048]⟩
abbrev S2048x6144 : Shape := ⟨2, ![2048, 6144]⟩
abbrev S1x2048 : Shape := ⟨2, ![1, 2048]⟩
abbrev S16384x6144 : Shape := ⟨2, ![16384, 6144]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S1x2048, .f32⟩
  | .hbm, ⟨4, _⟩ => ⟨S2048x6144, .bf16⟩
  | .hbm, ⟨5, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RawIdeal.lean ====
abbrev S16384x2048 : Shape := ⟨2, ![16384, 2048]⟩
abbrev S2048 : Shape := ⟨1, ![2048]⟩
abbrev S2048x6144 : Shape := ⟨2, ![2048, 6144]⟩
abbrev S1x2048 : Shape := ⟨2, ![1, 2048]⟩
abbrev S16384x6144 : Shape := ⟨2, ![16384, 6144]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S1x2048, .f32⟩
  | .hbm, ⟨4, _⟩ => ⟨S2048x6144, .bf16⟩
  | .hbm, ⟨5, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RawRefIdeal.lean ====
abbrev S16384x2048 : Shape := ⟨2, ![16384, 2048]⟩
abbrev S2048 : Shape := ⟨1, ![2048]⟩
abbrev S2048x6144 : Shape := ⟨2, ![2048, 6144]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x6144 : Shape := ⟨2, ![16384, 6144]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x6144, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x6144, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Ple.lean ====
abbrev S16384x2048 : Shape := ⟨2, ![16384, 2048]⟩
abbrev S2048 : Shape := ⟨1, ![2048]⟩
abbrev S2048x2048 : Shape := ⟨2, ![2048, 2048]⟩
abbrev S16384x256 : Shape := ⟨2, ![16384, 256]⟩
abbrev S256x2048 : Shape := ⟨2, ![256, 2048]⟩
abbrev S1x2048 : Shape := ⟨2, ![1, 2048]⟩
abbrev S1024x2048 : Shape := ⟨2, ![1024, 2048]⟩
abbrev S2048x512 : Shape := ⟨2, ![2048, 512]⟩
abbrev S1024x256 : Shape := ⟨2, ![1024, 256]⟩
abbrev S256x512 : Shape := ⟨2, ![256, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 9
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x256, .f32⟩
  | .hbm, ⟨4, _⟩ => ⟨S256x2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x256, .f32⟩
  | .local _ .vmem, ⟨6, _⟩ => ⟨S1024x256, .f32⟩
  | .local _ .vmem, ⟨7, _⟩ => ⟨S256x512, .bf16⟩
  | .local _ .vmem, ⟨8, _⟩ => ⟨S256x512, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S16384x2048 : Shape := ⟨2, ![16384, 2048]⟩
abbrev S2048 : Shape := ⟨1, ![2048]⟩
abbrev S2048x2048 : Shape := ⟨2, ![2048, 2048]⟩
abbrev S16384x256 : Shape := ⟨2, ![16384, 256]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S16384x256, .f32⟩
  | .hbm, ⟨4, _⟩ => ⟨S256x2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== RawCmp.lean ====
abbrev S16384x2048 : Shape := ⟨2, ![16384, 2048]⟩
abbrev S2048 : Shape := ⟨1, ![2048]⟩
abbrev S2048x1024 : Shape := ⟨2, ![2048, 1024]⟩
abbrev S1x2048 : Shape := ⟨2, ![1, 2048]⟩
abbrev S16384x1024 : Shape := ⟨2, ![16384, 1024]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x1024, .f32⟩
  | .hbm, ⟨3, _⟩ => ⟨S1x2048, .f32⟩
  | .hbm, ⟨4, _⟩ => ⟨S2048x1024, .bf16⟩
  | .hbm, ⟨5, _⟩ => ⟨S16384x1024, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RawCmpRefIdeal.lean ====
abbrev S16384x2048 : Shape := ⟨2, ![16384, 2048]⟩
abbrev S2048 : Shape := ⟨1, ![2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x1024 : Shape := ⟨2, ![16384, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x1024, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kv.lean ====
abbrev S16384x2048 : Shape := ⟨2, ![16384, 2048]⟩
abbrev S2048 : Shape := ⟨1, ![2048]⟩
abbrev S2048x1024 : Shape := ⟨2, ![2048, 1024]⟩
abbrev S128 : Shape := ⟨1, ![128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048 : Shape := ⟨2, ![1, 2048]⟩
abbrev S1x128 : Shape := ⟨2, ![1, 128]⟩
abbrev S16384x1024 : Shape := ⟨2, ![16384, 1024]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 29
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S2048, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S2048, .f32⟩
  | .hbm, ⟨14, _⟩ => ⟨S2048x1, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x128, .f32⟩
  | .hbm, ⟨22, _⟩ => ⟨S2048x64, .f32⟩
  | .hbm, ⟨23, _⟩ => ⟨S2048x128, .f32⟩
  | .hbm, ⟨24, _⟩ => ⟨S1x2048, .f32⟩
  | .hbm, ⟨25, _⟩ => ⟨S2048x1024, .bf16⟩
  | .hbm, ⟨26, _⟩ => ⟨S1x128, .f32⟩
  | .hbm, ⟨27, _⟩ => ⟨S16384x1024, .f32⟩
  | .hbm, ⟨28, _⟩ => ⟨S16384x1024, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v7 : BitVec 1 := Scalar.cmpi .slt arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c1_i32_5 : BitVec 32 := 1#32
  let v10 : BitVec 1 := Scalar.cmpi .sge arg1 c1_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvRefIdeal.lean ====
abbrev S16384x2048 : Shape := ⟨2, ![16384, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x1024 : Shape := ⟨2, ![16384, 1024]⟩
abbrev S8x2048x2x4x128 : Shape := ⟨5, ![8, 2048, 2, 4, 128]⟩
abbrev S8x2048x1x4x128 : Shape := ⟨5, ![8, 2048, 1, 4, 128]⟩
abbrev S8x2048x4x128 : Shape := ⟨4, ![8, 2048, 4, 128]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x4x64 : Shape := ⟨4, ![8, 2048, 4, 64]⟩
abbrev S1x2048x1x64 : Shape := ⟨4, ![1, 2048, 1, 64]⟩

abbrev nBuf : Space → Nat
  | .hbm => 83
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x1024, .f32⟩
  | .hbm, ⟨21, _⟩ => ⟨S8x2048x2x4x128, .f32⟩
  | .hbm, ⟨22, _⟩ => ⟨S8x2048x1x4x128, .f32⟩
  | .hbm, ⟨23, _⟩ => ⟨S8x2048x4x128, .f32⟩
  | .hbm, ⟨24, _⟩ => ⟨S8x2048x4x128, .f32⟩
  | .hbm, ⟨25, _⟩ => ⟨S_, .f32⟩
  | .hbm, ⟨26, _⟩ => ⟨S8x2048x4, .f32⟩
  | .hbm, ⟨27, _⟩ => ⟨S8x2048x4x1, .f32⟩
  | .hbm, ⟨28, _⟩ => ⟨S_, .f32⟩
  | .hbm, ⟨29, _⟩ => ⟨S8x2048x4x1, .f32⟩
  | .hbm, ⟨30, _⟩ => ⟨S8x2048x4x1, .f32⟩
  | .hbm, ⟨31, _⟩ => ⟨S_, .f32⟩
  | .hbm, ⟨32, _⟩ => ⟨S8x2048x4x1, .f32⟩
  | .hbm, ⟨33, _⟩ => ⟨S8x2048x4x1, .f32⟩
  | .hbm, ⟨34, _⟩ => ⟨S8x2048x4x1, .f32⟩
  | .hbm, ⟨35, _⟩ => ⟨S8x2048x4x128, .f32⟩
  | .hbm, ⟨36, _⟩ => ⟨S8x2048x4x128, .f32⟩
  | .hbm, ⟨37, _⟩ => ⟨S1x1x1x128, .f32⟩
  | .hbm, ⟨38, _⟩ => ⟨S8x2048x4x128, .f32⟩
  | .hbm, ⟨39, _⟩ => ⟨S8x2048x4x128, .f32⟩
  | .hbm, ⟨40, _⟩ => ⟨S2048, .i32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S2048, .f32⟩
  | .hbm, ⟨50, _⟩ => ⟨S2048x1, .f32⟩
  | .hbm, ⟨51, _⟩ => ⟨S1x64, .f32⟩
  | .hbm, ⟨52, _⟩ => ⟨S2048x64, .f32⟩
  | .hbm, ⟨53, _⟩ => ⟨S2048x64, .f32⟩
  | .hbm, ⟨54, _⟩ => ⟨S2048x64, .f32⟩
  | .hbm, ⟨55, _⟩ => ⟨S2048x64, .f32⟩
  | .hbm, ⟨56, _⟩ => ⟨S2048x1x64, .f32⟩
  | .hbm, ⟨57, _⟩ => ⟨S2048x64, .f32⟩
  | .hbm, ⟨58, _⟩ => ⟨S2048x1x64, .f32⟩
  | .hbm, ⟨59, _⟩ => ⟨S8x2048x4x64, .f32⟩
  | .hbm, ⟨60, _⟩ => ⟨S8x2048x4x64, .f32⟩
  | .hbm, ⟨61, _⟩ => ⟨S1x2048x1x64, .f32⟩
  | .hbm, ⟨62, _⟩ => ⟨S8x2048x4x64, .f32⟩
  | .hbm, ⟨63, _⟩ => ⟨S8x2048x4x64, .f32⟩
  | .hbm, ⟨64, _⟩ => ⟨S1x2048x1x64, .f32⟩
  | .hbm, ⟨65, _⟩ => ⟨S8x2048x4x64, .f32⟩
  | .hbm, ⟨66, _⟩ => ⟨S8x2048x4x64, .f32⟩
  | .hbm, ⟨67, _⟩ => ⟨S8x2048x4x64, .f32⟩
  | .hbm, ⟨68, _⟩ => ⟨S1x2048x1x64, .f32⟩
  | .hbm, ⟨69, _⟩ => ⟨S8x2048x4x64, .f32⟩
  | .hbm, ⟨70, _⟩ => ⟨S8x2048x4x64, .f32⟩
  | .hbm, ⟨71, _⟩ => ⟨S1x2048x1x64, .f32⟩
  | .hbm, ⟨72, _⟩ => ⟨S8x2048x4x64, .f32⟩
  | .hbm, ⟨73, _⟩ => ⟨S8x2048x4x64, .f32⟩
  | .hbm, ⟨74, _⟩ => ⟨S8x2048x4x64, .f32⟩
  | .hbm, ⟨75, _⟩ => ⟨S8x2048x4x128, .f32⟩
  | .hbm, ⟨76, _⟩ => ⟨S8x2048x1x4x128, .f32⟩
  | .hbm, ⟨77, _⟩ => ⟨S8x2048x4x128, .f32⟩
  | .hbm, ⟨78, _⟩ => ⟨S8x2048x1x4x128, .f32⟩
  | .hbm, ⟨79, _⟩ => ⟨S8x2048x1x4x128, .f32⟩
  | .hbm, ⟨80, _⟩ => ⟨S8x2048x2x4x128, .f32⟩
  | .hbm, ⟨81, _⟩ => ⟨S16384x1024, .f32⟩
  | .hbm, ⟨82, _⟩ => ⟨S16384x1024, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩

abbrev nD : Nat := 1
abbrev τ : Topo := Topo.v7x

variable {F : FTy → Type} [FloatOps F]
-- ==== Merge.lean ====
abbrev S16384x2048 : Shape := ⟨2, ![16384, 2048]⟩
abbrev S2048x2048 : Shape := ⟨2, ![2048, 2048]⟩
abbrev S16384x6144 : Shape := ⟨2, ![16384, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x6144, .f32⟩
  | .hbm, ⟨3, _⟩ => ⟨S16384x2048, .bf16⟩
  | .hbm, ⟨4, _⟩ => ⟨S2048x2048, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeRefIdeal.lean ====
abbrev S16384x2048 : Shape := ⟨2, ![16384, 2048]⟩
abbrev S2048x2048 : Shape := ⟨2, ![2048, 2048]⟩
abbrev S16384x6144 : Shape := ⟨2, ![16384, 6144]⟩
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x6144, .f32⟩
  | .hbm, ⟨3, _⟩ => ⟨S16384x2048, .bf16⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proj.lean ====
abbrev S16384x2048 : Shape := ⟨2, ![16384, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S2048x2048, .bf16⟩
  | .hbm, ⟨4, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== RawSample.lean ====
abbrev S32x2048 : Shape := ⟨2, ![32, 2048]⟩
abbrev S2048 : Shape := ⟨1, ![2048]⟩
abbrev S2048x1024 : Shape := ⟨2, ![2048, 1024]⟩
abbrev S1x2048 : Shape := ⟨2, ![1, 2048]⟩
abbrev S32x1024 : Shape := ⟨2, ![32, 1024]⟩
abbrev S2048x512 : Shape := ⟨2, ![2048, 512]⟩
abbrev S32x512 : Shape := ⟨2, ![32, 512]⟩
abbrev S32 : Shape := ⟨1, ![32]⟩
abbrev S32x1 : Shape := ⟨2, ![32, 1]⟩

abbrev nBuf : Space → Nat
  | .hbm => 6
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x1024, .f32⟩
  | .hbm, ⟨3, _⟩ => ⟨S1x2048, .f32⟩
  | .hbm, ⟨4, _⟩ => ⟨S2048x1024, .bf16⟩
  | .hbm, ⟨5, _⟩ => ⟨S32x1024, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S32x512, .f32⟩
  | .local _ .vmem, ⟨5, _⟩ => ⟨S32x512, .f32⟩
  | .local _ .vmem, ⟨6, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RawSampleRefIdeal.lean ====
abbrev S32x2048 : Shape := ⟨2, ![32, 2048]⟩
abbrev S2048 : Shape := ⟨1, ![2048]⟩
abbrev S2048x1024 : Shape := ⟨2, ![2048, 1024]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x1024 : Shape := ⟨2, ![32, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x1024, .f32⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S32x1, .f32⟩
  | .hbm, ⟨7, _⟩ => ⟨S_, .f32⟩
  | .hbm, ⟨8, _⟩ => ⟨S32x1, .f32⟩
  | .hbm, ⟨9, _⟩ => ⟨S32x1, .f32⟩
  | .hbm, ⟨10, _⟩ => ⟨S_, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S32x2048, .f32⟩
  | .hbm, ⟨15, _⟩ => ⟨S32x2048, .f32⟩
  | .hbm, ⟨16, _⟩ => ⟨S1x2048, .f32⟩
  | .hbm, ⟨17, _⟩ => ⟨S32x2048, .f32⟩
  | .hbm, ⟨18, _⟩ => ⟨S32x2048, .f32⟩
  | .hbm, ⟨19, _⟩ => ⟨S32x1024, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KvSample.lean ====
abbrev S32x2048 : Shape := ⟨2, ![32, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S32 : Shape := ⟨1, ![32]⟩
abbrev S64 : Shape := ⟨1, ![64]⟩
abbrev S32x1 : Shape := ⟨2, ![32, 1]⟩
abbrev S1x64 : Shape := ⟨2, ![1, 64]⟩
abbrev S32x64 : Shape := ⟨2, ![32, 64]⟩
abbrev S32x128 : Shape := ⟨2, ![32, 128]⟩
abbrev S1x2048 : Shape := ⟨2, ![1, 2048]⟩
abbrev S1x128 : Shape := ⟨2, ![1, 128]⟩
abbrev S32x1024 : Shape := ⟨2, ![32, 1024]⟩
abbrev S2048x512 : Shape := ⟨2, ![2048, 512]⟩
abbrev S32x512 : Shape := ⟨2, ![32, 512]⟩

abbrev nBuf : Space → Nat
  | .hbm => 30
  | .vmem => 12
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S_, .i32⟩
  | .hbm, ⟨5, _⟩ => ⟨S32, .i32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S32, .f32⟩
  | .hbm, ⟨15, _⟩ => ⟨S32x1, .f32⟩
  | .hbm, ⟨16, _⟩ => ⟨S1x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S32x128, .f32⟩
  | .hbm, ⟨23, _⟩ => ⟨S32x64, .f32⟩
  | .hbm, ⟨24, _⟩ => ⟨S32x128, .f32⟩
  | .hbm, ⟨25, _⟩ => ⟨S1x2048, .f32⟩
  | .hbm, ⟨26, _⟩ => ⟨S2048x1024, .bf16⟩
  | .hbm, ⟨27, _⟩ => ⟨S1x128, .f32⟩
  | .hbm, ⟨28, _⟩ => ⟨S32x1024, .f32⟩
  | .hbm, ⟨29, _⟩ => ⟨S32x1024, .bf16⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S32x128, .f32⟩
  | .local _ .vmem, ⟨5, _⟩ => ⟨S32x128, .f32⟩
  | .local _ .vmem, ⟨6, _⟩ => ⟨S1x128, .f32⟩
  | .local _ .vmem, ⟨7, _⟩ => ⟨S32x512, .f32⟩
  | .local _ .vmem, ⟨8, _⟩ => ⟨S32x512, .f32⟩
  | .local _ .vmem, ⟨9, _⟩ => ⟨S32x512, .bf16⟩
  | .local _ .vmem, ⟨10, _⟩ => ⟨S32x512, .bf16⟩
  | .local _ .vmem, ⟨11, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v7 : BitVec 1 := Scalar.cmpi .slt arg1 c1_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c1_i32_5 : BitVec 32 := 1#32
  let v10 : BitVec 1 := Scalar.cmpi .sge arg1 c1_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KvSampleRefIdeal.lean ====
abbrev S32x2048 : Shape := ⟨2, ![32, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x1024 : Shape := ⟨2, ![32, 1024]⟩
abbrev S32x1x2x4x128 : Shape := ⟨5, ![32, 1, 2, 4, 128]⟩
abbrev S32x1x1x4x128 : Shape := ⟨5, ![32, 1, 1, 4, 128]⟩
abbrev S32x1x4x128 : Shape := ⟨4, ![32, 1, 4, 128]⟩
abbrev S32x1x4 : Shape := ⟨3, ![32, 1, 4]⟩
abbrev S32x1x4x1 : Shape := ⟨4, ![32, 1, 4, 1]⟩
abbrev S1x1x1x128 : Shape := ⟨4, ![1, 1, 1, 128]⟩
abbrev S1 : Shape := ⟨1, ![1]⟩
abbrev S64 : Shape := ⟨1, ![64]⟩
abbrev S1x1 : Shape := ⟨2, ![1, 1]⟩
abbrev S1x64 : Shape := ⟨2, ![1, 64]⟩
abbrev S1x1x64 : Shape := ⟨3, ![1, 1, 64]⟩
abbrev S32x1x4x64 : Shape := ⟨4, ![32, 1, 4, 64]⟩
abbrev S1x1x1x64 : Shape := ⟨4, ![1, 1, 1, 64]⟩

abbrev nBuf : Space → Nat
  | .hbm => 85
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S32x2048, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x2048, .f32⟩
  | .hbm, ⟨16, _⟩ => ⟨S32x2048, .f32⟩
  | .hbm, ⟨17, _⟩ => ⟨S1x2048, .f32⟩
  | .hbm, ⟨18, _⟩ => ⟨S32x2048, .f32⟩
  | .hbm, ⟨19, _⟩ => ⟨S32x2048, .f32⟩
  | .hbm, ⟨20, _⟩ => ⟨S32x1024, .f32⟩
  | .hbm, ⟨21, _⟩ => ⟨S32x1x2x4x128, .f32⟩
  | .hbm, ⟨22, _⟩ => ⟨S32x1x1x4x128, .f32⟩
  | .hbm, ⟨23, _⟩ => ⟨S32x1x4x128, .f32⟩
  | .hbm, ⟨24, _⟩ => ⟨S32x1x4x128, .f32⟩
  | .hbm, ⟨25, _⟩ => ⟨S_, .f32⟩
  | .hbm, ⟨26, _⟩ => ⟨S32x1x4, .f32⟩
  | .hbm, ⟨27, _⟩ => ⟨S32x1x4x1, .f32⟩
  | .hbm, ⟨28, _⟩ => ⟨S_, .f32⟩
  | .hbm, ⟨29, _⟩ => ⟨S32x1x4x1, .f32⟩
  | .hbm, ⟨30, _⟩ => ⟨S32x1x4x1, .f32⟩
  | .hbm, ⟨31, _⟩ => ⟨S_, .f32⟩
  | .hbm, ⟨32, _⟩ => ⟨S32x1x4x1, .f32⟩
  | .hbm, ⟨33, _⟩ => ⟨S32x1x4x1, .f32⟩
  | .hbm, ⟨34, _⟩ => ⟨S32x1x4x1, .f32⟩
  | .hbm, ⟨35, _⟩ => ⟨S32x1x4x128, .f32⟩
  | .hbm, ⟨36, _⟩ => ⟨S32x1x4x128, .f32⟩
  | .hbm, ⟨37, _⟩ => ⟨S1x1x1x128, .f32⟩
  | .hbm, ⟨38, _⟩ => ⟨S32x1x4x128, .f32⟩
  | .hbm, ⟨39, _⟩ => ⟨S32x1x4x128, .f32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S1, .i32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1, .f32⟩
  | .hbm, ⟨53, _⟩ => ⟨S1x1, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x1x64, .f32⟩
  | .hbm, ⟨59, _⟩ => ⟨S1x64, .f32⟩
  | .hbm, ⟨60, _⟩ => ⟨S1x1x64, .f32⟩
  | .hbm, ⟨61, _⟩ => ⟨S32x1x4x64, .f32⟩
  | .hbm, ⟨62, _⟩ => ⟨S32x1x4x64, .f32⟩
  | .hbm, ⟨63, _⟩ => ⟨S1x1x1x64, .f32⟩
  | .hbm, ⟨64, _⟩ => ⟨S32x1x4x64, .f32⟩
  | .hbm, ⟨65, _⟩ => ⟨S32x1x4x64, .f32⟩
  | .hbm, ⟨66, _⟩ => ⟨S1x1x1x64, .f32⟩
  | .hbm, ⟨67, _⟩ => ⟨S32x1x4x64, .f32⟩
  | .hbm, ⟨68, _⟩ => ⟨S32x1x4x64, .f32⟩
  | .hbm, ⟨69, _⟩ => ⟨S32x1x4x64, .f32⟩
  | .hbm, ⟨70, _⟩ => ⟨S1x1x1x64, .f32⟩
  | .hbm, ⟨71, _⟩ => ⟨S32x1x4x64, .f32⟩
  | .hbm, ⟨72, _⟩ => ⟨S32x1x4x64, .f32⟩
  | .hbm, ⟨73, _⟩ => ⟨S1x1x1x64, .f32⟩
  | .hbm, ⟨74, _⟩ => ⟨S32x1x4x64, .f32⟩
  | .hbm, ⟨75, _⟩ => ⟨S32x1x4x64, .f32⟩
  | .hbm, ⟨76, _⟩ => ⟨S32x1x4x64, .f32⟩
  | .hbm, ⟨77, _⟩ => ⟨S32x1x4x128, .f32⟩
  | .hbm, ⟨78, _⟩ => ⟨S32x1x1x4x128, .f32⟩
  | .hbm, ⟨79, _⟩ => ⟨S32x1x4x128, .f32⟩
  | .hbm, ⟨80, _⟩ => ⟨S32x1x1x4x128, .f32⟩
  | .hbm, ⟨81, _⟩ => ⟨S32x1x1x4x128, .f32⟩
  | .hbm, ⟨82, _⟩ => ⟨S32x1x2x4x128, .f32⟩
  | .hbm, ⟨83, _⟩ => ⟨S32x1024, .f32⟩
  | .hbm, ⟨84, _⟩ => ⟨S32x1024, .bf16⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩

abbrev nD : Nat := 1
abbrev τ : Topo := Topo.v7x

variable {F : FTy → Type} [FloatOps F]
-- ==== FfnSample.lean ====
abbrev S32x2048 : Shape := ⟨2, ![32, 2048]⟩
abbrev S32x2x6144 : Shape := ⟨3, ![32, 2, 6144]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S_ : Shape := ⟨0, ![]⟩
abbrev S8x6144 : Shape := ⟨2, ![8, 6144]⟩
abbrev S1x2048 : Shape := ⟨2, ![1, 2048]⟩
abbrev S1x6144 : Shape := ⟨2, ![1, 6144]⟩
abbrev S32x12288 : Shape := ⟨2, ![32, 12288]⟩
abbrev S32x6144 : Shape := ⟨2, ![32, 6144]⟩
abbrev S32x512 : Shape := ⟨2, ![32, 512]⟩
abbrev S2048x512 : Shape := ⟨2, ![2048, 512]⟩
abbrev S8x512 : Shape := ⟨2, ![8, 512]⟩
abbrev S1x512 : Shape := ⟨2, ![1, 512]⟩
abbrev S512x2048 : Shape := ⟨2, ![512, 2048]⟩
abbrev S32 : Shape := ⟨1, ![32]⟩
abbrev S32x1 : Shape := ⟨2, ![32, 1]⟩
abbrev S32x1x6144 : Shape := ⟨3, ![32, 1, 6144]⟩

abbrev nBuf : Space → Nat
  | .hbm => 21
  | .vmem => 22
  | .smem => 0
  | _ => 0

abbrev bufTy : (tb : Table) → Fin (tcTables nBuf tb) → BufTy
  | .hbm, ⟨0, _⟩ => ⟨S32x2048, .f32⟩
  | .hbm, ⟨1, _⟩ => ⟨S32x2x6144, .f32⟩
  | .hbm, ⟨2, _⟩ => ⟨S2048, .f32⟩
  | .hbm, ⟨3, _⟩ => ⟨S2048x12288, .f32⟩
  | .hbm, ⟨4, _⟩ => ⟨S3x6144, .f32⟩
  | .hbm, ⟨5, _⟩ => ⟨S6144, .f32⟩
  | .hbm, ⟨6, _⟩ => ⟨S6144x2048, .f32⟩
  | .hbm, ⟨7, _⟩ => ⟨S_, .i32⟩
  | .hbm, ⟨8, _⟩ => ⟨S_, .f32⟩
  | .hbm, ⟨9, _⟩ => ⟨S8x6144, .f32⟩
  | .hbm, ⟨10, _⟩ => ⟨S1x2048, .f32⟩
  | .hbm, ⟨11, _⟩ => ⟨S2048x12288, .bf16⟩
  | .hbm, ⟨12, _⟩ => ⟨S1x6144, .f32⟩
  | .hbm, ⟨13, _⟩ => ⟨S6144x2048, .bf16⟩
  | .hbm, ⟨14, _⟩ => ⟨S32x12288, .f32⟩
  | .hbm, ⟨15, _⟩ => ⟨S32x2048, .f32⟩
  | .hbm, ⟨16, _⟩ => ⟨S32x6144, .f32⟩
  | .hbm, ⟨17, _⟩ => ⟨S32x6144, .f32⟩
  | .hbm, ⟨18, _⟩ => ⟨S32x1x6144, .f32⟩
  | .hbm, ⟨19, _⟩ => ⟨S32x1x6144, .f32⟩
  | .hbm, ⟨20, _⟩ => ⟨S32x2x6144, .f32⟩
  | .local _ .vmem, ⟨0, _⟩ => ⟨S32x2048, .f32⟩
  | .local _ .vmem, ⟨1, _⟩ => ⟨S1x2048, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S512x2048, .bf16⟩
  | .local _ .vmem, ⟨15, _⟩ => ⟨S512x2048, .bf16⟩
  | .local _ .vmem, ⟨16, _⟩ => ⟨S32x2048, .f32⟩
  | .local _ .vmem, ⟨17, _⟩ => ⟨S32x512, .f32⟩
  | .local _ .vmem, ⟨18, _⟩ => ⟨S32x512, .f32⟩
  | .local _ .vmem, ⟨19, _⟩ => ⟨S32x512, .f32⟩
  | .local _ .vmem, ⟨20, _⟩ => ⟨S32x512, .f32⟩
  | .local _ .vmem, ⟨21, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![12], ![false]⟩

def k0_cond2 (i : grid0.Coords) : BitVec 1 :=
  let arg0 : BitVec 32 := BitVec.ofNat 32 (i 0).val
  let c0_i32_25 : BitVec 32 := 0#32
  let v46 : BitVec 1 := Scalar.cmpi .eq arg0 c0_i32_25
  let v47 : BitVec 32 := Scalar.extui v46
  let c0_i32_26 : BitVec 32 := 0#32
  let v48 : BitVec 1 := Scalar.cmpi .ne v47 c0_i32_26
  v48

def k0_cond3 (i : grid0.Coords) : BitVec 1 :=
  let arg0 : BitVec 32 := BitVec.ofNat 32 (i 0).val
  let c0_i32_27 : BitVec 32 := 0#32
  let v49 : BitVec 1 := Scalar.cmpi .sgt arg0 c0_i32_27
  let v50 : BitVec 32 := Scalar.extui v49
  let c0_i32_28 : BitVec 32 := 0#32
  let v51 : BitVec 1 := Scalar.cmpi .ne v50 c0_i32_28
  v51

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnSampleRefIdeal.lean ====
abbrev S32x2048 : Shape := ⟨2, ![32, 2048]⟩
abbrev S32x2x6144 : Shape := ⟨3, ![32, 2, 6144]⟩
abbrev S2048 : Shape := ⟨1, ![2048]⟩
abbrev S2048x12288 : Shape := ⟨2, ![2048, 12288]⟩
abbrev S3x6144 : Shape := ⟨2, ![3, 6144]⟩
abbrev S6144 : Shape := ⟨1, ![6144]⟩
abbrev S6144x2048 : Shape := ⟨2, ![6144, 2048]⟩
abbrev S_ : Shape := ⟨0, ![]⟩
abbrev S32 : Shape := ⟨1, ![32]⟩
abbrev S32x1 : Shape := ⟨2, ![32, 1]⟩
abbrev S1x2048 : Shape := ⟨2, ![1, 2048]⟩
abbrev S32x12288 : Shape := ⟨2, ![32, 12288]⟩
abbrev S32x6144 : Shape := ⟨2, ![32, 6144]⟩
abbrev S32x1x6144 : Shape := ⟨3, ![32, 1, 6144]⟩
abbrev S32x3x6144 : Shape := ⟨3, ![32, 3, 6144]⟩
abbrev S1x6144 : Shape := ⟨2, ![1, 6144]⟩
abbrev S1x1x6144 : Shape := ⟨3, ![1, 1, 6144]⟩

abbrev nBuf : Space → Nat
  | .hbm => 65
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2x6144, .f32⟩
  | .hbm, ⟨2, _⟩ => ⟨S2048, .f32⟩
  | .hbm, ⟨3, _⟩ => ⟨S2048x12288, .f32⟩
  | .hbm, ⟨4, _⟩ => ⟨S3x6144, .f32⟩
  | .hbm, ⟨5, _⟩ => ⟨S6144, .f32⟩
  | .hbm, ⟨6, _⟩ => ⟨S6144x2048, .f32⟩
  | .hbm, ⟨7, _⟩ => ⟨S32x2048, .f32⟩
  | .hbm, ⟨8, _⟩ => ⟨S_, .f32⟩
  | .hbm, ⟨9, _⟩ => ⟨S32, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S32x1, .f32⟩
  | .hbm, ⟨18, _⟩ => ⟨S32x2048, .f32⟩
  | .hbm, ⟨19, _⟩ => ⟨S32x2048, .f32⟩
  | .hbm, ⟨20, _⟩ => ⟨S1x2048, .f32⟩
  | .hbm, ⟨21, _⟩ => ⟨S32x2048, .f32⟩
  | .hbm, ⟨22, _⟩ => ⟨S32x2048, .f32⟩
  | .hbm, ⟨23, _⟩ => ⟨S32x12288, .f32⟩
  | .hbm, ⟨24, _⟩ => ⟨S32x6144, .f32⟩
  | .hbm, ⟨25, _⟩ => ⟨S32x6144, .f32⟩
  | .hbm, ⟨26, _⟩ => ⟨S32x1x6144, .f32⟩
  | .hbm, ⟨27, _⟩ => ⟨S32x3x6144, .f32⟩
  | .hbm, ⟨28, _⟩ => ⟨S32x1x6144, .f32⟩
  | .hbm, ⟨29, _⟩ => ⟨S1x6144, .f32⟩
  | .hbm, ⟨30, _⟩ => ⟨S6144, .f32⟩
  | .hbm, ⟨31, _⟩ => ⟨S1x1x6144, .f32⟩
  | .hbm, ⟨32, _⟩ => ⟨S32x1x6144, .f32⟩
  | .hbm, ⟨33, _⟩ => ⟨S32x1x6144, .f32⟩
  | .hbm, ⟨34, _⟩ => ⟨S32x1x6144, .f32⟩
  | .hbm, ⟨35, _⟩ => ⟨S1x6144, .f32⟩
  | .hbm, ⟨36, _⟩ => ⟨S6144, .f32⟩
  | .hbm, ⟨37, _⟩ => ⟨S1x1x6144, .f32⟩
  | .hbm, ⟨38, _⟩ => ⟨S32x1x6144, .f32⟩
  | .hbm, ⟨39, _⟩ => ⟨S32x1x6144, .f32⟩
  | .hbm, ⟨40, _⟩ => ⟨S32x1x6144, .f32⟩
  | .hbm, ⟨41, _⟩ => ⟨S1x6144, .f32⟩
  | .hbm, ⟨42, _⟩ => ⟨S6144, .f32⟩
  | .hbm, ⟨43, _⟩ => ⟨S1x1x6144, .f32⟩
  | .hbm, ⟨44, _⟩ => ⟨S32x1x6144, .f32⟩
  | .hbm, ⟨45, _⟩ => ⟨S32x1x6144, .f32⟩
  | .hbm, ⟨46, _⟩ => ⟨S32x1x6144, .f32⟩
  | .hbm, ⟨47, _⟩ => ⟨S32x1x6144, .f32⟩
  | .hbm, ⟨48, _⟩ => ⟨S32x6144, .f32⟩
  | .hbm, ⟨49, _⟩ => ⟨S1x6144, .f32⟩
  | .hbm, ⟨50, _⟩ => ⟨S32x6144, .f32⟩
  | .hbm, ⟨51, _⟩ => ⟨S32x6144, .f32⟩
  | .hbm, ⟨52, _⟩ => ⟨S_, .f32⟩
  | .hbm, ⟨53, _⟩ => ⟨S32x6144, .f32⟩
  | .hbm, ⟨54, _⟩ => ⟨S32x6144, .f32⟩
  | .hbm, ⟨55, _⟩ => ⟨S32x6144, .f32⟩
  | .hbm, ⟨56, _⟩ => ⟨S_, .f32⟩
  | .hbm, ⟨57, _⟩ => ⟨S32x6144, .f32⟩
  | .hbm, ⟨58, _⟩ => ⟨S32x6144, .f32⟩
  | .hbm, ⟨59, _⟩ => ⟨S32x6144, .f32⟩
  | .hbm, ⟨60, _⟩ => ⟨S32x6144, .f32⟩
  | .hbm, ⟨61, _⟩ => ⟨S32x6144, .f32⟩
  | .hbm, ⟨62, _⟩ => ⟨S32x2048, .f32⟩
  | .hbm, ⟨63, _⟩ => ⟨S32x2048, .f32⟩
  | .hbm, ⟨64, _⟩ => ⟨S32x2x6144, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_2 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_3 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== PleSample.lean ====
abbrev S32x2048 : Shape := ⟨2, ![32, 2048]⟩
abbrev S2048 : Shape := ⟨1, ![2048]⟩
abbrev S2048x2048 : Shape := ⟨2, ![2048, 2048]⟩
abbrev S32x256 : Shape := ⟨2, ![32, 256]⟩
abbrev S256x2048 : Shape := ⟨2, ![256, 2048]⟩
abbrev S1x2048 : Shape := ⟨2, ![1, 2048]⟩
abbrev S2048x512 : Shape := ⟨2, ![2048, 512]⟩
abbrev S256x512 : Shape := ⟨2, ![256, 512]⟩
abbrev S32x512 : Shape := ⟨2, ![32, 512]⟩
abbrev S32 : Shape := ⟨1, ![32]⟩
abbrev S32x1 : Shape := ⟨2, ![32, 1]⟩

abbrev nBuf : Space → Nat
  | .hbm => 9
  | .vmem => 12
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x2048, .f32⟩
  | .hbm, ⟨3, _⟩ => ⟨S32x256, .f32⟩
  | .hbm, ⟨4, _⟩ => ⟨S256x2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S32x2048, .f32⟩
  | .local _ .vmem, ⟨0, _⟩ => ⟨S32x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S32x256, .f32⟩
  | .local _ .vmem, ⟨5, _⟩ => ⟨S256x512, .bf16⟩
  | .local _ .vmem, ⟨6, _⟩ => ⟨S256x512, .bf16⟩
  | .local _ .vmem, ⟨7, _⟩ => ⟨S32x512, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x2048, .bf16⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleSampleRefIdeal.lean ====
abbrev S32x2048 : Shape := ⟨2, ![32, 2048]⟩
abbrev S2048 : Shape := ⟨1, ![2048]⟩
abbrev S2048x2048 : Shape := ⟨2, ![2048, 2048]⟩
abbrev S32x256 : Shape := ⟨2, ![32, 256]⟩
abbrev S256x2048 : Shape := ⟨2, ![256, 2048]⟩
abbrev S_ : Shape := ⟨0, ![]⟩
abbrev S32 : Shape := ⟨1, ![32]⟩
abbrev S32x1 : Shape := ⟨2, ![32, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048, .f32⟩
  | .hbm, ⟨2, _⟩ => ⟨S2048x2048, .f32⟩
  | .hbm, ⟨3, _⟩ => ⟨S32x256, .f32⟩
  | .hbm, ⟨4, _⟩ => ⟨S256x2048, .f32⟩
  | .hbm, ⟨5, _⟩ => ⟨S32x2048, .f32⟩
  | .hbm, ⟨6, _⟩ => ⟨S_, .f32⟩
  | .hbm, ⟨7, _⟩ => ⟨S32, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S1x2048, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S32x2048, .f32⟩
  | .hbm, ⟨23, _⟩ => ⟨S32x2048, .f32⟩
  | .hbm, ⟨24, _⟩ => ⟨S_, .f32⟩
  | .hbm, ⟨25, _⟩ => ⟨S32x2048, .f32⟩
  | .hbm, ⟨26, _⟩ => ⟨S32x2048, .f32⟩
  | .hbm, ⟨27, _⟩ => ⟨S_, .f32⟩
  | .hbm, ⟨28, _⟩ => ⟨S32x2048, .f32⟩
  | .hbm, ⟨29, _⟩ => ⟨S32x2048, .f32⟩
  | .hbm, ⟨30, _⟩ => ⟨S32x2048, .f32⟩
  | .hbm, ⟨31, _⟩ => ⟨S32x2048, .f32⟩
  | .hbm, ⟨32, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== WinSample.lean ====
abbrev S32x16x128 : Shape := ⟨3, ![32, 16, 128]⟩
abbrev S32x512x1024 : Shape := ⟨3, ![32, 512, 1024]⟩
abbrev S32x1x1024 : Shape := ⟨3, ![32, 1, 1024]⟩
abbrev S32x1x128 : Shape := ⟨3, ![32, 1, 128]⟩
abbrev S1x16x128 : Shape := ⟨3, ![1, 16, 128]⟩
abbrev S1x512x1024 : Shape := ⟨3, ![1, 512, 1024]⟩
abbrev S1x1x1024 : Shape := ⟨3, ![1, 1, 1024]⟩
abbrev S1x1x128 : Shape := ⟨3, ![1, 1, 128]⟩
abbrev S1x512 : Shape := ⟨2, ![1, 512]⟩
abbrev S1x128 : Shape := ⟨2, ![1, 128]⟩
abbrev S1x4x128 : Shape := ⟨3, ![1, 4, 128]⟩
abbrev S4x128 : Shape := ⟨2, ![4, 128]⟩
abbrev S1x512x128 : Shape := ⟨3, ![1, 512, 128]⟩
abbrev S512x128 : Shape := ⟨2, ![512, 128]⟩
abbrev S4x512 : Shape := ⟨2, ![4, 512]⟩
abbrev S4 : Shape := ⟨1, ![4]⟩
abbrev S4x1 : Shape := ⟨2, ![4, 1]⟩
abbrev S1x1 : Shape := ⟨2, ![1, 1]⟩
abbrev S16x128 : Shape := ⟨2, ![16, 128]⟩
abbrev S1x511x1024 : Shape := ⟨3, ![1, 511, 1024]⟩
abbrev S511x1024 : Shape := ⟨2, ![511, 1024]⟩
abbrev S1x1024 : Shape := ⟨2, ![1, 1024]⟩

abbrev nBuf : Space → Nat
  | .hbm => 8
  | .vmem => 16
  | .smem => 0
  | _ => 0

abbrev bufTy : (tb : Table) → Fin (tcTables nBuf tb) → BufTy
  | .hbm, ⟨0, _⟩ => ⟨S32x16x128, .f32⟩
  | .hbm, ⟨1, _⟩ => ⟨S32x512x1024, .f32⟩
  | .hbm, ⟨2, _⟩ => ⟨S32x1x1024, .f32⟩
  | .hbm, ⟨3, _⟩ => ⟨S32x16x128, .f32⟩
  | .hbm, ⟨4, _⟩ => ⟨S32x16x128, .f32⟩
  | .hbm, ⟨5, _⟩ => ⟨S32x1x128, .f32⟩
  | .hbm, ⟨6, _⟩ => ⟨S32x16x128, .f32⟩
  | .hbm, ⟨7, _⟩ => ⟨S32x512x1024, .f32⟩
  | .local _ .vmem, ⟨0, _⟩ => ⟨S1x16x128, .f32⟩
  | .local _ .vmem, ⟨1, _⟩ => ⟨S1x16x128, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x1x128, .f32⟩
  | .local _ .vmem, ⟨11, _⟩ => ⟨S1x1x128, .f32⟩
  | .local _ .vmem, ⟨12, _⟩ => ⟨S1x16x128, .f32⟩
  | .local _ .vmem, ⟨13, _⟩ => ⟨S1x16x128, .f32⟩
  | .local _ .vmem, ⟨14, _⟩ => ⟨S1x512x1024, .f32⟩
  | .local _ .vmem, ⟨15, _⟩ => ⟨S1x512x1024, .f32⟩
  | _, _ => ⟨S32x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WinSampleRefIdeal.lean ====
abbrev S32x16x128 : Shape := ⟨3, ![32, 16, 128]⟩
abbrev S32x512x1024 : Shape := ⟨3, ![32, 512, 1024]⟩
abbrev S32x1x1024 : Shape := ⟨3, ![32, 1, 1024]⟩
abbrev S32x1x128 : Shape := ⟨3, ![32, 1, 128]⟩
abbrev S32x513x1024 : Shape := ⟨3, ![32, 513, 1024]⟩

abbrev nBuf : Space → Nat
  | .hbm => 8
  | .vmem => 0
  | .smem => 0
  | _ => 0

abbrev bufTy : (tb : Table) → Fin (tcTables nBuf tb) → BufTy
  | .hbm, ⟨0, _⟩ => ⟨S32x16x128, .f32⟩
  | .hbm, ⟨1, _⟩ => ⟨S32x512x1024, .f32⟩
  | .hbm, ⟨2, _⟩ => ⟨S32x1x1024, .f32⟩
  | .hbm, ⟨3, _⟩ => ⟨S32x16x128, .f32⟩
  | .hbm, ⟨4, _⟩ => ⟨S32x16x128, .f32⟩
  | .hbm, ⟨5, _⟩ => ⟨S32x1x128, .f32⟩
  | .hbm, ⟨6, _⟩ => ⟨S32x513x1024, .f32⟩
  | .hbm, ⟨7, _⟩ => ⟨S32x512x1024, .f32⟩
  | _, _ => ⟨S32x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩

abbrev nD : Nat := 1
abbrev τ : Topo := Topo.v7x

variable {F : FTy → Type} [FloatOps F]
-- ==== Query.lean ====
abbrev S16384x2048 : Shape := ⟨2, ![16384, 2048]⟩
abbrev S2048 : Shape := ⟨1, ![2048]⟩
abbrev S2048x2048 : Shape := ⟨2, ![2048, 2048]⟩
abbrev S128 : Shape := ⟨1, ![128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048 : Shape := ⟨2, ![1, 2048]⟩
abbrev S1x128 : Shape := ⟨2, ![1, 128]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 29
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S128, .f32⟩
  | .hbm, ⟨4, _⟩ => ⟨S2048, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S2048, .f32⟩
  | .hbm, ⟨14, _⟩ => ⟨S2048x1, .f32⟩
  | .hbm, ⟨15, _⟩ => ⟨S1x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x64, .f32⟩
  | .hbm, ⟨21, _⟩ => ⟨S2048x128, .f32⟩
  | .hbm, ⟨22, _⟩ => ⟨S2048x64, .f32⟩
  | .hbm, ⟨23, _⟩ => ⟨S2048x128, .f32⟩
  | .hbm, ⟨24, _⟩ => ⟨S1x2048, .f32⟩
  | .hbm, ⟨25, _⟩ => ⟨S2048x2048, .bf16⟩
  | .hbm, ⟨26, _⟩ => ⟨S1x128, .f32⟩
  | .hbm, ⟨27, _⟩ => ⟨S16384x2048, .bf16⟩
  | .hbm, ⟨28, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21_0 : Ref sig .tc := ⟨.hbm, 27, rfl⟩
abbrev main_v21_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QueryRefIdeal.lean ====
abbrev S16384x2048 : Shape := ⟨2, ![16384, 2048]⟩
abbrev S2048 : Shape := ⟨1, ![2048]⟩
abbrev S2048x2048 : Shape := ⟨2, ![2048, 2048]⟩
abbrev S128 : Shape := ⟨1, ![128]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S8x2048x16x128 : Shape := ⟨4, ![8, 2048, 16, 128]⟩
abbrev S8x2048x16 : Shape := ⟨3, ![8, 2048, 16]⟩
abbrev S8x2048x16x1 : Shape := ⟨4, ![8, 2048, 16, 1]⟩
abbrev S1x1x1x128 : Shape := ⟨4, ![1, 1, 1, 128]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S8x2048x16x64 : Shape := ⟨4, ![8, 2048, 16, 64]⟩
abbrev S1x2048x1x64 : Shape := ⟨4, ![1, 2048, 1, 64]⟩

abbrev nBuf : Space → Nat
  | .hbm => 78
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S128, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S8x2048x16x128, .f32⟩
  | .hbm, ⟨22, _⟩ => ⟨S8x2048x16x128, .f32⟩
  | .hbm, ⟨23, _⟩ => ⟨S_, .f32⟩
  | .hbm, ⟨24, _⟩ => ⟨S8x2048x16, .f32⟩
  | .hbm, ⟨25, _⟩ => ⟨S8x2048x16x1, .f32⟩
  | .hbm, ⟨26, _⟩ => ⟨S_, .f32⟩
  | .hbm, ⟨27, _⟩ => ⟨S8x2048x16x1, .f32⟩
  | .hbm, ⟨28, _⟩ => ⟨S8x2048x16x1, .f32⟩
  | .hbm, ⟨29, _⟩ => ⟨S_, .f32⟩
  | .hbm, ⟨30, _⟩ => ⟨S8x2048x16x1, .f32⟩
  | .hbm, ⟨31, _⟩ => ⟨S8x2048x16x1, .f32⟩
  | .hbm, ⟨32, _⟩ => ⟨S8x2048x16x1, .f32⟩
  | .hbm, ⟨33, _⟩ => ⟨S8x2048x16x128, .f32⟩
  | .hbm, ⟨34, _⟩ => ⟨S8x2048x16x128, .f32⟩
  | .hbm, ⟨35, _⟩ => ⟨S1x1x1x128, .f32⟩
  | .hbm, ⟨36, _⟩ => ⟨S8x2048x16x128, .f32⟩
  | .hbm, ⟨37, _⟩ => ⟨S8x2048x16x128, .f32⟩
  | .hbm, ⟨38, _⟩ => ⟨S2048, .i32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S2048, .f32⟩
  | .hbm, ⟨48, _⟩ => ⟨S2048x1, .f32⟩
  | .hbm, ⟨49, _⟩ => ⟨S1x64, .f32⟩
  | .hbm, ⟨50, _⟩ => ⟨S2048x64, .f32⟩
  | .hbm, ⟨51, _⟩ => ⟨S2048x64, .f32⟩
  | .hbm, ⟨52, _⟩ => ⟨S2048x64, .f32⟩
  | .hbm, ⟨53, _⟩ => ⟨S2048x64, .f32⟩
  | .hbm, ⟨54, _⟩ => ⟨S2048x1x64, .f32⟩
  | .hbm, ⟨55, _⟩ => ⟨S2048x64, .f32⟩
  | .hbm, ⟨56, _⟩ => ⟨S2048x1x64, .f32⟩
  | .hbm, ⟨57, _⟩ => ⟨S8x2048x16x64, .f32⟩
  | .hbm, ⟨58, _⟩ => ⟨S8x2048x16x64, .f32⟩
  | .hbm, ⟨59, _⟩ => ⟨S1x2048x1x64, .f32⟩
  | .hbm, ⟨60, _⟩ => ⟨S8x2048x16x64, .f32⟩
  | .hbm, ⟨61, _⟩ => ⟨S8x2048x16x64, .f32⟩
  | .hbm, ⟨62, _⟩ => ⟨S1x2048x1x64, .f32⟩
  | .hbm, ⟨63, _⟩ => ⟨S8x2048x16x64, .f32⟩
  | .hbm, ⟨64, _⟩ => ⟨S8x2048x16x64, .f32⟩
  | .hbm, ⟨65, _⟩ => ⟨S8x2048x16x64, .f32⟩
  | .hbm, ⟨66, _⟩ => ⟨S1x2048x1x64, .f32⟩
  | .hbm, ⟨67, _⟩ => ⟨S8x2048x16x64, .f32⟩
  | .hbm, ⟨68, _⟩ => ⟨S8x2048x16x64, .f32⟩
  | .hbm, ⟨69, _⟩ => ⟨S1x2048x1x64, .f32⟩
  | .hbm, ⟨70, _⟩ => ⟨S8x2048x16x64, .f32⟩
  | .hbm, ⟨71, _⟩ => ⟨S8x2048x16x64, .f32⟩
  | .hbm, ⟨72, _⟩ => ⟨S8x2048x16x64, .f32⟩
  | .hbm, ⟨73, _⟩ => ⟨S8x2048x16x128, .f32⟩
  | .hbm, ⟨74, _⟩ => ⟨S16384x2048, .f32⟩
  | .hbm, ⟨75, _⟩ => ⟨S16384x2048, .bf16⟩
  | .hbm, ⟨76, _⟩ => ⟨S16384x2048, .f32⟩
  | .hbm, ⟨77, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩

abbrev nD : Nat := 1
abbrev τ : Topo := Topo.v7x

variable {F : FTy → Type} [FloatOps F]
-- ==== Conv.lean ====
abbrev S16384x6144 : Shape := ⟨2, ![16384, 6144]⟩
abbrev S31x1024 : Shape := ⟨2, ![31, 1024]⟩
abbrev S1024 : Shape := ⟨1, ![1024]⟩
abbrev S1024x2048 : Shape := ⟨2, ![1024, 2048]⟩
abbrev S_ : Shape := ⟨0, ![]⟩
abbrev S32x1024 : Shape := ⟨2, ![32, 1024]⟩
abbrev S1x1024 : Shape := ⟨2, ![1, 1024]⟩
abbrev S16384x2048 : Shape := ⟨2, ![16384, 2048]⟩
abbrev S8x32x1024 : Shape := ⟨3, ![8, 32, 1024]⟩
abbrev S256x2048 : Shape := ⟨2, ![256, 2048]⟩
abbrev S1x32x1024 : Shape := ⟨3, ![1, 32, 1024]⟩
abbrev S288x1024 : Shape := ⟨2, ![288, 1024]⟩
abbrev S256x1024 : Shape := ⟨2, ![256, 1024]⟩
abbrev S32x2048 : Shape := ⟨2, ![32, 2048]⟩
abbrev S256 : Shape := ⟨1, ![256]⟩
abbrev S256x1 : Shape := ⟨2, ![256, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x6144, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S_, .i32⟩
  | .hbm, ⟨7, _⟩ => ⟨S_, .f32⟩
  | .hbm, ⟨8, _⟩ => ⟨S32x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1024x2048, .bf16⟩
  | .hbm, ⟨13, _⟩ => ⟨S16384x2048, .bf16⟩
  | .hbm, ⟨14, _⟩ => ⟨S8x32x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x2048, .bf16⟩
  | .local _ .vmem, ⟨9, _⟩ => ⟨S256x2048, .bf16⟩
  | .local _ .vmem, ⟨10, _⟩ => ⟨S256x2048, .bf16⟩
  | .local _ .vmem, ⟨11, _⟩ => ⟨S1x32x1024, .f32⟩
  | .local _ .vmem, ⟨12, _⟩ => ⟨S1x32x1024, .f32⟩
  | .local _ .vmem, ⟨13, _⟩ => ⟨S288x1024, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S16384x6144 : Shape := ⟨2, ![16384, 6144]⟩
abbrev S31x1024 : Shape := ⟨2, ![31, 1024]⟩
abbrev S1024 : Shape := ⟨1, ![1024]⟩
abbrev S1024x2048 : Shape := ⟨2, ![1024, 2048]⟩
abbrev S16384x2048 : Shape := ⟨2, ![16384, 2048]⟩
abbrev S8x2048x2048 : Shape := ⟨3, ![8, 2048, 2048]⟩
abbrev S8x2048x1024 : Shape := ⟨3, ![8, 2048, 1024]⟩
abbrev S_ : Shape := ⟨0, ![]⟩
abbrev S8x30x1024 : Shape := ⟨3, ![8, 30, 1024]⟩
abbrev S8x2078x1024 : Shape := ⟨3, ![8, 2078, 1024]⟩
abbrev S8x32x1024 : Shape := ⟨3, ![8, 32, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x6144, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x2048, .f32⟩
  | .hbm, ⟨6, _⟩ => ⟨S16384x2048, .f32⟩
  | .hbm, ⟨7, _⟩ => ⟨S8x2048x2048, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S_, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x30x1024, .f32⟩
  | .hbm, ⟨21, _⟩ => ⟨S8x2078x1024, .f32⟩
  | .hbm, ⟨22, _⟩ => ⟨S8x32x1024, .f32⟩
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== ConvSample.lean ====
abbrev S32x2048 : Shape := ⟨2, ![32, 2048]⟩
abbrev S32x30x1024 : Shape := ⟨3, ![32, 30, 1024]⟩
abbrev S31x1024 : Shape := ⟨2, ![31, 1024]⟩
abbrev S1024 : Shape := ⟨1, ![1024]⟩
abbrev S1024x2048 : Shape := ⟨2, ![1024, 2048]⟩
abbrev S_ : Shape := ⟨0, ![]⟩
abbrev S32x1024 : Shape := ⟨2, ![32, 1024]⟩
abbrev S1x1024 : Shape := ⟨2, ![1, 1024]⟩
abbrev S1x30x1024 : Shape := ⟨3, ![1, 30, 1024]⟩
abbrev S30x1024 : Shape := ⟨2, ![30, 1024]⟩
abbrev S1x29x1024 : Shape := ⟨3, ![1, 29, 1024]⟩
abbrev S29x1024 : Shape := ⟨2, ![29, 1024]⟩
abbrev S1x1x1024 : Shape := ⟨3, ![1, 1, 1024]⟩
abbrev S32 : Shape := ⟨1, ![32]⟩
abbrev S32x1 : Shape := ⟨2, ![32, 1]⟩

abbrev nBuf : Space → Nat
  | .hbm => 16
  | .vmem => 9
  | .smem => 0
  | _ => 0

abbrev bufTy : (tb : Table) → Fin (tcTables nBuf tb) → BufTy
  | .hbm, ⟨0, _⟩ => ⟨S32x2048, .f32⟩
  | .hbm, ⟨1, _⟩ => ⟨S32x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S_, .i32⟩
  | .hbm, ⟨8, _⟩ => ⟨S_, .f32⟩
  | .hbm, ⟨9, _⟩ => ⟨S32x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x2048, .bf16⟩
  | .hbm, ⟨14, _⟩ => ⟨S32x2048, .bf16⟩
  | .hbm, ⟨15, _⟩ => ⟨S32x30x1024, .f32⟩
  | .local _ .vmem, ⟨0, _⟩ => ⟨S32x2048, .f32⟩
  | .local _ .vmem, ⟨1, _⟩ => ⟨S32x30x1024, .f32⟩
  | .local _ .vmem, ⟨2, _⟩ => ⟨S32x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x2048, .bf16⟩
  | .local _ .vmem, ⟨7, _⟩ => ⟨S32x2048, .bf16⟩
  | .local _ .vmem, ⟨8, _⟩ => ⟨S32x30x1024, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x30x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x30x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ConvSampleRefIdeal.lean ====
abbrev S32x2048 : Shape := ⟨2, ![32, 2048]⟩
abbrev S32x30x1024 : Shape := ⟨3, ![32, 30, 1024]⟩
abbrev S31x1024 : Shape := ⟨2, ![31, 1024]⟩
abbrev S1024 : Shape := ⟨1, ![1024]⟩
abbrev S1024x2048 : Shape := ⟨2, ![1024, 2048]⟩
abbrev S32x1024 : Shape := ⟨2, ![32, 1024]⟩
abbrev S_ : Shape := ⟨0, ![]⟩
abbrev S32x1x1024 : Shape := ⟨3, ![32, 1, 1024]⟩
abbrev S32x31x1024 : Shape := ⟨3, ![32, 31, 1024]⟩

abbrev nBuf : Space → Nat
  | .hbm => 21
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x2048, .f32⟩
  | .hbm, ⟨7, _⟩ => ⟨S32x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S32x1x1024, .f32⟩
  | .hbm, ⟨19, _⟩ => ⟨S32x31x1024, .f32⟩
  | .hbm, ⟨20, _⟩ => ⟨S32x30x1024, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Proof.CmpAttn.lean ====
module

public import proofs.«01_k».proof.Proof.Gen.CmpAttnIdeal.Frame
public import proofs.«01_k».proof.Proof.Gen.CmpAttnRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.CmpAttnIdeal.Val

open Cert.CmpAttnIdeal Cert.CmpAttnIdeal.Gen
open Cert.CmpAttnRefIdeal.Read

variable (m : (ℓ : Loc nD τ sig) → Buf (Elt Ideal) ℓ)

/-- Whether compressed key `n` ends at or before the query's position. -/
def seen (n : Fin 1024) : BitVec 1 :=
  IntOp.cmpi CmpIPredicate.sle (IntOp.addi (IntOp.muli (BitVec.ofNat 32 ↑n) 16#32) 32#32) 16385#32

/-- The scaled score of one key, the masked ones at the stand-in. -/
def score (f : Fin 1024 → EReal) (n : Fin 1024) : EReal :=
  Scalar.select (seen n) (f n * Ideal.ofBits FTy.f32 1035273459#32) (Ideal.ofBits FTy.f32 4048155338#32)

/-- The largest score of a row. -/
def top (f : Fin 1024 → EReal) : EReal :=
  Finset.fold max (Ideal.ofBits FTy.f32 4286578688#32) (fun x => score f x) Finset.univ

/-- The masked softmax of a row of raw products, read at one key. -/
def prob (f : Fin 1024 → EReal) (n : Fin 1024) : EReal :=
  Scalar.select (seen n)
    (Ideal.div (Ideal.exp (score f n - top f)) (∑ x, Ideal.exp (score f x - top f))) 0

/-! ## The kernel's rows, one lemma per group of heads -/

theorem row0 (v7 : Vec Ideal S1x4x128 .f32) (v10 : Vec Ideal S1x1024x128 .f32) (g : Fin 4) (n : Fin 1024) :
    k0_pay5 (F := Ideal) v7 v10 (ix2 g n) = prob (fun n => ∑ d, v7 (ix3 0 g d) * v10 (ix3 0 n d)) n := by
  pointwise [k0_pay5, k0_pay4]
  rfl

theorem row1 (v7 : Vec Ideal S1x4x128 .f32) (v10 : Vec Ideal S1x1024x128 .f32) (g : Fin 4) (n : Fin 1024) :
    k0_pay9 (F := Ideal) k0_pay4 v7 v10 (ix2 g n) = prob (fun n => ∑ d, v7 (ix3 0 g d) * v10 (ix3 0 n d)) n := by
  pointwise [k0_pay9, k0_pay4]
  rfl

theorem row2 (v7 : Vec Ideal S1x4x128 .f32) (v10 : Vec Ideal S1x1024x128 .f32) (g : Fin 4) (n : Fin 1024) :
    k0_pay14 (F := Ideal) k0_pay4 v7 v10 (ix2 g n) = prob (fun n => ∑ d, v7 (ix3 0 g d) * v10 (ix3 0 n d)) n := by
  pointwise [k0_pay14, k0_pay4]
  rfl

theorem row3 (v7 : Vec Ideal S1x4x128 .f32) (v10 : Vec Ideal S1x1024x128 .f32) (g : Fin 4) (n : Fin 1024) :
    k0_pay1 (F := Ideal) (k0_pay18 k0_pay4 v7 v10) (k0_pay19 k0_pay4) k0_pay20 (ix2 g n)
      = prob (fun n => ∑ d, v7 (ix3 0 g d) * v10 (ix3 0 n d)) n := by
  pointwise [k0_pay1, k0_pay18, k0_pay19, k0_pay20, k0_pay4]
  rfl

/-! ## The reference's rows -/

/-- The raw products of query head `hh` of sample `b` with its group's compressed keys. -/
def raw (q : FVec Ideal Cert.CmpAttnRefIdeal.S32x16x128 .f32) (k : FVec Ideal Cert.CmpAttnRefIdeal.S32x1024x512 .f32)
    (b : Fin 32) (h g : Fin 4) (n : Fin 1024) : EReal :=
  ∑ d : Fin 128, q (ix3 b ⟨4 * h + g, by omega⟩ d) * k (ix3 b n ⟨128 * h + d, by omega⟩)

theorem ref_raw (q : FVec Ideal Cert.CmpAttnRefIdeal.S32x16x128 .f32) (k : FVec Ideal Cert.CmpAttnRefIdeal.S32x1024x512 .f32)
    (b : Fin 32) (h g : Fin 4) (n : Fin 1024) :
    val_main_v3 (F := Ideal) q k (ix4 b h g n) = raw q k b h g n := by
  pointwise [val_main_v3, val_main_v0, val_main_v1, raw]
  blk_point []

theorem ref_score (q : FVec Ideal Cert.CmpAttnRefIdeal.S32x16x128 .f32) (k : FVec Ideal Cert.CmpAttnRefIdeal.S32x1024x512 .f32)
    (b : Fin 32) (h g : Fin 4) (n : Fin 1024) :
    val_main_v14 (F := Ideal) q k (ix4 b h g n) = score (raw q k b h g) n := by
  rw [score, ← ref_raw q k b h g n]
  pointwise [val_main_v14, val_main_v5, val_main_v4, val_main_cst, val_main_call0_v1, val_main_v13, val_main_v12, val_main_v10,
    val_main_v11, val_main_v9, val_main_v8, val_main_v7, val_main_v6, val_main_c, val_main_c_0, val_main_c_1, val_main_call0_v2,
    val_main_call0_v0, val_main_cst_2, seen]
  rfl

theorem ref_prob (q : FVec Ideal Cert.CmpAttnRefIdeal.S32x16x128 .f32) (k : FVec Ideal Cert.CmpAttnRefIdeal.S32x1024x512 .f32)
    (b : Fin 32) (h g : Fin 4) (n : Fin 1024) :
    val_main_v26 (F := Ideal) q k (ix4 b h g n) = prob (raw q k b h g) n := by
  pointwise [val_main_v26, val_main_v25, val_main_v24, val_main_v23, val_main_v22, val_main_v21, val_main_v20, val_main_v19,
    val_main_v18, val_main_v17, val_main_v16, val_main_v15, val_main_cst_3, val_main_cst_4, val_main_cst_5, val_main_cst_6,
    val_main_call1_v1, val_main_call1_v2, val_main_call1_v0, val_main_v13, val_main_v12, val_main_v10,
    val_main_v11, val_main_v9, val_main_v8, val_main_v7, val_main_v6, val_main_c, val_main_c_0, val_main_c_1]
  simp only [ref_score, id, constant_apply, Ideal.ofBits_zero]
  have e : max (Ideal.ofBits FTy.f32 4286578688#32) (Finset.fold max (Ideal.ofBits FTy.f32 4286578688#32)
      (fun x => score (raw q k b h g) x) Finset.univ) = top (raw q k b h g) :=
    max_eq_right ((Finset.le_fold_max _).mpr (Or.inl le_rfl))
  simp only [e]
  have z : (FloatOps.ofBits FTy.f32 0#32 : Ideal .f32) = (0 : EReal) := Ideal.ofBits_zero_f32
  rw [z]
  rfl

theorem ref_out (q : FVec Ideal Cert.CmpAttnRefIdeal.S32x16x128 .f32) (k v : FVec Ideal Cert.CmpAttnRefIdeal.S32x1024x512 .f32)
    (b : Fin 32) (h g : Fin 4) (d : Fin 128) (i : Cert.CmpAttnRefIdeal.S32x16x128.Idx)
    (h0 : (i 0 : ℕ) = b) (h1 : (i 1 : ℕ) = 4 * h + g) (h2 : (i 2 : ℕ) = d) :
    val_main_v28 (F := Ideal) q k v i
      = ∑ n : Fin 1024, prob (raw q k b h g) n * v (ix3 b n ⟨128 * h + d, by omega⟩) := by
  simp only [← ref_prob]
  pointwise [val_main_v28, val_main_v27, val_main_v2]
  blk_point []

theorem ref_mass (q : FVec Ideal Cert.CmpAttnRefIdeal.S32x16x128 .f32) (k : FVec Ideal Cert.CmpAttnRefIdeal.S32x1024x512 .f32)
    (b : Fin 32) (h : Fin 4) (n : Fin 1024) (i : Cert.CmpAttnRefIdeal.S32x4x1024.Idx)
    (h0 : (i 0 : ℕ) = b) (h1 : (i 1 : ℕ) = h) (h2 : (i 2 : ℕ) = n) :
    val_main_v29 (F := Ideal) q k i = ∑ g : Fin 4, prob (raw q k b h g) n := by
  simp only [← ref_prob]
  pointwise [val_main_v29, val_main_cst_7]
  blk_point []

/-! ## From the blocks to the arrays -/

theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0] :=
  (by decide +kernel : ∀ t : Fin grid0.N, _)

theorem N_eq : cfg0.N = 32 := N_0

/-- A row of raw products over the blocks of point `t` is the row over the arrays. -/
theorem blk_raw (c : Dev nD) (t : Fin cfg0.N) (ht : t.val < 32) (h g : Fin 4)
    (x0 : Vec Ideal S1x4x128 .f32) (x1 : Vec Ideal S1x1024x128 .f32)
    (e0 : ∀ d : Fin 128, x0 (ix3 0 g d) = iblk m c 0 t (ix3 0 ⟨4 * h + g, by omega⟩ d))
    (e1 : ∀ (n : Fin 1024) (d : Fin 128), x1 (ix3 0 n d) = iblk m c 1 t (ix3 0 n ⟨128 * h + d, by omega⟩)) :
    (fun n : Fin 1024 => ∑ d, x0 (ix3 0 g d) * x1 (ix3 0 n d))
      = raw (m ((c : Thread nD τ).loc main_arg0)) (m ((c : Thread nD τ).loc main_arg1)) ⟨t.val, ht⟩ h g := by
  funext n
  simp only [e0, e1, raw]
  blk_point [iblk, V, idx t]

theorem point3 (c : Dev nD) (t : Fin cfg0.N) (y : S1x16x128.Idx) :
    out0_3 (iblk m c 0 t) (iblk m c 1 t) (iblk m c 2 t) y
      = val_main_v28 (F := Ideal) (m ((c : Thread nD τ).loc main_arg0)) (m ((c : Thread nD τ).loc main_arg1))
          (m ((c : Thread nD τ).loc main_arg2)) (((cfg0.win 3).blk t).view.emb y) := by
  have ht : t.val < 32 := lt_of_lt_of_eq t.isLt N_0
  obtain ⟨h, g, hy⟩ : ∃ h g : Fin 4, (y 1 : ℕ) = 4 * h + g := by
    have := (y 1).isLt
    exact ⟨⟨(y 1 : ℕ) / 4, by simp_all; omega⟩, ⟨(y 1 : ℕ) % 4, by omega⟩, by simp only; omega⟩
  rw [ref_out _ _ _ ⟨t.val, ht⟩ h g (y 2) _ (by blk_simp [idx t] <;> (try omega)) (by blk_simp [idx t] <;> (try omega))
    (by blk_simp [idx t] <;> (try omega))]
  simp only [prob, score, top, raw, seen]
  canon_tiles x hx
  all_goals
    open_payloads
    pointwise
    blk_point [iblk, V, idx t]
    all_goals omega

theorem point4 (c : Dev nD) (t : Fin cfg0.N) (y : S1x4x1024.Idx) :
    out0_4 (iblk m c 0 t) (iblk m c 1 t) (iblk m c 2 t) y
      = val_main_v29 (F := Ideal) (m ((c : Thread nD τ).loc main_arg0)) (m ((c : Thread nD τ).loc main_arg1))
          (((cfg0.win 4).blk t).view.emb y) := by
  have ht : t.val < 32 := lt_of_lt_of_eq t.isLt N_0
  rw [ref_mass _ _ ⟨t.val, ht⟩ (y 1) (y 2) _ (by blk_simp [idx t] <;> (try omega)) (by blk_simp [idx t] <;> (try omega))
    (by blk_simp [idx t] <;> (try omega))]
  simp only [prob, score, top, raw, seen]
  canon_tiles x hx
  all_goals
    open_payloads
    pointwise
    blk_point [iblk, V, idx t]
    all_goals omega

/-! ## The two arrays after the run -/

theorem final3 (c : Dev nD) : (dats m 0 c).arrAt 3 (cfgs 0).N
    = val_main_v28 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  exact point3 m c t y

theorem final4 (c : Dev nD) : (dats m 0 c).arrAt 4 (cfgs 0).N
    = val_main_v29 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  exact point4 m c t y

end Cert.CmpAttnIdeal.Val
-- ==== Proof.CmpAttnClaim.lean ====
module

public import proofs.«01_k».proof.Defs
public import proofs.«01_k».proof.Proof.CmpAttn
public import Idealize.ShloMosaic.Lib.Claim

@[expose] public section

set_option maxRecDepth 16384

noncomputable section

open Idealize.ShloMosaic Idealize.ShloMosaic.TcCoe Idealize.SL.Sem

namespace Cert.Parts

theorem cmpAttnRef_frame : Cert.quiescent_CmpAttnRefIdeal := fun m g _ =>
  (θ_run Cert.CmpAttnRefIdeal.defs _ _).mono (fun r h => ⟨fun c => (h c).2.2, sem_eq_zero_of_no_sems (by decide) r.2⟩)
    (Cert.CmpAttnRefIdeal.Value.run m g)

theorem cmpAttn_algebraic : Cert.algebraic_CmpAttnIdeal_CmpAttnRefIdeal := by
  pair_intro
  · run_from Cert.CmpAttnIdeal.Gen.run_main m g
  · refine (θ_run _ _ _).mono (fun _ h c => ⟨(h c).1.trans ?_, (h c).2.1.trans ?_, (h c).2.2⟩)
      (Cert.CmpAttnRefIdeal.Value.run m' g')
    · rw [Cert.CmpAttnRefIdeal.Read.val_main_v28_eq, (hagree c).1, (hagree c).2.1, (hagree c).2.2]
      exact (Cert.CmpAttnIdeal.Val.final3 m c).symm
    · rw [Cert.CmpAttnRefIdeal.Read.val_main_v29_eq, (hagree c).1, (hagree c).2.1]
      exact (Cert.CmpAttnIdeal.Val.final4 m c).symm

end Cert.Parts
-- ==== Proof.Last.lean ====
module

public import Idealize.ShloMosaic.Lib.Pipeline.ValueKit

/-! An output array some of whose blocks are written back several times: every element ends at what the last of the
    points that wrote it left there. -/

@[expose] public section

noncomputable section

namespace Cert.Last

open Idealize.ShloMosaic Idealize.ShloMosaic.TcCoe Idealize.SL.Sem
open Idealize.ShloMosaic.Pipeline

variable {nD : Nat} {τ : Topo} {sig : RefSig} {Val : EltTy → Type}
variable {Ix : Type} [DecidableEq Ix] {Name : Type} [DecidableEq Name] {U : Type} [Idealize.SL.RA.URA U] {Lvl : Type}
variable {Λ₀ : Idealize.SL.Sem.Labels} {cfg : Cfg sig Λ₀} {c : Dev nD} (dat : Dat τ Val Ix Name U Lvl cfg c)

/-- If from the point `t` on, which writes the element `i`, every write of `i` leaves `G i`, the array holds `G i` after
    any later point. -/
theorem apply_of_from (w : Fin cfg.W) (G : Buf Val ((cfg.win w).arr.view.loc (c.tc : Thread nD τ)))
    (t : Fin cfg.N) (i : ((cfg.win w).arr.view.loc (c.tc : Thread nD τ)).2.ty.Idx)
    (hf : (cfg.win w).flush t = true) (hi : i ∈ ((cfg.win w).blk t).view.set)
    (hG : ∀ u : Fin cfg.N, t ≤ u → (cfg.win w).flush u = true → ∀ y : ((cfg.win w).xblock (cfg.grid.coords u)).Idx,
      ((cfg.win w).blk u).view.emb y = i →
      _root_.cast (congrArg Val ((cfg.win w).blk u).view.elt_eq.symm) (dat.after w u ((cfg.win w).xinj (cfg.grid.coords u) y))
        = G (((cfg.win w).blk u).view.emb y)) (k : ℕ) : dat.arrAt w (t.val + 1 + k) i = G i := by
  have step : ∀ n, t.val ≤ n → (n = t.val ∨ dat.arrAt w n i = G i) → dat.arrAt w (n + 1) i = G i := by
    intro n hn h
    rw [dat.arrAt_succ_apply]
    split
    · rename_i hlt
      split
      · rename_i hfn
        by_cases hin : i ∈ ((cfg.win w).blk ⟨n, hlt⟩).view.set
        · obtain ⟨y, -, hy⟩ := Finset.mem_map.mp hin
          have hw := hG ⟨n, hlt⟩ hn hfn y hy
          subst hy
          rw [View.write_emb_of_mem _ _ (Finset.mem_univ y)]
          exact hw
        · rw [View.write_of_not_mem _ _ _ (by rwa [View.setOn_univ])]
          rcases h with e | h
          · subst e; exact absurd hi hin
          · exact h
      · rename_i hfn
        rcases h with e | h
        · subst e; exact absurd hf hfn
        · exact h
    · rename_i hlt
      rcases h with e | h
      · subst e; exact absurd t.isLt hlt
      · exact h
  induction k with
  | zero => exact step t.val le_rfl (Or.inl rfl)
  | succ k ih => exact step (t.val + 1 + k) (by omega) (Or.inr ih)

/-- The array after the run, from the points `L` that write each element last. -/
theorem arrAt_eq (w : Fin cfg.W) (G : Buf Val ((cfg.win w).arr.view.loc (c.tc : Thread nD τ))) (L : Fin cfg.N → Prop)
    (hcov : ∀ i : ((cfg.win w).arr.view.loc (c.tc : Thread nD τ)).2.ty.Idx, ∃ t : Fin cfg.N, (cfg.win w).flush t = true ∧
      i ∈ ((cfg.win w).blk t).view.set ∧ ∀ u : Fin cfg.N, t ≤ u → i ∈ ((cfg.win w).blk u).view.set → L u)
    (hG : ∀ u, L u → ∀ y : ((cfg.win w).xblock (cfg.grid.coords u)).Idx,
      _root_.cast (congrArg Val ((cfg.win w).blk u).view.elt_eq.symm) (dat.after w u ((cfg.win w).xinj (cfg.grid.coords u) y))
        = G (((cfg.win w).blk u).view.emb y)) :
    dat.arrAt w cfg.N = G := by
  funext i
  obtain ⟨t, hf, hi, hL⟩ := hcov i
  have h := apply_of_from dat w G t i hf hi (fun u hu _ y hy => hG u (hL u hu (hy ▸ ((cfg.win w).blk u).view.emb_mem_set y)) y)
    (cfg.N - (t.val + 1))
  rwa [show t.val + 1 + (cfg.N - (t.val + 1)) = cfg.N by have := t.isLt; omega] at h

end Cert.Last
-- ==== Proof.Ffn.lean ====
module

public import proofs.«01_k».proof.Proof.Gen.FfnIdeal.Frame
public import proofs.«01_k».proof.Proof.Gen.FfnRefIdeal.Read
public import proofs.«01_k».proof.Proof.Last
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnIdeal.Val

open Cert.FfnIdeal Cert.FfnIdeal.Gen
open Cert.FfnRefIdeal.Read

variable (m : (ℓ : Loc nD τ sig) → Buf (Elt Ideal) ℓ)

theorem idx : ∀ t : Fin cfg0.N, win0_0.index t = ![t.val / 12, 0] ∧ win0_1.index t = ![t.val / 12 * 64 - 1, 0]
    ∧ win0_2.index t = ![0, 0] ∧ win0_3.index t = ![0, t.val % 12] ∧ win0_4.index t = ![0, 12 + t.val % 12]
    ∧ win0_5.index t = ![0, t.val % 12] ∧ win0_6.index t = ![0, t.val % 12] ∧ win0_7.index t = ![t.val % 12, 0]
    ∧ win0_8.index t = ![t.val / 12, 0] ∧ win0_9.index t = ![t.val / 48, 0, t.val % 12] :=
  (by decide +kernel : ∀ t : Fin grid0.N, _)

/-! ## The arrays the blocks are cut from, and the blocks -/

theorem V_tap0 (c : Dev nD) (l : Fin 6144) : V m c main_v0 (ix2 0 l) = m ((c : Thread nD τ).loc main_arg3) (ix2 0 l) := by
  simp only [V, hostOps0, hostOps0_1, hostOps0_2, List.flatten_cons, List.flatten_nil, List.append_nil, List.cons_append,
    List.nil_append]
  after_reads_at

theorem V_tap1 (c : Dev nD) (l : Fin 6144) : V m c main_v0 (ix2 1 l) = m ((c : Thread nD τ).loc main_arg3) (ix2 1 l) := by
  simp only [V, hostOps0, hostOps0_1, hostOps0_2, List.flatten_cons, List.flatten_nil, List.append_nil, List.cons_append,
    List.nil_append]
  after_reads_at

theorem V_tap2 (c : Dev nD) (l : Fin 6144) : V m c main_v0 (ix2 2 l) = m ((c : Thread nD τ).loc main_arg3) (ix2 2 l) := by
  simp only [V, hostOps0, hostOps0_1, hostOps0_2, List.flatten_cons, List.flatten_nil, List.append_nil, List.cons_append,
    List.nil_append]
  after_reads_at

theorem V_gain (c : Dev nD) (l : Fin 2048) : V m c main_v1 (ix2 0 l) = m ((c : Thread nD τ).loc main_arg1) (ix1 l) := by
  simp only [V, hostOps0, hostOps0_1, hostOps0_2, List.flatten_cons, List.flatten_nil, List.append_nil, List.cons_append,
    List.nil_append]
  after_reads_at

theorem V_up (c : Dev nD) (k : Fin 2048) (l : Fin 12288) : V m c main_v2 (ix2 k l) = m ((c : Thread nD τ).loc main_arg2) (ix2 k l) := by
  simp only [V, hostOps0, hostOps0_1, hostOps0_2, List.flatten_cons, List.flatten_nil, List.append_nil, List.cons_append,
    List.nil_append]
  after_reads_at

theorem V_bias (c : Dev nD) (l : Fin 6144) : V m c main_v3 (ix2 0 l) = m ((c : Thread nD τ).loc main_arg4) (ix1 l) := by
  simp only [V, hostOps0, hostOps0_1, hostOps0_2, List.flatten_cons, List.flatten_nil, List.append_nil, List.cons_append,
    List.nil_append]
  after_reads_at

theorem V_down (c : Dev nD) (k : Fin 6144) (l : Fin 2048) : V m c main_v4 (ix2 k l) = m ((c : Thread nD τ).loc main_arg5) (ix2 k l) := by
  simp only [V, hostOps0, hostOps0_1, hostOps0_2, List.flatten_cons, List.flatten_nil, List.append_nil, List.cons_append,
    List.nil_append]
  after_reads_at

theorem b0 (c : Dev nD) (t : Fin cfg0.N) (ht : t.val < 384) (r : Fin 512) (k : Fin 2048) :
    iblk m c 0 t (ix2 r k) = m ((c : Thread nD τ).loc main_arg0) (ix2 ⟨512 * (t.val / 12) + r, by omega⟩ k) :=
  (show iblk m c 0 t (ix2 r k) = V m c main_arg0 (ix2 ⟨512 * (t.val / 12) + r, by omega⟩ k) by blk_point [iblk, idx t]).trans (congrFun (V_main_arg0 m c) _)

theorem b1 (c : Dev nD) (t : Fin cfg0.N) (ht : t.val < 384) (h : ¬ t.val / 12 % 4 = 0) (r : Fin 8) (k : Fin 2048) :
    iblk m c 1 t (ix2 r k) = m ((c : Thread nD τ).loc main_arg0) (ix2 ⟨512 * (t.val / 12) + r - 8, by omega⟩ k) :=
  (show iblk m c 1 t (ix2 r k) = V m c main_arg0 (ix2 ⟨512 * (t.val / 12) + r - 8, by omega⟩ k) by blk_point [iblk, idx t]).trans (congrFun (V_main_arg0 m c) _)

theorem b2 (c : Dev nD) (t : Fin cfg0.N) (ht : t.val < 384) (k : Fin 2048) :
    iblk m c 2 t (ix2 0 k) = m ((c : Thread nD τ).loc main_arg1) (ix1 k) :=
  (show iblk m c 2 t (ix2 0 k) = V m c main_v1 (ix2 0 k) by blk_point [iblk, idx t]).trans (V_gain m c k)

theorem b3 (c : Dev nD) (t : Fin cfg0.N) (ht : t.val < 384) (k : Fin 2048) (f : Fin 512) :
    iblk m c 3 t (ix2 k f) = m ((c : Thread nD τ).loc main_arg2) (ix2 k ⟨512 * (t.val % 12) + f, by omega⟩) :=
  (show iblk m c 3 t (ix2 k f) = V m c main_v2 (ix2 k ⟨512 * (t.val % 12) + f, by omega⟩) by blk_point [iblk, idx t]).trans (V_up m c _ _)

theorem b4 (c : Dev nD) (t : Fin cfg0.N) (ht : t.val < 384) (k : Fin 2048) (f : Fin 512) :
    iblk m c 4 t (ix2 k f) = m ((c : Thread nD τ).loc main_arg2) (ix2 k ⟨6144 + (512 * (t.val % 12) + f), by omega⟩) :=
  (show iblk m c 4 t (ix2 k f) = V m c main_v2 (ix2 k ⟨6144 + (512 * (t.val % 12) + f), by omega⟩) by blk_point [iblk, idx t]).trans (V_up m c _ _)

theorem b5_0 (c : Dev nD) (t : Fin cfg0.N) (ht : t.val < 384) (f : Fin 512) :
    iblk m c 5 t (ix2 0 f) = m ((c : Thread nD τ).loc main_arg3) (ix2 0 ⟨512 * (t.val % 12) + f, by omega⟩) :=
  (show iblk m c 5 t (ix2 0 f) = V m c main_v0 (ix2 0 ⟨512 * (t.val % 12) + f, by omega⟩) by blk_point [iblk, idx t]).trans (V_tap0 m c _)

theorem b5_1 (c : Dev nD) (t : Fin cfg0.N) (ht : t.val < 384) (f : Fin 512) :
    iblk m c 5 t (ix2 1 f) = m ((c : Thread nD τ).loc main_arg3) (ix2 1 ⟨512 * (t.val % 12) + f, by omega⟩) :=
  (show iblk m c 5 t (ix2 1 f) = V m c main_v0 (ix2 1 ⟨512 * (t.val % 12) + f, by omega⟩) by blk_point [iblk, idx t]).trans (V_tap1 m c _)

theorem b5_2 (c : Dev nD) (t : Fin cfg0.N) (ht : t.val < 384) (f : Fin 512) :
    iblk m c 5 t (ix2 2 f) = m ((c : Thread nD τ).loc main_arg3) (ix2 2 ⟨512 * (t.val % 12) + f, by omega⟩) :=
  (show iblk m c 5 t (ix2 2 f) = V m c main_v0 (ix2 2 ⟨512 * (t.val % 12) + f, by omega⟩) by blk_point [iblk, idx t]).trans (V_tap2 m c _)

theorem b6 (c : Dev nD) (t : Fin cfg0.N) (ht : t.val < 384) (f : Fin 512) :
    iblk m c 6 t (ix2 0 f) = m ((c : Thread nD τ).loc main_arg4) (ix1 ⟨512 * (t.val % 12) + f, by omega⟩) :=
  (show iblk m c 6 t (ix2 0 f) = V m c main_v3 (ix2 0 ⟨512 * (t.val % 12) + f, by omega⟩) by blk_point [iblk, idx t]).trans (V_bias m c _)

theorem b7 (c : Dev nD) (t : Fin cfg0.N) (ht : t.val < 384) (f : Fin 512) (d : Fin 2048) :
    iblk m c 7 t (ix2 f d) = m ((c : Thread nD τ).loc main_arg5) (ix2 ⟨512 * (t.val % 12) + f, by omega⟩ d) :=
  (show iblk m c 7 t (ix2 f d) = V m c main_v4 (ix2 ⟨512 * (t.val % 12) + f, by omega⟩ d) by blk_point [iblk, idx t]).trans (V_down m c _ _)

/-- A row of the input under RMSNorm. -/
def nrm (x : FVec Ideal Cert.FfnRefIdeal.S16384x2048 .f32) (g : FVec Ideal Cert.FfnRefIdeal.S2048 .f32)
    (i : Fin 16384) (k : Fin 2048) : EReal :=
  x (ix2 i k) * Ideal.rsqrt (Ideal.div (∑ l : Fin 2048, x (ix2 i l) * x (ix2 i l)) (Ideal.ofBits FTy.f32 0x45000000#32)
    + Ideal.ofBits FTy.f32 0x358637BD#32) * g (ix1 k)

/-- The up-projection of a row. -/
def up (x : FVec Ideal Cert.FfnRefIdeal.S16384x2048 .f32) (g : FVec Ideal Cert.FfnRefIdeal.S2048 .f32)
    (w : FVec Ideal Cert.FfnRefIdeal.S2048x12288 .f32) (i : Fin 16384) (f : Fin 12288) : EReal :=
  ∑ k : Fin 2048, nrm x g i k * w (ix2 k f)

theorem co1 : ∀ t : Fin cfg0.N, (grid0.coords t 1).val = t.val / 12 % 4 :=
  (by decide +kernel : ∀ t : Fin grid0.N, _)

theorem ref_up (x : FVec Ideal Cert.FfnRefIdeal.S16384x2048 .f32) (g : FVec Ideal Cert.FfnRefIdeal.S2048 .f32)
    (w : FVec Ideal Cert.FfnRefIdeal.S2048x12288 .f32) (b : Fin 8) (s : Fin 2048) (f : Fin 12288) :
    val_main_v14 (F := Ideal) x g w (ix3 b s f) = up x g w ⟨2048 * b + s, by omega⟩ f := by
  have e : ∀ l : Fin 2048, val_main_v0 (F := Ideal) x (ix3 b s l) = x (ix2 ⟨2048 * b + s, by omega⟩ l) := by
    intro l
    pointwise [val_main_v0]
    blk_point []
  unfold up nrm
  pointwise [val_main_v14, val_main_v13, val_main_v12, val_main_v11, val_main_v10, val_main_v9, val_main_v8, val_main_v7,
    val_main_v6, val_main_v5, val_main_v4, val_main_v3, val_main_v2, val_main_v1, val_main_cst, val_main_cst_0,
    val_main_cst_1]
  simp only [e]

/-- The history of two zero rows, then the rows' gate halves. -/
theorem ref_full (x : FVec Ideal Cert.FfnRefIdeal.S16384x2048 .f32) (g : FVec Ideal Cert.FfnRefIdeal.S2048 .f32)
    (w : FVec Ideal Cert.FfnRefIdeal.S2048x12288 .f32) (b : Fin 8) (s : Fin 2050) (f : Fin 6144) :
    val_main_v18 (F := Ideal) x g w (ix3 b s f)
      = if h : s.val < 2 then 0 else up x g w ⟨2048 * b + (s - 2), by omega⟩ ⟨f, by omega⟩ := by
  pointwise [val_main_v18, val_main_v17, val_main_v15, val_main_cst_2]
  split
  · rfl
  · exact ref_up x g w b ⟨s - 2, by omega⟩ ⟨f, by omega⟩

/-- The scratch's rows: the eight rows before the block (zero at a sequence's start), then the block's. -/
def scr (x : FVec Ideal Cert.FfnRefIdeal.S16384x2048 .f32) (g : FVec Ideal Cert.FfnRefIdeal.S2048 .f32)
    (u : ℕ) (hu : u < 32) (r : Fin 520) (k : Fin 2048) : EReal :=
  if r.val < 8 ∧ u % 4 = 0 then 0 else nrm x g ⟨512 * u + r - 8, by omega⟩ k

/-- The eight rows before the block, normalised (zero at a sequence's start). -/
theorem pay5z (t : Fin cfg0.N) (x : Vec Ideal S8x2048 .f32) (g : Vec Ideal S1x2048 .f32) (r : Fin 8) (k : Fin 2048) :
    k0_pay5 (F := Ideal) (BitVec.ofNat 32 ↑(grid0.coords t 1)) x g (ix2 r k) = if t.val / 12 % 4 = 0 then 0 else
      x (ix2 r k) * Ideal.rsqrt (Ideal.div (∑ l : Fin 2048, x (ix2 r l) * x (ix2 r l)) (Ideal.ofBits FTy.f32 0x45000000#32)
    + Ideal.ofBits FTy.f32 0x358637BD#32) * g (ix2 0 k) := by
  rw [co1 t]
  pointwise [k0_pay5]
  have h4 : t.val / 12 % 4 < 4 := Nat.mod_lt _ (by omega)
  generalize t.val / 12 % 4 = n at h4
  interval_cases n <;> rfl

theorem cover (A : Vec Ideal S512x2048 .bf16) (B : Vec Ideal S8x2048 .bf16) (y : S520x2048.Idx) :
    ∃ p ∈ ([⟨Rect.unit ![8, 0] ![512, 2048] inb_S520x2048_S512x2048_8_0, A⟩,
      ⟨Rect.unit ![0, 0] ![8, 2048] inb_S520x2048_S8x2048_0_0, B⟩] : List (View.Piece (Elt Ideal) S520x2048 .bf16)), y ∈ p.1.set :=
  View.cover_of_tiledBy _ ![8, 2048] (by sl_kernel_rfl) y

/-- The scratch a block's first point fills, at an index. -/
theorem fill (c : Dev nD) (t : Fin cfg0.N) (hu : t.val / 12 < 32) (r : Fin 520) (k : Fin 2048) :
    View.canon (Val := Elt Ideal) (s := S520x2048) (e := .bf16)
      [⟨Rect.unit ![8, 0] ![512, 2048] inb_S520x2048_S512x2048_8_0, k0_pay7 (F := Ideal) (k0_pay6 (iblk m c 0 t) (iblk m c 2 t))⟩,
        ⟨Rect.unit ![0, 0] ![8, 2048] inb_S520x2048_S8x2048_0_0,
          k0_pay5 (BitVec.ofNat 32 ↑(grid0.coords t 1)) (iblk m c 1 t) (iblk m c 2 t)⟩]
      (ix2 r k) = scr (m ((c : Thread nD τ).loc main_arg0)) (m ((c : Thread nD τ).loc main_arg1)) (t.val / 12) hu r k := by
  have ht : t.val < 384 := lt_of_lt_of_eq t.isLt N_0
  canon_tiles x hx using cover _ _ _
  · idx_vars x
    have hr : r = ⟨8 + x0, by clear hx0; omega⟩ := Fin.ext hx0
    have hk : k = x1 := Fin.ext hx1
    rw [hr, hk]
    clear hr hk hx0 hx1
    unfold scr nrm
    rw [if_neg (by simp only; omega)]
    pointwise [k0_pay7, k0_pay6]
    simp only [b0 m c t ht, b2 m c t ht]
    have e : (⟨512 * (t.val / 12) + (8 + x0.val) - 8, by omega⟩ : Fin 16384) = ⟨512 * (t.val / 12) + x0, by omega⟩ :=
      Fin.ext (by simp only; omega)
    rw [e]
  · idx_vars x
    have hr : r = ⟨x0, by clear hx0; omega⟩ := Fin.ext hx0
    have hk : k = x1 := Fin.ext hx1
    rw [hr, hk]
    clear hr hk hx0 hx1
    unfold scr nrm
    rw [pay5z]
    have h8 := x0.isLt
    by_cases h : t.val / 12 % 4 = 0
    · rw [if_pos h, if_pos ⟨h8, h⟩]
    · rw [if_neg h, if_neg (fun q => h q.2)]
      simp only [b1 m c t ht h, b2 m c t ht]

theorem pay8_apply (s : Vec Ideal S520x2048 .bf16) (w : Vec Ideal S2048x512 .bf16) (r : Fin 520) (f : Fin 512) :
    k0_pay8 (F := Ideal) s w (ix2 r f) = ∑ k : Fin 2048, s (ix2 r k) * w (ix2 k f) := by
  pointwise [k0_pay8]

theorem pay9_apply (s : Vec Ideal S512x2048 .bf16) (w : Vec Ideal S2048x512 .bf16) (r : Fin 512) (f : Fin 512) :
    k0_pay9 (F := Ideal) s w (ix2 r f) = ∑ k : Fin 2048, s (ix2 r k) * w (ix2 k f) := by
  pointwise [k0_pay9]

/-- A row of the gate half of the up-projected scratch. -/
def arow (x : FVec Ideal Cert.FfnRefIdeal.S16384x2048 .f32) (g : FVec Ideal Cert.FfnRefIdeal.S2048 .f32)
    (w : FVec Ideal Cert.FfnRefIdeal.S2048x12288 .f32) (u : ℕ) (hu : u < 32) (r : Fin 520) (f : Fin 12288) : EReal :=
  ∑ k : Fin 2048, scr x g u hu r k * w (ix2 k f)

theorem arow_full (x : FVec Ideal Cert.FfnRefIdeal.S16384x2048 .f32) (g : FVec Ideal Cert.FfnRefIdeal.S2048 .f32)
    (w : FVec Ideal Cert.FfnRefIdeal.S2048x12288 .f32) (u : ℕ) (hu : u < 32) (p : Fin 512) (q : ℕ) (hq : q < 3)
    (f : Fin 6144) (hf : f.val < 12288) :
    arow x g w u hu ⟨6 + p + q, by omega⟩ ⟨f, hf⟩
      = val_main_v18 (F := Ideal) x g w (ix3 ⟨u / 4, by omega⟩ ⟨512 * (u % 4) + p + q, by omega⟩ f) := by
  rw [ref_full]
  unfold arow scr up
  by_cases h : 6 + p.val + q < 8 ∧ u % 4 = 0
  · rw [dif_pos (by simp only; omega)]
    simp only [h, and_self, if_true, zero_mul, Finset.sum_const_zero]
  · rw [dif_neg (by simp only; omega)]
    simp only [h, if_false]
    have e : (⟨512 * u + (6 + p.val + q) - 8, by omega⟩ : Fin 16384)
      = ⟨2048 * (u / 4) + (512 * (u % 4) + p + q - 2), by omega⟩ := Fin.ext (by simp only; omega)
    rw [e]

theorem arow_up (x : FVec Ideal Cert.FfnRefIdeal.S16384x2048 .f32) (g : FVec Ideal Cert.FfnRefIdeal.S2048 .f32)
    (w : FVec Ideal Cert.FfnRefIdeal.S2048x12288 .f32) (u : ℕ) (hu : u < 32) (p : Fin 512) (f : Fin 12288) :
    arow x g w u hu ⟨8 + p, by omega⟩ f
      = val_main_v14 (F := Ideal) x g w (ix3 ⟨u / 4, by omega⟩ ⟨512 * (u % 4) + p, by omega⟩ f) := by
  rw [ref_up]
  unfold arow scr up
  rw [show (⟨2048 * (u / 4) + (512 * (u % 4) + p), by omega⟩ : Fin 16384) = ⟨512 * u + (8 + p) - 8, by omega⟩ from
    Fin.ext (by simp only; omega)]
  refine Finset.sum_congr rfl fun k _ => ?_
  rw [if_neg (by simp only; omega)]

/-- One point's part of the down-projection, over a scratch holding the block's rows. -/
theorem update (c : Dev nD) (t : Fin cfg0.N) (ht : t.val < 384) (s : Vec Ideal S520x2048 .bf16) (s' : Vec Ideal S512x2048 .bf16)
    (hs : ∀ r k, s (ix2 r k) = scr (m ((c : Thread nD τ).loc main_arg0)) (m ((c : Thread nD τ).loc main_arg1)) (t.val / 12) (by omega) r k)
    (hs' : ∀ (r : Fin 512) (k : Fin 2048), s' (ix2 r k) = s (ix2 ⟨8 + r, by omega⟩ k)) (p : Fin 512) (d : Fin 2048) :
    k0_pay1 (F := Ideal) (k0_pay9 s' (iblk m c 4 t))
      (k0_pay10 s
        (iblk m c 3 t) (View.ld (iblk m c 5 t) (Rect.unit ![0, 0] ![1, 512] inb_S8x512_S1x512_0_0))
        (View.ld (iblk m c 5 t) (Rect.unit ![1, 0] ![1, 512] inb_S8x512_S1x512_1_0))
        (View.ld (iblk m c 5 t) (Rect.unit ![2, 0] ![1, 512] inb_S8x512_S1x512_2_0)) (iblk m c 6 t))
      k0_pay11 (iblk m c 7 t) (ix2 p d)
      = ∑ f : Fin 512, val_main_v49 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (ix3 ⟨t.val / 48, by omega⟩ ⟨512 * (t.val / 12 % 4) + p, by omega⟩ ⟨512 * (t.val % 12) + f, by omega⟩)
          * (m ((c : Thread nD τ).loc main_arg5)) (ix2 ⟨512 * (t.val % 12) + f, by omega⟩ d) := by
  have ha : ∀ (r : Fin 520) (f : Fin 512), k0_pay8 (F := Ideal) s (iblk m c 3 t) (ix2 r f)
      = arow (m ((c : Thread nD τ).loc main_arg0)) (m ((c : Thread nD τ).loc main_arg1)) (m ((c : Thread nD τ).loc main_arg2))
        (t.val / 12) (by omega) r ⟨512 * (t.val % 12) + f, by omega⟩ := by
    intro r f
    rw [pay8_apply]
    unfold arow
    simp only [hs, b3 m c t ht]
  have hb : ∀ (r : Fin 512) (f : Fin 512), k0_pay9 (F := Ideal) s' (iblk m c 4 t) (ix2 r f)
      = val_main_v14 (F := Ideal) (m ((c : Thread nD τ).loc main_arg0)) (m ((c : Thread nD τ).loc main_arg1)) (m ((c : Thread nD τ).loc main_arg2))
        (ix3 ⟨t.val / 48, by omega⟩ ⟨512 * (t.val / 12 % 4) + r, by omega⟩ ⟨6144 + (512 * (t.val % 12) + f), by omega⟩) := by
    intro r f
    rw [pay9_apply]
    have h := arow_up (m ((c : Thread nD τ).loc main_arg0)) (m ((c : Thread nD τ).loc main_arg1)) (m ((c : Thread nD τ).loc main_arg2))
      (t.val / 12) (by omega) r ⟨6144 + (512 * (t.val % 12) + f), by omega⟩
    simp only [Nat.div_div_eq_div_mul, Nat.reduceMul] at h
    rw [← h]
    unfold arow
    simp only [hs', hs, b4 m c t ht]
  have hc : ∀ (q : ℕ) (hq : q < 3) (p : Fin 512) (f : Fin 512) (r : Fin 520), r.val = 6 + p + q →
      k0_pay8 (F := Ideal) s (iblk m c 3 t) (ix2 r f)
      = val_main_v18 (F := Ideal) (m ((c : Thread nD τ).loc main_arg0)) (m ((c : Thread nD τ).loc main_arg1)) (m ((c : Thread nD τ).loc main_arg2))
        (ix3 ⟨t.val / 48, by omega⟩ ⟨512 * (t.val / 12 % 4) + p + q, by omega⟩ ⟨512 * (t.val % 12) + f, by omega⟩) := by
    intro q hq p f r hr
    have h := arow_full (m ((c : Thread nD τ).loc main_arg0)) (m ((c : Thread nD τ).loc main_arg1)) (m ((c : Thread nD τ).loc main_arg2))
      (t.val / 12) (by omega) p q hq ⟨512 * (t.val % 12) + f, by omega⟩ (by simp only; omega)
    simp only [Nat.div_div_eq_div_mul, Nat.reduceMul] at h
    rw [ha, ← h]
    congr 1
    exact Fin.ext hr
  pointwise [k0_pay1, k0_pay10, k0_pay11, val_main_v49, val_main_v48, val_main_v47, val_main_v46, val_main_v45, val_main_v44, val_main_v43, val_main_v42, val_main_v41,
    val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_v22, val_main_v21, val_main_v20, val_main_v19, val_main_v16, val_main_cst_3, val_main_cst_4]
  refine Finset.sum_congr rfl fun f _ => ?_
  have h0 := hc 0 (by omega) p f ⟨(8 + p.val + 520 - 2) % 520, by omega⟩ (by simp only; omega)
  have h1 := hc 1 (by omega) p f ⟨(8 + p.val + 520 - 1) % 520, by omega⟩ (by simp only; omega)
  have h2 := hc 2 (by omega) p f ⟨8 + p.val, by omega⟩ (by simp only; omega)
  rw [h0, h1, h2, hb]
  simp only [neg_mul, Ideal.erfc_neg, Ideal.erf_def]
  have g0 : (⟨1 + (512 * (t.val / 12 % 4) + p.val), by omega⟩ : Fin 2050) = ⟨512 * (t.val / 12 % 4) + p + 1, by omega⟩ :=
    Fin.ext (by simp only; omega)
  have g1 : (⟨2 + (512 * (t.val / 12 % 4) + p.val), by omega⟩ : Fin 2050) = ⟨512 * (t.val / 12 % 4) + p + 2, by omega⟩ :=
    Fin.ext (by simp only; omega)
  rw [g0, g1, b5_0 m c t ht, b5_1 m c t ht, b5_2 m c t ht, b6 m c t ht, b7 m c t ht]
  simp only [Nat.add_zero]

theorem ref_out (x0 : FVec Ideal Cert.FfnRefIdeal.S16384x2048 .f32) (x1 : FVec Ideal Cert.FfnRefIdeal.S2048 .f32)
    (x2 : FVec Ideal Cert.FfnRefIdeal.S2048x12288 .f32) (x3 : FVec Ideal Cert.FfnRefIdeal.S3x6144 .f32)
    (x4 : FVec Ideal Cert.FfnRefIdeal.S6144 .f32) (x5 : FVec Ideal Cert.FfnRefIdeal.S6144x2048 .f32)
    (i : Fin 16384) (d : Fin 2048) :
    val_main_v52 (F := Ideal) x0 x1 x2 x3 x4 x5 (ix2 i d) = x0 (ix2 i d)
      + ∑ f : Fin 6144, val_main_v49 (F := Ideal) x0 x1 x2 x3 x4 (ix3 ⟨i / 2048, by omega⟩ ⟨i % 2048, by omega⟩ f) * x5 (ix2 f d) := by
  pointwise [val_main_v52, val_main_v51, val_main_v50, val_main_v0]

/-- What a point adds to the output block. -/
def add (c : Dev nD) (t : Fin cfg0.N) (ht : t.val < 384) (p : Fin 512) (d : Fin 2048) : EReal :=
  ∑ f : Fin 512, val_main_v49 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (ix3 ⟨t.val / 48, by omega⟩ ⟨512 * (t.val / 12 % 4) + p, by omega⟩ ⟨512 * (t.val % 12) + f, by omega⟩)
    * (m ((c : Thread nD τ).loc main_arg5)) (ix2 ⟨512 * (t.val % 12) + f, by omega⟩ d)

theorem lt384 (t : Fin cfg0.N) : t.val < 384 := lt_of_lt_of_eq t.isLt N_0

/-- After every point the scratch holds its block's rows. -/
theorem carry (c : Dev nD) (n : ℕ) (hn : n < cfg0.N) (hu : n / 12 < 32) (r : Fin 520) (k : Fin 2048) :
    (outsAt0 m c n hn).2.2 (ix2 r k)
      = scr (m ((c : Thread nD τ).loc main_arg0)) (m ((c : Thread nD τ).loc main_arg1)) (n / 12) hu r k := by
  induction n with
  | zero =>
    rw [outsAt0_A m c ⟨0, hn⟩ rfl rfl (by simp only; omega)]
    frame_out
    exact fill m c ⟨0, hn⟩ hu r k
  | succ n ih =>
    by_cases h : (n + 1) % 12 = 0
    · rw [outsAt0_A m c ⟨n + 1, hn⟩ h h (by simp only; omega)]
      frame_out
      exact fill m c ⟨n + 1, hn⟩ hu r k
    · rw [outsAt0_B m c ⟨n + 1, hn⟩ h h (by simp only; omega)]
      have e : (n + 1) / 12 = n / 12 := by omega
      refine (ih (Nat.lt_of_succ_lt hn) (by omega)).trans ?_
      simp only [e]

theorem pay2_apply (v10 v31 v32 : FVec Ideal S512x512 .f32) (w : Vec Ideal S512x2048 .bf16) (x : Vec Ideal S512x2048 .f32) (y : S512x2048.Idx) :
    k0_pay2 (F := Ideal) v10 v31 v32 w x y = x y + k0_pay1 (F := Ideal) v10 v31 v32 w y := by
  idx_vars y
  pointwise [k0_pay2]

theorem pay3_apply (v10 v31 v32 : FVec Ideal S512x512 .f32) (w : Vec Ideal S512x2048 .bf16) (x : Vec Ideal S512x2048 .f32) (y : S512x2048.Idx) :
    k0_pay3 (F := Ideal) v10 v31 v32 w x y = x y + k0_pay1 (F := Ideal) v10 v31 v32 w y := by
  idx_vars y
  pointwise [k0_pay3]

theorem idx_rows (r : Fin 512) (k : Fin 2048) :
    (Rect.unit ![8, 0] ![512, 2048] inb_S520x2048_S512x2048_8_0).idx (ix2 r k) = (ix2 ⟨8 + r, by omega⟩ k : S520x2048.Idx) := by
  funext a
  refine Fin.ext ((Rect.idx_unit_val _ _ _ _ a).trans ?_)
  fin_cases a
  · rfl
  · exact Nat.zero_add _

theorem idx_all (r : Fin 520) (k : Fin 2048) :
    (Rect.unit ![0, 0] ![520, 2048] inb_S520x2048_S520x2048_0_0).idx (ix2 r k) = (ix2 r k : S520x2048.Idx) := by
  funext a
  refine Fin.ext ((Rect.idx_unit_val _ _ _ _ a).trans ?_)
  fin_cases a <;> exact Nat.zero_add _

theorem ld_rows (s : Vec Ideal S520x2048 .bf16) (r : Fin 512) (k : Fin 2048) :
    View.ld s (Rect.unit ![8, 0] ![512, 2048] inb_S520x2048_S512x2048_8_0) (ix2 r k) = s (ix2 ⟨8 + r, by omega⟩ k) :=
  congrArg s (idx_rows r k)

theorem step0 (c : Dev nD) (t : Fin cfg0.N) (h : t.val % 12 = 0) (p : Fin 512) (d : Fin 2048) :
    (outsAt0 m c t.val t.isLt).1 (ix2 p d)
      = (show EReal from m ((c : Thread nD τ).loc main_arg0) (ix2 ⟨512 * (t.val / 12) + p, by have := lt384 t; omega⟩ d)) + add m c t (lt384 t) p d := by
  have ht := lt384 t
  rw [outsAt0_A m c t h h (by omega)]
  frame_out
  refine (pay2_apply _ _ _ _ _ _).trans (congrArg₂ (· + ·) (b0 m c t ht p d) ?_)
  refine update m c t ht _ _ (fun r k => ?_) (fun r k => ?_) p d
  · refine (congrFun (View.readCov_eq_canon' _ _ _) _).trans ?_
    exact (congrArg _ (idx_all r k)).trans (fill m c t (by omega) r k)
  · refine (congrFun (View.readCov_eq_canon' _ _ _) _).trans ?_
    refine Eq.trans ?_ (congrFun (View.readCov_eq_canon' _ _ _) _).symm
    exact congrArg _ ((idx_rows r k).trans (idx_all ⟨8 + r, by omega⟩ k).symm)

theorem step1 (c : Dev nD) (t : Fin cfg0.N) (h : ¬ t.val % 12 = 0) (p : Fin 512) (d : Fin 2048) :
    (outsAt0 m c t.val t.isLt).1 (ix2 p d)
      = (outsAt0 m c (t.val - 1) (lt_of_le_of_lt (Nat.sub_le _ _) t.isLt)).1 (ix2 p d) + add m c t (lt384 t) p d := by
  have ht := lt384 t
  rw [outsAt0_B m c t h h (by omega)]
  frame_out
  rw [pay3_apply, read_unread_whole]
  congr 1
  refine update m c t ht _ _ (fun r k => ?_) (fun r k => ld_rows _ r k) p d
  have e : (t.val - 1) / 12 = t.val / 12 := by omega
  refine (carry m c (t.val - 1) (lt_of_le_of_lt (Nat.sub_le _ _) t.isLt) (by omega) r k).trans ?_
  simp only [e]

theorem point8 (c : Dev nD) (t : Fin cfg0.N) (h : t.val % 12 = 11) (p : Fin 512) (d : Fin 2048) :
    (outsAt0 m c t.val t.isLt).1 (ix2 p d)
      = val_main_v52 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (ix2 ⟨512 * (t.val / 12) + p, by have := lt384 t; omega⟩ d) := by
  have ht := lt384 t
  let X : Fin cfg0.N → EReal := fun t => (m ((c : Thread nD τ).loc main_arg0)) (ix2 ⟨512 * (t.val / 12) + p, by have := lt384 t; omega⟩ d)
  have h' := Pipeline.eq_sum_fin_of_reset_step_apply_of_flush (ι := Unit) (fun n hn _ => (outsAt0 m c n hn).1 (ix2 p d)) 12
    (fun _ => (0 : EReal)) (fun t _ => (if t.val % 12 = 0 then X t else 0) + add m c t (lt384 t) p d)
    (fun t h _ => by simp only [h, if_true, zero_add]; exact step0 m c t h p d)
    (fun t h _ => by simp only [h, if_false, zero_add]; exact step1 m c t h p d) t h ()
  refine h'.trans ?_
  rw [zero_add, Finset.sum_add_distrib, ref_out]
  congr 1
  · rw [Finset.sum_eq_single (0 : Fin 12) (fun b _ hb => if_neg (by
      have : b.val ≠ 0 := fun e => hb (Fin.ext e)
      simp only
      omega)) (fun h => absurd (Finset.mem_univ _) h), if_pos (by simp only [Fin.val_zero]; omega)]
    simp only [X]
    congr 2
    exact Fin.ext (by simp only [Fin.val_zero]; omega)
  · refine Fin.sum_mul_add_congr fun j f hl => ?_
    have e0 : (⟨(12 * (t.val / 12) + j.val) / 48, by omega⟩ : Fin 8) = ⟨(512 * (t.val / 12) + p.val) / 2048, by omega⟩ :=
      Fin.ext (by simp only; omega)
    have e1 : (⟨512 * ((12 * (t.val / 12) + j.val) / 12 % 4) + p.val, by omega⟩ : Fin 2048)
      = ⟨(512 * (t.val / 12) + p.val) % 2048, by omega⟩ := Fin.ext (by simp only; omega)
    have e2 : (⟨512 * ((12 * (t.val / 12) + j.val) % 12) + f.val, by omega⟩ : Fin 6144) = ⟨j * 512 + f, hl⟩ :=
      Fin.ext (by simp only; omega)
    simp only [e0, e1, e2]

theorem final (c : Dev nD) : (dats m 0 c).arrAt 8 (cfgs 0).N
    = val_main_v52 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp
  rw [after0_8]
  have ht := lt384 t
  have h : t.val % 12 = 11 := (by decide +kernel : ∀ t : Fin grid0.N, win0_8.flush t = true → t.val % 12 = 11) t hf
  idx_vars y
  rw [point8 m c t h]
  blk_point [idx t]

theorem pay4_apply (v : FVec Ideal S520x512 .f32) (r : Fin 8) (f : Fin 512) :
    k0_pay4 (F := Ideal) v (ix3 0 r f) = v (ix2 ⟨512 + r, by omega⟩ f) := by
  pointwise [k0_pay4]

/-- The last eight rows of a block's gate half. -/
theorem point9 (c : Dev nD) (t : Fin cfg0.N) (r : Fin 8) (f : Fin 512) :
    (outsAt0 m c t.val t.isLt).2.1 (ix3 0 r f)
      = up (m ((c : Thread nD τ).loc main_arg0)) (m ((c : Thread nD τ).loc main_arg1)) (m ((c : Thread nD τ).loc main_arg2))
        ⟨512 * (t.val / 12) + 504 + r, by have := lt384 t; omega⟩ ⟨512 * (t.val % 12) + f, by omega⟩ := by
  have ht := lt384 t
  have key : ∀ s : Vec Ideal S520x2048 .bf16, (∀ r k, s (ix2 r k) = scr (m ((c : Thread nD τ).loc main_arg0)) (m ((c : Thread nD τ).loc main_arg1)) (t.val / 12) (by omega) r k) →
      k0_pay4 (F := Ideal) (k0_pay8 s (iblk m c 3 t)) (ix3 0 r f)
      = up (m ((c : Thread nD τ).loc main_arg0)) (m ((c : Thread nD τ).loc main_arg1)) (m ((c : Thread nD τ).loc main_arg2))
        ⟨512 * (t.val / 12) + 504 + r, by omega⟩ ⟨512 * (t.val % 12) + f, by omega⟩ := by
    intro s hs
    rw [pay4_apply, pay8_apply]
    unfold up
    simp only [hs, b3 m c t ht]
    refine Finset.sum_congr rfl fun k _ => ?_
    unfold scr
    rw [if_neg (by simp only; omega)]
    congr 2
    exact Fin.ext (by simp only; omega)
  by_cases h : t.val % 12 = 0
  · rw [outsAt0_A m c t h h (by omega)]
    frame_out
    refine key _ fun r k => ?_
    refine (congrFun (View.readCov_eq_canon' _ _ _) _).trans ?_
    exact (congrArg _ (idx_all r k)).trans (fill m c t (by omega) r k)
  · rw [outsAt0_B m c t h h (by omega)]
    frame_out
    rw [read_unread_whole]
    refine key _ fun r k => ?_
    have e : (t.val - 1) / 12 = t.val / 12 := by omega
    refine (carry m c (t.val - 1) (lt_of_le_of_lt (Nat.sub_le _ _) t.isLt) (by omega) r k).trans ?_
    simp only [e]

theorem ref_state (x : FVec Ideal Cert.FfnRefIdeal.S16384x2048 .f32) (g : FVec Ideal Cert.FfnRefIdeal.S2048 .f32)
    (w : FVec Ideal Cert.FfnRefIdeal.S2048x12288 .f32) (b : Fin 8) (r : Fin 8) (f : Fin 6144) :
    val_main_v53 (F := Ideal) x g w (ix3 b r f) = up x g w ⟨2048 * b + 2040 + r, by omega⟩ ⟨f, by omega⟩ := by
  pointwise [val_main_v53]
  rw [ref_full, dif_neg (by simp only; omega)]
  congr 1
  exact Fin.ext (by simp only; omega)

theorem final_state (c : Dev nD) : (dats m 0 c).arrAt 9 (cfgs 0).N
    = val_main_v53 (F := Ideal) (m ((c : Thread nD τ).loc main_arg0)) (m ((c : Thread nD τ).loc main_arg1))
    (m ((c : Thread nD τ).loc main_arg2)) := by
  refine Cert.Last.arrAt_eq (dats m 0 c) 9 _ (fun t => 36 ≤ t.val % 48) (fun i => ?_) (fun t hL y => ?_)
  · have i0 : (i 0 : ℕ) < 8 := (i 0).isLt
    have i1 : (i 1 : ℕ) < 8 := (i 1).isLt
    have i2 : (i 2 : ℕ) < 6144 := (i 2).isLt
    refine ⟨⟨48 * (i 0 : ℕ) + 36 + (i 2 : ℕ) / 512, by rw [show cfg0.N = 384 from N_0]; omega⟩,
      (by decide +kernel : ∀ t : Fin grid0.N, win0_9.flush t = true) _, ?_, fun u hu h => ?_⟩
    · mem_blk [idx _]
      all_goals simp only
      all_goals omega
    · mem_blk [idx u] at h
      have hu' : 48 * (i 0 : ℕ) + 36 + (i 2 : ℕ) / 512 ≤ u.val := hu
      omega
  · blk_simp
    rw [after0_9]
    have ht := lt384 t
    idx_vars y
    obtain rfl : y0 = 0 := Subsingleton.elim _ _
    rw [point9 m c t]
    refine Eq.trans ?_ (Eq.trans (ref_state (m ((c : Thread nD τ).loc main_arg0)) (m ((c : Thread nD τ).loc main_arg1)) (m ((c : Thread nD τ).loc main_arg2)) ⟨t.val / 48, by omega⟩ y1 ⟨512 * (t.val % 12) + y2, by omega⟩).symm ?_)
    · congr 1
      exact Fin.ext (by simp only; omega)
    · blk_point [idx t]

end Cert.FfnIdeal.Val
-- ==== Proof.FfnClaim.lean ====
module

public import proofs.«01_k».proof.Defs
public import proofs.«01_k».proof.Proof.Ffn
public import Idealize.ShloMosaic.Lib.Claim

@[expose] public section

set_option maxRecDepth 16384

noncomputable section

open Idealize.ShloMosaic Idealize.ShloMosaic.TcCoe Idealize.SL.Sem

namespace Cert.Parts

theorem ffnRef_frame : Cert.quiescent_FfnRefIdeal := fun m g _ =>
  (θ_run Cert.FfnRefIdeal.defs _ _).mono (fun r h => ⟨fun c => (h c).2.2, sem_eq_zero_of_no_sems (by decide) r.2⟩)
    (Cert.FfnRefIdeal.Value.run m g)

theorem ffn_algebraic : Cert.algebraic_FfnIdeal_FfnRefIdeal := by
  pair_intro
  · run_from Cert.FfnIdeal.Gen.run_main m g
    all_goals first | exact Cert.FfnIdeal.Gen.V_main_arg0 m c | exact Cert.FfnIdeal.Gen.V_main_arg1 m c | exact Cert.FfnIdeal.Gen.V_main_arg2 m c | exact Cert.FfnIdeal.Gen.V_main_arg3 m c | exact Cert.FfnIdeal.Gen.V_main_arg4 m c | exact Cert.FfnIdeal.Gen.V_main_arg5 m c
  · refine (θ_run _ _ _).mono (fun _ h c => ⟨(h c).1.trans ?_, (h c).2.1.trans ?_, (h c).2.2⟩)
      (Cert.FfnRefIdeal.Value.run m' g')
    · rw [Cert.FfnRefIdeal.Read.val_main_v52_eq, (hagree c).1, (hagree c).2.1, (hagree c).2.2.1, (hagree c).2.2.2.1, (hagree c).2.2.2.2.1, (hagree c).2.2.2.2.2]
      exact (Cert.FfnIdeal.Val.final m c).symm
    · rw [Cert.FfnRefIdeal.Read.val_main_v53_eq, (hagree c).1, (hagree c).2.1, (hagree c).2.2.1]
      exact (Cert.FfnIdeal.Val.final_state m c).symm

end Cert.Parts
-- ==== Proof.Raw.lean ====
module

public import proofs.«01_k».proof.Proof.Gen.RawIdeal.Frame
public import proofs.«01_k».proof.Proof.Gen.RawRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RawIdeal.Val

open Cert.RawIdeal Cert.RawIdeal.Gen
open Cert.RawRefIdeal.Read

variable (m : (ℓ : Loc nD τ sig) → Buf (Elt Ideal) ℓ)

theorem idx : ∀ t : Fin cfg0.N, win0_0.index t = ![t.val / 12, 0] ∧ win0_1.index t = ![0, 0]
    ∧ win0_2.index t = ![0, t.val % 12] ∧ win0_3.index t = ![t.val / 12, t.val % 12] :=
  (by decide +kernel : ∀ t : Fin grid0.N, _)

/-- The reference's normalised input, at an index. -/
theorem ref_norm (x : FVec Ideal Cert.RawRefIdeal.S16384x2048 .f32) (g : FVec Ideal Cert.RawRefIdeal.S2048 .f32)
    (i : Fin 16384) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- A first point of a row block leaves the block's normalised rows in the scratch. -/
theorem norm_point (c : Dev nD) (t : Fin cfg0.N) (r : Fin 1024) (k : Fin 2048) (hb : 1024 * (t.val / 12) + r < 16384) :
    k0_pay1 (F := Ideal) (iblk m c 0 t) (iblk m c 1 t) (ix2 r k)
      = val_main_v12 (F := Ideal) (m ((c : Thread nD τ).loc main_arg0))
          (m ((c : Thread nD τ).loc main_arg1)) (ix2 ⟨1024 * (t.val / 12) + r, hb⟩ k) := by
  rw [ref_norm]
  pointwise [k0_pay1]
  blk_point [iblk, V, idx t]

theorem carry_first (c : Dev nD) (t : Fin cfg0.N) (h : t.val % 12 = 0) (r : Fin 1024) (k : Fin 2048)
    (hb : 1024 * (t.val / 12) + r < 16384) :
    (outsAt0 m c t.val t.isLt).2 (ix2 r k) = val_main_v12 (F := Ideal) (m ((c : Thread nD τ).loc main_arg0))
      (m ((c : Thread nD τ).loc main_arg1)) (ix2 ⟨1024 * (t.val / 12) + r, hb⟩ k) := by
  rw [outsAt0_A m c t h]
  frame_out
  exact norm_point m c t r k hb

/-- After every point the scratch holds the normalised rows of the point's row block. -/
theorem carry (c : Dev nD) (n : ℕ) (hn : n < cfg0.N) (r : Fin 1024) (k : Fin 2048)
    (hb : 1024 * (n / 12) + r < 16384) :
    (outsAt0 m c n hn).2 (ix2 r k) = val_main_v12 (F := Ideal) (m ((c : Thread nD τ).loc main_arg0))
      (m ((c : Thread nD τ).loc main_arg1)) (ix2 ⟨1024 * (n / 12) + r, hb⟩ k) := by
  induction n with
  | zero => exact carry_first m c ⟨0, hn⟩ rfl r k hb
  | succ n ih =>
    by_cases h : (n + 1) % 12 = 0
    · exact carry_first m c ⟨n + 1, hn⟩ h r k hb
    · rw [outsAt0_B m c ⟨n + 1, hn⟩ h]
      have e : (n + 1) / 12 = n / 12 := by omega
      refine (ih (Nat.lt_of_succ_lt hn) (by omega)).trans ?_
      simp only [e]

/-- The product of the normalised rows with the point's columns of the weight. -/
theorem product (c : Dev nD) (t : Fin cfg0.N) (ht : t.val < 192) (s : Vec Ideal S1024x2048 .bf16)
    (hs : ∀ (r : Fin 1024) (k : Fin 2048), s (ix2 r k)
      = val_main_v12 (F := Ideal) (m ((c : Thread nD τ).loc main_arg0))
          (m ((c : Thread nD τ).loc main_arg1)) (ix2 ⟨1024 * (t.val / 12) + r, by omega⟩ k))
    (y : S1024x512.Idx) :
    k0_pay2 (F := Ideal) s (iblk m c 2 t) y
      = val_main_v13 (F := Ideal) (m ((c : Thread nD τ).loc main_arg0)) (m ((c : Thread nD τ).loc main_arg1))
          (m ((c : Thread nD τ).loc main_arg2)) (((cfg0.win 3).blk t).view.emb y) := by
  idx_vars y
  pointwise [k0_pay2, val_main_v13]
  simp only [hs]
  blk_point [iblk, V, idx t]

theorem final (c : Dev nD) : (dats m 0 c).arrAt 3 (cfgs 0).N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  have hN : t.val < 192 := lt_of_lt_of_eq t.isLt N_0
  by_cases h : t.val % 12 = 0
  · rw [outsAt0_A m c t h]
    frame_out
    exact product m c t hN _ (fun r k => norm_point m c t r k (by omega)) y
  · rw [outsAt0_B m c t h]
    frame_out
    have e : (t.val - 1) / 12 = t.val / 12 := by omega
    rw [read_unread_whole]
    refine product m c t hN _ (fun r k => (carry m c (t.val - 1) (lt_of_le_of_lt (Nat.sub_le _ _) t.isLt) r k (by omega)).trans ?_) y
    simp only [e]

end Cert.RawIdeal.Val
-- ==== Proof.RawClaim.lean ====
module

public import proofs.«01_k».proof.Defs
public import proofs.«01_k».proof.Proof.Raw
public import Idealize.ShloMosaic.Lib.Claim

@[expose] public section

set_option maxRecDepth 16384

noncomputable section

open Idealize.ShloMosaic Idealize.ShloMosaic.TcCoe Idealize.SL.Sem

namespace Cert.Parts

theorem rawRef_frame : Cert.quiescent_RawRefIdeal := fun m g _ =>
  (θ_run Cert.RawRefIdeal.defs _ _).mono (fun r h => ⟨fun c => (h c).2, sem_eq_zero_of_no_sems (by decide) r.2⟩)
    (Cert.RawRefIdeal.Value.run m g)

theorem raw_algebraic : Cert.algebraic_RawIdeal_RawRefIdeal := by
  pair_intro
  · run_from Cert.RawIdeal.Gen.run_main m g
  · refine (θ_run _ _ _).mono (fun _ h c => ⟨(h c).1.trans ?_, (h c).2⟩)
      (Cert.RawRefIdeal.Value.run m' g')
    · rw [Cert.RawRefIdeal.Read.val_main_v13_eq, (hagree c).1, (hagree c).2.1, (hagree c).2.2]
      exact (Cert.RawIdeal.Val.final m c).symm

end Cert.Parts
-- ==== Proof.Ple.lean ====
module

public import proofs.«01_k».proof.Proof.Gen.PleIdeal.Frame
public import proofs.«01_k».proof.Proof.Gen.PleRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Val

open Cert.PleIdeal Cert.PleIdeal.Gen
open Cert.PleRefIdeal.Read

variable (m : (ℓ : Loc nD τ sig) → Buf (Elt Ideal) ℓ)

theorem idx : ∀ t : Fin cfg0.N, win0_0.index t = ![t.val / 4, 0] ∧ win0_1.index t = ![0, 0]
    ∧ win0_2.index t = ![0, t.val % 4] ∧ win0_3.index t = ![t.val / 4, 0] ∧ win0_4.index t = ![0, t.val % 4]
    ∧ win0_5.index t = ![t.val / 4, t.val % 4] ∧ win0_6.index t = ![t.val / 4, t.val % 4] :=
  (by decide +kernel : ∀ t : Fin grid0.N, _)

/-- The reference's normalised input, at an index. -/
theorem ref_norm (x : FVec Ideal Cert.PleRefIdeal.S16384x2048 .f32) (g : FVec Ideal Cert.PleRefIdeal.S2048 .f32)
    (i : Fin 16384) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- A first point of a row block leaves the block's normalised rows in the scratch. -/
theorem norm_point (c : Dev nD) (t : Fin cfg0.N) (r : Fin 1024) (k : Fin 2048) (hb : 1024 * (t.val / 4) + r < 16384) :
    k0_pay1 (F := Ideal) (iblk m c 0 t) (iblk m c 1 t) (ix2 r k)
      = val_main_v12 (F := Ideal) (m ((c : Thread nD τ).loc main_arg0))
          (m ((c : Thread nD τ).loc main_arg1)) (ix2 ⟨1024 * (t.val / 4) + r, hb⟩ k) := by
  rw [ref_norm]
  pointwise [k0_pay1]
  blk_point [iblk, V, idx t]

theorem carry_first (c : Dev nD) (t : Fin cfg0.N) (h : t.val % 4 = 0) (r : Fin 1024) (k : Fin 2048)
    (hb : 1024 * (t.val / 4) + r < 16384) :
    (outsAt0 m c t.val t.isLt).2 (ix2 r k) = val_main_v12 (F := Ideal) (m ((c : Thread nD τ).loc main_arg0))
      (m ((c : Thread nD τ).loc main_arg1)) (ix2 ⟨1024 * (t.val / 4) + r, hb⟩ k) := by
  rw [outsAt0_A m c t h]
  frame_out
  exact norm_point m c t r k hb

/-- After every point the scratch holds the normalised rows of the point's row block. -/
theorem carry (c : Dev nD) (n : ℕ) (hn : n < cfg0.N) (r : Fin 1024) (k : Fin 2048)
    (hb : 1024 * (n / 4) + r < 16384) :
    (outsAt0 m c n hn).2 (ix2 r k) = val_main_v12 (F := Ideal) (m ((c : Thread nD τ).loc main_arg0))
      (m ((c : Thread nD τ).loc main_arg1)) (ix2 ⟨1024 * (n / 4) + r, hb⟩ k) := by
  induction n with
  | zero => exact carry_first m c ⟨0, hn⟩ rfl r k hb
  | succ n ih =>
    by_cases h : (n + 1) % 4 = 0
    · exact carry_first m c ⟨n + 1, hn⟩ h r k hb
    · rw [outsAt0_B m c ⟨n + 1, hn⟩ h]
      have e : (n + 1) / 4 = n / 4 := by omega
      refine (ih (Nat.lt_of_succ_lt hn) (by omega)).trans ?_
      simp only [e]

/-- A point's block of the result from its block's normalised rows. -/
theorem block (c : Dev nD) (t : Fin cfg0.N) (ht : t.val < 64) (s : Vec Ideal S1024x2048 .bf16)
    (hs : ∀ (r : Fin 1024) (k : Fin 2048), s (ix2 r k)
      = val_main_v12 (F := Ideal) (m ((c : Thread nD τ).loc main_arg0))
          (m ((c : Thread nD τ).loc main_arg1)) (ix2 ⟨1024 * (t.val / 4) + r, by omega⟩ k))
    (y : S1024x512.Idx) :
    k0_pay2 (F := Ideal) s (iblk m c 2 t) (iblk m c 5 t) (iblk m c 3 t) (iblk m c 4 t) y
      = val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 6).blk t).view.emb y) := by
  idx_vars y
  pointwise [k0_pay2, val_main_v22, val_main_v21, val_main_v20, val_main_v19, val_main_v18, val_main_v17, val_main_v16, val_main_v15, val_main_v14, val_main_v13, val_main_cst_2, val_main_cst_3]
  simp only [hs, zero_sub]
  blk_point [iblk, V, idx t]

theorem final (c : Dev nD) : (dats m 0 c).arrAt 6 (cfgs 0).N
    = val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have hN : t.val < 64 := lt_of_lt_of_eq t.isLt N_0
  by_cases h : t.val % 4 = 0
  · rw [outsAt0_A m c t h]
    frame_out
    exact block m c t hN _ (fun r k => norm_point m c t r k (by omega)) y
  · rw [outsAt0_B m c t h]
    frame_out
    have e : (t.val - 1) / 4 = t.val / 4 := by omega
    rw [read_unread_whole]
    refine block m c t hN _ (fun r k => (carry m c (t.val - 1) (lt_of_le_of_lt (Nat.sub_le _ _) t.isLt) r k (by omega)).trans ?_) y
    simp only [e]

end Cert.PleIdeal.Val
-- ==== Proof.PleClaim.lean ====
module

public import proofs.«01_k».proof.Defs
public import proofs.«01_k».proof.Proof.Ple
public import Idealize.ShloMosaic.Lib.Claim

@[expose] public section

set_option maxRecDepth 16384

noncomputable section

open Idealize.ShloMosaic Idealize.ShloMosaic.TcCoe Idealize.SL.Sem

namespace Cert.Parts

theorem pleRef_frame : Cert.quiescent_PleRefIdeal := fun m g _ =>
  (θ_run Cert.PleRefIdeal.defs _ _).mono (fun r h => ⟨fun c => (h c).2, sem_eq_zero_of_no_sems (by decide) r.2⟩)
    (Cert.PleRefIdeal.Value.run m g)

theorem ple_algebraic : Cert.algebraic_PleIdeal_PleRefIdeal := by
  pair_intro
  · run_from Cert.PleIdeal.Gen.run_main m g
  · refine (θ_run _ _ _).mono (fun _ h c => ⟨(h c).1.trans ?_, (h c).2⟩)
      (Cert.PleRefIdeal.Value.run m' g')
    · rw [Cert.PleRefIdeal.Read.val_main_v22_eq, (hagree c).1, (hagree c).2.1, (hagree c).2.2.1, (hagree c).2.2.2.1, (hagree c).2.2.2.2]
      exact (Cert.PleIdeal.Val.final m c).symm

end Cert.Parts
-- ==== Proof.RawCmp.lean ====
module

public import proofs.«01_k».proof.Proof.Gen.RawCmpIdeal.Frame
public import proofs.«01_k».proof.Proof.Gen.RawCmpRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RawCmpIdeal.Val

open Cert.RawCmpIdeal Cert.RawCmpIdeal.Gen
open Cert.RawCmpRefIdeal.Read

variable (m : (ℓ : Loc nD τ sig) → Buf (Elt Ideal) ℓ)

theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The reference's normalised input, at an index. -/
theorem ref_norm (x : FVec Ideal Cert.RawCmpRefIdeal.S16384x2048 .f32) (g : FVec Ideal Cert.RawCmpRefIdeal.S2048 .f32)
    (i : Fin 16384) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- A first point of a row block leaves the block's normalised rows in the scratch. -/
theorem norm_point (c : Dev nD) (t : Fin cfg0.N) (r : Fin 1024) (k : Fin 2048) (hb : 1024 * (t.val / 2) + r < 16384) :
    k0_pay1 (F := Ideal) (iblk m c 0 t) (iblk m c 1 t) (ix2 r k)
      = val_main_v12 (F := Ideal) (m ((c : Thread nD τ).loc main_arg0))
          (m ((c : Thread nD τ).loc main_arg1)) (ix2 ⟨1024 * (t.val / 2) + r, hb⟩ k) := by
  rw [ref_norm]
  pointwise [k0_pay1]
  blk_point [iblk, V, idx t]

theorem carry_first (c : Dev nD) (t : Fin cfg0.N) (h : t.val % 2 = 0) (r : Fin 1024) (k : Fin 2048)
    (hb : 1024 * (t.val / 2) + r < 16384) :
    (outsAt0 m c t.val t.isLt).2 (ix2 r k) = val_main_v12 (F := Ideal) (m ((c : Thread nD τ).loc main_arg0))
      (m ((c : Thread nD τ).loc main_arg1)) (ix2 ⟨1024 * (t.val / 2) + r, hb⟩ k) := by
  rw [outsAt0_A m c t h]
  frame_out
  exact norm_point m c t r k hb

/-- After every point the scratch holds the normalised rows of the point's row block. -/
theorem carry (c : Dev nD) (n : ℕ) (hn : n < cfg0.N) (r : Fin 1024) (k : Fin 2048)
    (hb : 1024 * (n / 2) + r < 16384) :
    (outsAt0 m c n hn).2 (ix2 r k) = val_main_v12 (F := Ideal) (m ((c : Thread nD τ).loc main_arg0))
      (m ((c : Thread nD τ).loc main_arg1)) (ix2 ⟨1024 * (n / 2) + r, hb⟩ k) := by
  induction n with
  | zero => exact carry_first m c ⟨0, hn⟩ rfl r k hb
  | succ n ih =>
    by_cases h : (n + 1) % 2 = 0
    · exact carry_first m c ⟨n + 1, hn⟩ h r k hb
    · rw [outsAt0_B m c ⟨n + 1, hn⟩ h]
      have e : (n + 1) / 2 = n / 2 := by omega
      refine (ih (Nat.lt_of_succ_lt hn) (by omega)).trans ?_
      simp only [e]

/-- The product of the normalised rows with the point's columns of the weight. -/
theorem product (c : Dev nD) (t : Fin cfg0.N) (ht : t.val < 32) (s : Vec Ideal S1024x2048 .bf16)
    (hs : ∀ (r : Fin 1024) (k : Fin 2048), s (ix2 r k)
      = val_main_v12 (F := Ideal) (m ((c : Thread nD τ).loc main_arg0))
          (m ((c : Thread nD τ).loc main_arg1)) (ix2 ⟨1024 * (t.val / 2) + r, by omega⟩ k))
    (y : S1024x512.Idx) :
    k0_pay2 (F := Ideal) s (iblk m c 2 t) y
      = val_main_v13 (F := Ideal) (m ((c : Thread nD τ).loc main_arg0)) (m ((c : Thread nD τ).loc main_arg1))
          (m ((c : Thread nD τ).loc main_arg2)) (((cfg0.win 3).blk t).view.emb y) := by
  idx_vars y
  pointwise [k0_pay2, val_main_v13]
  simp only [hs]
  blk_point [iblk, V, idx t]

theorem final (c : Dev nD) : (dats m 0 c).arrAt 3 (cfgs 0).N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  have hN : t.val < 32 := lt_of_lt_of_eq t.isLt N_0
  by_cases h : t.val % 2 = 0
  · rw [outsAt0_A m c t h]
    frame_out
    exact product m c t hN _ (fun r k => norm_point m c t r k (by omega)) y
  · rw [outsAt0_B m c t h]
    frame_out
    have e : (t.val - 1) / 2 = t.val / 2 := by omega
    rw [read_unread_whole]
    refine product m c t hN _ (fun r k => (carry m c (t.val - 1) (lt_of_le_of_lt (Nat.sub_le _ _) t.isLt) r k (by omega)).trans ?_) y
    simp only [e]

end Cert.RawCmpIdeal.Val
-- ==== Proof.RawCmpClaim.lean ====
module

public import proofs.«01_k».proof.Defs
public import proofs.«01_k».proof.Proof.RawCmp
public import Idealize.ShloMosaic.Lib.Claim

@[expose] public section

set_option maxRecDepth 16384

noncomputable section

open Idealize.ShloMosaic Idealize.ShloMosaic.TcCoe Idealize.SL.Sem

namespace Cert.Parts

theorem rawCmpRef_frame : Cert.quiescent_RawCmpRefIdeal := fun m g _ =>
  (θ_run Cert.RawCmpRefIdeal.defs _ _).mono (fun r h => ⟨fun c => (h c).2, sem_eq_zero_of_no_sems (by decide) r.2⟩)
    (Cert.RawCmpRefIdeal.Value.run m g)

theorem rawCmp_algebraic : Cert.algebraic_RawCmpIdeal_RawCmpRefIdeal := by
  pair_intro
  · run_from Cert.RawCmpIdeal.Gen.run_main m g
  · refine (θ_run _ _ _).mono (fun _ h c => ⟨(h c).1.trans ?_, (h c).2⟩)
      (Cert.RawCmpRefIdeal.Value.run m' g')
    · rw [Cert.RawCmpRefIdeal.Read.val_main_v13_eq, (hagree c).1, (hagree c).2.1, (hagree c).2.2]
      exact (Cert.RawCmpIdeal.Val.final m c).symm

end Cert.Parts
-- ==== Proof.Rope.lean ====
module

public import Idealize.ShloMosaic.Lib.Pipeline.ValueKit
public import Idealize.ShloMosaic.Lib.Pointwise

/-! A head normalised and turned by the rotary embedding, as the kernels write it (full-width cosine and signed sine rows)
    and as the reference writes it (the two halves of the head). -/

@[expose] public section

noncomputable section

open Idealize.ShloMosaic

namespace Cert.Rope

/-- A head's normalised entry, from the projected row. -/
def kn (z : Fin 512 → EReal) (g : Fin 128 → EReal) (h : Fin 4) (d : Fin 128) : EReal :=
  z ⟨128 * h + d, by omega⟩ * Ideal.rsqrt (Ideal.div (∑ l : Fin 128, z ⟨128 * h + l, by omega⟩ * z ⟨128 * h + l, by omega⟩)
    (Ideal.ofBits FTy.f32 0x43000000#32) + Ideal.ofBits FTy.f32 0x358637BD#32) * g d

/-- The normalised head rotated, from full-width cosine and signed sine rows. -/
def rot (z : Fin 512 → EReal) (g cos sin : Fin 128 → EReal) (h : Fin 4) (d : Fin 128) : EReal :=
  kn z g h d * cos d + kn z g h ⟨(d + 64) % 128, by omega⟩ * sin d

/-- The rotary angle of position `p` at frequency `i`. -/
def ang (p i : ℕ) : EReal :=
  FloatOps.sitofp (F := Ideal) FTy.f32 (BitVec.ofNat 32 p) * Ideal.pow (Ideal.ofBits FTy.f32 0x461C4000#32)
    (Ideal.div (-FloatOps.sitofp (F := Ideal) FTy.f32 (BitVec.ofNat 32 i)) (Ideal.ofBits FTy.f32 0x42800000#32))

/-- The full-width cosine row and the signed sine row of a position. -/
def cosRow (p : ℕ) (d : Fin 128) : EReal := Ideal.cos (ang p (d.val % 64))
def sinRow (p : ℕ) (d : Fin 128) : EReal := if d.val < 64 then -Ideal.sin (ang p (d.val % 64)) else Ideal.sin (ang p (d.val % 64))

/-- The rotation in the lower half of a head. -/
theorem rot_lo (z : Fin 512 → EReal) (g : Fin 128 → EReal) (p : ℕ) (h : Fin 4) (d : Fin 128) (hd : d.val < 64) :
    kn z g h d * Ideal.cos (ang p d.val) - kn z g h ⟨64 + d.val, by omega⟩ * Ideal.sin (ang p d.val)
      = rot z g (cosRow p) (sinRow p) h d := by
  have e2 : (⟨64 + d.val, by omega⟩ : Fin 128) = ⟨(d + 64) % 128, by omega⟩ := Fin.ext (by simp only; omega)
  have e3 : d.val % 64 = d.val := by omega
  simp only [rot, cosRow, sinRow, e3, e2, hd, if_true, mul_neg, ← sub_eq_add_neg]

/-- The rotation in the upper half of a head. -/
theorem rot_hi (z : Fin 512 → EReal) (g : Fin 128 → EReal) (p : ℕ) (h : Fin 4) (d : Fin 128) (hd : ¬ d.val < 64) :
    kn z g h ⟨64 + (d.val - 64), by omega⟩ * Ideal.cos (ang p (d.val - 64)) + kn z g h ⟨d.val - 64, by omega⟩ * Ideal.sin (ang p (d.val - 64))
      = rot z g (cosRow p) (sinRow p) h d := by
  have e1 : (⟨64 + (d.val - 64), by omega⟩ : Fin 128) = d := Fin.ext (by simp only; omega)
  have e2 : (⟨d.val - 64, by omega⟩ : Fin 128) = ⟨(d + 64) % 128, by omega⟩ := Fin.ext (by simp only; omega)
  have e3 : d.val % 64 = d.val - 64 := by omega
  simp only [rot, cosRow, sinRow, e3, e1, e2, hd, if_false]

theorem rot_congr {z z' : Fin 512 → EReal} {g g' cs cs' sn sn' : Fin 128 → EReal} (hz : z = z') (hg : g = g') (hc : cs = cs')
    (hs : sn = sn') (h : Fin 4) (d : Fin 128) : rot z g cs sn h d = rot z' g' cs' sn' h d := by
  rw [hz, hg, hc, hs]

end Cert.Rope
-- ==== Proof.Kv.lean ====
module

public import proofs.«01_k».proof.Proof.Gen.KvIdeal.Frame
public import proofs.«01_k».proof.Proof.Gen.KvRefIdeal.Read
public import proofs.«01_k».proof.Proof.Rope
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KvIdeal.Val

open Cert.KvIdeal Cert.KvIdeal.Gen Cert.Rope
open Cert.KvRefIdeal.Read

variable (m : (ℓ : Loc nD τ sig) → Buf (Elt Ideal) ℓ)

theorem idx : ∀ t : Fin cfg0.N, win0_0.index t = ![t.val / 2, 0] ∧ win0_1.index t = ![0, 0]
    ∧ win0_2.index t = ![0, t.val % 2] ∧ win0_3.index t = ![t.val / 2 % 2, 0] ∧ win0_4.index t = ![t.val / 2 % 2, 0]
    ∧ win0_5.index t = ![0, 0] ∧ win0_6.index t = ![t.val / 2, t.val % 2] ∧ win0_7.index t = ![t.val / 2, t.val % 2] :=
  (by decide +kernel : ∀ t : Fin grid0.N, _)

theorem head0 (z : FVec Ideal S1024x512 .f32) (g : Vec Ideal S1x128 .f32) (cos sin : Vec Ideal S1024x128 .f32) (r : Fin 1024) (d : Fin 128) :
    k0_pay7 (F := Ideal) z g cos sin (ix2 r d)
      = rot (fun q => z (ix2 r q)) (fun e => g (ix2 0 e)) (fun e => cos (ix2 r e)) (fun e => sin (ix2 r e)) 0 d := by
  unfold rot kn
  pointwise [k0_pay7]
  blk_point []

theorem head1 (z : FVec Ideal S1024x512 .f32) (g : Vec Ideal S1x128 .f32) (cos sin : Vec Ideal S1024x128 .f32) (r : Fin 1024) (d : Fin 128) :
    k0_pay14 (F := Ideal) (k0_pay9 z) (k0_pay10 g) (k0_pay11 cos) (k0_pay12 sin) (k0_pay13 z) (Scalar.ofBits .f32 0x43000000#32) (ix2 r d)
      = rot (fun q => z (ix2 r q)) (fun e => g (ix2 0 e)) (fun e => cos (ix2 r e)) (fun e => sin (ix2 r e)) 1 d := by
  unfold rot kn
  pointwise [k0_pay14, k0_pay9, k0_pay10, k0_pay11, k0_pay12, k0_pay13]
  blk_point []

theorem head2 (z : FVec Ideal S1024x512 .f32) (g : Vec Ideal S1x128 .f32) (cos sin : Vec Ideal S1024x128 .f32) (r : Fin 1024) (d : Fin 128) :
    k0_pay16 (F := Ideal) z g cos sin (ix2 r d)
      = rot (fun q => z (ix2 r q)) (fun e => g (ix2 0 e)) (fun e => cos (ix2 r e)) (fun e => sin (ix2 r e)) 2 d := by
  unfold rot kn
  pointwise [k0_pay16]
  blk_point []

theorem head3 (s : Vec Ideal S1024x2048 .bf16) (w : Vec Ideal S2048x512 .bf16) (g : Vec Ideal S1x128 .f32) (cos sin : Vec Ideal S1024x128 .f32) (r : Fin 1024) (d : Fin 128) :
    k0_pay4 (F := Ideal) s w g cos sin (ix2 r d)
      = rot (fun q => k0_pay2 s w (ix2 r q)) (fun e => g (ix2 0 e)) (fun e => cos (ix2 r e)) (fun e => sin (ix2 r e)) 3 d := by
  unfold rot kn
  pointwise [k0_pay4, k0_pay2]
  blk_point []

theorem head0b (z : FVec Ideal S1024x512 .f32) (g : Vec Ideal S1x128 .f32) (cos sin : Vec Ideal S1024x128 .f32) (r : Fin 1024) (d : Fin 128) :
    k0_pay8 (F := Ideal) z g cos sin (ix2 r d)
      = rot (fun q => z (ix2 r q)) (fun e => g (ix2 0 e)) (fun e => cos (ix2 r e)) (fun e => sin (ix2 r e)) 0 d := by
  unfold rot kn
  pointwise [k0_pay8]
  blk_point []

theorem head1b (z : FVec Ideal S1024x512 .f32) (g : Vec Ideal S1x128 .f32) (cos sin : Vec Ideal S1024x128 .f32) (r : Fin 1024) (d : Fin 128) :
    k0_pay15 (F := Ideal) (k0_pay9 z) (k0_pay10 g) (k0_pay11 cos) (k0_pay12 sin) (k0_pay13 z) (Scalar.ofBits .f32 0x43000000#32) (ix2 r d)
      = rot (fun q => z (ix2 r q)) (fun e => g (ix2 0 e)) (fun e => cos (ix2 r e)) (fun e => sin (ix2 r e)) 1 d := by
  unfold rot kn
  pointwise [k0_pay15, k0_pay9, k0_pay10, k0_pay11, k0_pay12, k0_pay13]
  blk_point []

theorem head2b (z : FVec Ideal S1024x512 .f32) (g : Vec Ideal S1x128 .f32) (cos sin : Vec Ideal S1024x128 .f32) (r : Fin 1024) (d : Fin 128) :
    k0_pay3 (F := Ideal) (k0_pay16 z g cos sin) (ix2 r d)
      = rot (fun q => z (ix2 r q)) (fun e => g (ix2 0 e)) (fun e => cos (ix2 r e)) (fun e => sin (ix2 r e)) 2 d := by
  refine Eq.trans ?_ (head2 z g cos sin r d)
  pointwise [k0_pay3]

theorem head3b (s : Vec Ideal S1024x2048 .bf16) (w : Vec Ideal S2048x512 .bf16) (g : Vec Ideal S1x128 .f32) (cos sin : Vec Ideal S1024x128 .f32) (r : Fin 1024) (d : Fin 128) :
    k0_pay5 (F := Ideal) s w g cos sin (ix2 r d)
      = rot (fun q => k0_pay2 s w (ix2 r q)) (fun e => g (ix2 0 e)) (fun e => cos (ix2 r e)) (fun e => sin (ix2 r e)) 3 d := by
  simp only [show ∀ i, k0_pay5 (F := Ideal) s w g cos sin i = k0_pay3 (F := Ideal) (k0_pay4 s w g cos sin) i from fun _ => rfl]
  refine Eq.trans ?_ (head3 s w g cos sin r d)
  pointwise [k0_pay3]

theorem cast_value (s : Vec Ideal S1024x2048 .bf16) (w : Vec Ideal S2048x512 .bf16) (r : Fin 1024) (q : Fin 512) :
    k0_pay6 (F := Ideal) s w (ix2 r q) = k0_pay2 (F := Ideal) s w (ix2 r q) := by
  pointwise [k0_pay6, k0_pay2]

/-! ## The arrays the blocks are cut from -/

theorem V_cos (c : Dev nD) (p : Fin 2048) (d : Fin 128) : V m c main_v15 (ix2 p d) = cosRow p d := by
  simp only [V, hostOps0, List.flatten_cons, List.flatten_nil, List.append_nil, List.cons_append, List.nil_append]
  after_reads_at
  unfold cosRow ang
  split
  · rw [Nat.mod_eq_of_lt ‹_›]
  · rw [show d.val % 64 = d - 64 by omega]

theorem V_sin (c : Dev nD) (p : Fin 2048) (d : Fin 128) : V m c main_v17 (ix2 p d) = sinRow p d := by
  simp only [V, hostOps0, List.flatten_cons, List.flatten_nil, List.append_nil, List.cons_append, List.nil_append]
  after_reads_at
  unfold sinRow ang
  split
  · rw [Nat.mod_eq_of_lt ‹_›]
  · rw [show d.val % 64 = d - 64 by omega]

theorem V_gain (c : Dev nD) (d : Fin 128) : V m c main_v20 (ix2 0 d) = (m ((c : Thread nD τ).loc main_arg3)) (ix1 d) := by
  simp only [V, hostOps0, List.flatten_cons, List.flatten_nil, List.append_nil, List.cons_append, List.nil_append]
  after_reads_at

/-! ## The reference -/

/-- The reference's normalised input, at an index. -/
theorem ref_norm (x : FVec Ideal Cert.KvRefIdeal.S16384x2048 .f32) (g : FVec Ideal Cert.KvRefIdeal.S2048 .f32)
    (i : Fin 16384) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_val (x : FVec Ideal Cert.KvRefIdeal.S16384x2048 .f32) (g : FVec Ideal Cert.KvRefIdeal.S2048 .f32)
    (w : FVec Ideal Cert.KvRefIdeal.S2048x1024 .f32) (gk : FVec Ideal Cert.KvRefIdeal.S128 .f32) (R : Fin 16384) (q : Fin 512) :
    val_main_v69 (F := Ideal) x g w gk (ix2 R ⟨512 + q, by omega⟩) = val_main_v13 (F := Ideal) x g w (ix2 R ⟨512 + q, by omega⟩) := by
  pointwise [val_main_v69, val_main_v68, val_main_v67, val_main_v66, val_main_v65, val_main_v64, val_main_v14]
  rw [dif_neg (by omega)]
  congr 2
  exact Fin.ext (by simp only; omega)

theorem ref_kn (x : FVec Ideal Cert.KvRefIdeal.S16384x2048 .f32) (g : FVec Ideal Cert.KvRefIdeal.S2048 .f32)
    (w : FVec Ideal Cert.KvRefIdeal.S2048x1024 .f32) (gk : FVec Ideal Cert.KvRefIdeal.S128 .f32) (b : Fin 8) (t : Fin 2048) (h : Fin 4) (d : Fin 128) :
    val_main_v29 (F := Ideal) x g w gk (ix4 b t h d)
      = kn (fun q => val_main_v13 (F := Ideal) x g w (ix2 ⟨2048 * b + t, by omega⟩ ⟨q, by omega⟩)) (fun e => gk (ix1 e)) h d := by
  unfold kn
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]
  blk_point []

theorem ref_cos (p : Fin 2048) (i : Fin 64) : val_main_v43 (F := Ideal) (ix2 p i) = Ideal.cos (ang p i) := by
  unfold ang
  pointwise [val_main_v43, val_main_v42, val_main_v41, val_main_v40, val_main_v39, val_main_v38, val_main_v37, val_main_v36, val_main_v35, val_main_v34, val_main_v33, val_main_v32, val_main_v31, val_main_v30, val_main_cst_5, val_main_cst_6]

theorem ref_sin (p : Fin 2048) (i : Fin 64) : val_main_v45 (F := Ideal) (ix2 p i) = Ideal.sin (ang p i) := by
  unfold ang
  pointwise [val_main_v45, val_main_v42, val_main_v41, val_main_v40, val_main_v39, val_main_v38, val_main_v37, val_main_v36, val_main_v35, val_main_v34, val_main_v33, val_main_v32, val_main_v31, val_main_v30, val_main_cst_5, val_main_cst_6]

/-- The reference's normalised key, from the row of the projection. -/
theorem ref_kn' (x : FVec Ideal Cert.KvRefIdeal.S16384x2048 .f32) (g : FVec Ideal Cert.KvRefIdeal.S2048 .f32)
    (w : FVec Ideal Cert.KvRefIdeal.S2048x1024 .f32) (gk : FVec Ideal Cert.KvRefIdeal.S128 .f32) (R : Fin 16384) (h : Fin 4) (d : Fin 128) :
    val_main_v29 (F := Ideal) x g w gk (ix4 ⟨R.val / 2048, by omega⟩ ⟨R.val % 2048, by omega⟩ h d)
      = kn (fun q => val_main_v13 (F := Ideal) x g w (ix2 R ⟨q, by omega⟩)) (fun e => gk (ix1 e)) h d := by
  refine (ref_kn x g w gk _ _ h d).trans ?_
  have e : (⟨2048 * (R.val / 2048) + R.val % 2048, by omega⟩ : Fin 16384) = R := Fin.ext (by simp only; omega)
  exact congrArg (fun r : Fin 16384 => kn (fun q => val_main_v13 (F := Ideal) x g w (ix2 r ⟨q, by omega⟩)) (fun e => gk (ix1 e)) h d) e

/-- The reference's keys: the projected row's heads normalised and rotated. -/
theorem ref_key (x : FVec Ideal Cert.KvRefIdeal.S16384x2048 .f32) (g : FVec Ideal Cert.KvRefIdeal.S2048 .f32)
    (w : FVec Ideal Cert.KvRefIdeal.S2048x1024 .f32) (gk : FVec Ideal Cert.KvRefIdeal.S128 .f32) (R : Fin 16384) (h : Fin 4) (d : Fin 128) :
    val_main_v69 (F := Ideal) x g w gk (ix2 R ⟨128 * h + d, by omega⟩)
      = rot (fun q => val_main_v13 (F := Ideal) x g w (ix2 R ⟨q, by omega⟩)) (fun e => gk (ix1 e)) (cosRow (R % 2048)) (sinRow (R % 2048)) h d := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v44]
  have e0 : (128 * h.val + d.val) / 512 < 1 := by omega
  simp only [e0, dite_true]
  by_cases hd : d.val < 64
  · simp only [hd, dite_true]
    exact (congrArg₂ (· - ·)
      (congrArg₂ (· * ·) (ref_kn' x g w gk R h d) (ref_cos ⟨R.val % 2048, by omega⟩ ⟨d.val, hd⟩))
      (congrArg₂ (· * ·) (ref_kn' x g w gk R h ⟨64 + d.val, by omega⟩) (ref_sin ⟨R.val % 2048, by omega⟩ ⟨d.val, hd⟩))).trans
      (rot_lo _ _ (R.val % 2048) h d hd)
  · simp only [hd, dite_false]
    exact (congrArg₂ (· + ·)
      (congrArg₂ (· * ·) (ref_kn' x g w gk R h ⟨64 + (d.val - 64), by omega⟩) (ref_cos ⟨R.val % 2048, by omega⟩ ⟨d.val - 64, by omega⟩))
      (congrArg₂ (· * ·) (ref_kn' x g w gk R h ⟨d.val - 64, by omega⟩) (ref_sin ⟨R.val % 2048, by omega⟩ ⟨d.val - 64, by omega⟩))).trans
      (rot_hi _ _ (R.val % 2048) h d hd)

/-! ## The kernel -/

/-- A first point of a row block leaves the block's normalised rows in the scratch. -/
theorem norm_point (c : Dev nD) (t : Fin cfg0.N) (r : Fin 1024) (k : Fin 2048) (hb : 1024 * (t.val / 2) + r < 16384) :
    k0_pay1 (F := Ideal) (iblk m c 0 t) (iblk m c 1 t) (ix2 r k)
      = val_main_v12 (F := Ideal) (m ((c : Thread nD τ).loc main_arg0)) (m ((c : Thread nD τ).loc main_arg1)) (ix2 ⟨1024 * (t.val / 2) + r, hb⟩ k) := by
  rw [ref_norm]
  pointwise [k0_pay1]
  blk_point [iblk, V, idx t]

/-- The projected rows' columns of the point. -/
theorem product (c : Dev nD) (t : Fin cfg0.N) (ht : t.val < 32) (s : Vec Ideal S1024x2048 .bf16)
    (hs : ∀ (r : Fin 1024) (k : Fin 2048), s (ix2 r k)
      = val_main_v12 (F := Ideal) (m ((c : Thread nD τ).loc main_arg0)) (m ((c : Thread nD τ).loc main_arg1)) (ix2 ⟨1024 * (t.val / 2) + r, by omega⟩ k))
    (r : Fin 1024) (q : Fin 512) :
    k0_pay2 (F := Ideal) s (iblk m c 2 t) (ix2 r q)
      = val_main_v13 (F := Ideal) (m ((c : Thread nD τ).loc main_arg0)) (m ((c : Thread nD τ).loc main_arg1)) (m ((c : Thread nD τ).loc main_arg2)) (ix2 ⟨1024 * (t.val / 2) + r, by omega⟩ ⟨512 * (t.val % 2) + q, by omega⟩) := by
  pointwise [k0_pay2, val_main_v13]
  simp only [hs]
  blk_point [iblk, V, idx t]

theorem v70_eq (x : FVec Ideal Cert.KvRefIdeal.S16384x2048 .f32) (g : FVec Ideal Cert.KvRefIdeal.S2048 .f32)
    (w : FVec Ideal Cert.KvRefIdeal.S2048x1024 .f32) (gk : FVec Ideal Cert.KvRefIdeal.S128 .f32) (i : Cert.KvRefIdeal.S16384x1024.Idx) :
    val_main_v70 (F := Ideal) x g w gk i = val_main_v69 (F := Ideal) x g w gk i := by
  pointwise [val_main_v70]

/-- The keys of a point in the first half of the columns, a head at a time. -/
theorem key_point (c : Dev nD) (t : Fin cfg0.N) (ht : t.val < 32) (h0 : t.val % 2 = 0) (r : Fin 1024) (h : Fin 4) (d : Fin 128) :
    rot (fun q => k0_pay2 (F := Ideal) (k0_pay1 (iblk m c 0 t) (iblk m c 1 t)) (iblk m c 2 t) (ix2 r q))
        (fun e => iblk m c 5 t (ix2 0 e)) (fun e => iblk m c 3 t (ix2 r e)) (fun e => iblk m c 4 t (ix2 r e)) h d
      = val_main_v69 (F := Ideal) (m ((c : Thread nD τ).loc main_arg0)) (m ((c : Thread nD τ).loc main_arg1)) (m ((c : Thread nD τ).loc main_arg2)) (m ((c : Thread nD τ).loc main_arg3)) (ix2 ⟨1024 * (t.val / 2) + r, by omega⟩ ⟨128 * h + d, by omega⟩) := by
  have hp : 1024 * (t.val / 2 % 2) + r.val = (1024 * (t.val / 2) + r.val) % 2048 := by omega
  refine (rot_congr (funext fun q => ?_) (funext fun e => ?_) (funext fun e => ?_) (funext fun e => ?_) h d).trans
    (ref_key (m ((c : Thread nD τ).loc main_arg0)) (m ((c : Thread nD τ).loc main_arg1)) (m ((c : Thread nD τ).loc main_arg2)) (m ((c : Thread nD τ).loc main_arg3)) ⟨1024 * (t.val / 2) + r, by omega⟩ h d).symm
  · refine (product m c t ht _ (fun r k => norm_point m c t r k (by omega)) r q).trans ?_
    exact congrArg (fun j : Fin 1024 => val_main_v13 (F := Ideal) (m ((c : Thread nD τ).loc main_arg0)) (m ((c : Thread nD τ).loc main_arg1)) (m ((c : Thread nD τ).loc main_arg2)) (ix2 ⟨1024 * (t.val / 2) + r, by omega⟩ j))
      (Fin.ext (by simp only; omega))
  · exact (show iblk m c 5 t (ix2 0 e) = V m c main_v20 (ix2 0 e) by blk_point [iblk, idx t]).trans (V_gain m c e)
  · refine (show iblk m c 3 t (ix2 r e) = V m c main_v15 (ix2 ⟨1024 * (t.val / 2 % 2) + r, by omega⟩ e) by
      blk_point [iblk, idx t]).trans ((V_cos m c _ e).trans ?_)
    exact congrArg (fun p => cosRow p e) hp
  · refine (show iblk m c 4 t (ix2 r e) = V m c main_v17 (ix2 ⟨1024 * (t.val / 2 % 2) + r, by omega⟩ e) by
      blk_point [iblk, idx t]).trans ((V_sin m c _ e).trans ?_)
    exact congrArg (fun p => sinRow p e) hp

/-- The values of a point in the second half of the columns. -/
theorem value_point (c : Dev nD) (t : Fin cfg0.N) (ht : t.val < 32) (h1 : ¬ t.val % 2 = 0) (s : Vec Ideal S1024x2048 .bf16)
    (hs : ∀ (r : Fin 1024) (k : Fin 2048), s (ix2 r k)
      = val_main_v12 (F := Ideal) (m ((c : Thread nD τ).loc main_arg0)) (m ((c : Thread nD τ).loc main_arg1)) (ix2 ⟨1024 * (t.val / 2) + r, by omega⟩ k))
    (r : Fin 1024) (q : Fin 512) :
    k0_pay2 (F := Ideal) s (iblk m c 2 t) (ix2 r q)
      = val_main_v69 (F := Ideal) (m ((c : Thread nD τ).loc main_arg0)) (m ((c : Thread nD τ).loc main_arg1)) (m ((c : Thread nD τ).loc main_arg2)) (m ((c : Thread nD τ).loc main_arg3)) (ix2 ⟨1024 * (t.val / 2) + r, by omega⟩ ⟨512 * (t.val % 2) + q, by omega⟩) := by
  have e : (⟨512 * (t.val % 2) + q.val, by omega⟩ : Fin 1024) = ⟨512 + q, by omega⟩ := Fin.ext (by simp only; omega)
  refine (product m c t ht s hs r q).trans ?_
  simp only [e]
  exact (ref_val (m ((c : Thread nD τ).loc main_arg0)) (m ((c : Thread nD τ).loc main_arg1)) (m ((c : Thread nD τ).loc main_arg2)) (m ((c : Thread nD τ).loc main_arg3)) _ q).symm

/-- After a first point of a row block the scratch holds the block's normalised rows. -/
theorem carry_first (c : Dev nD) (t : Fin cfg0.N) (h : t.val % 2 = 0) (r : Fin 1024) (k : Fin 2048)
    (hb : 1024 * (t.val / 2) + r < 16384) :
    (outsAt0 m c t.val t.isLt).2.2 (ix2 r k) = val_main_v12 (F := Ideal) (m ((c : Thread nD τ).loc main_arg0)) (m ((c : Thread nD τ).loc main_arg1)) (ix2 ⟨1024 * (t.val / 2) + r, hb⟩ k) := by
  rw [outsAt0_A m c t h h (by omega)]
  frame_out
  exact norm_point m c t r k hb

/-- Before a second point of a row block the scratch holds the block's normalised rows. -/
theorem carry (c : Dev nD) (t : Fin cfg0.N) (h : ¬ t.val % 2 = 0) (hn : t.val - 1 < cfg0.N) (r : Fin 1024) (k : Fin 2048)
    (hb : 1024 * (t.val / 2) + r < 16384) :
    (outsAt0 m c (t.val - 1) hn).2.2 (ix2 r k) = val_main_v12 (F := Ideal) (m ((c : Thread nD τ).loc main_arg0)) (m ((c : Thread nD τ).loc main_arg1)) (ix2 ⟨1024 * (t.val / 2) + r, hb⟩ k) := by
  have e : (t.val - 1) / 2 = t.val / 2 := by omega
  refine (carry_first m c ⟨t.val - 1, hn⟩ (by simp only; omega) r k (by simp only; omega)).trans ?_
  simp only [e]

theorem tile (c : Dev nD) (t : Fin cfg0.N) (ht : t.val < 32) (h0 : t.val % 2 = 0) (r : Fin 1024) (q : Fin 512) (h : Fin 4) (x0 : Fin 1024) (d : Fin 128)
    (hr : r.val = x0) (hq : q.val = 128 * h + d) :
    val_main_v69 (F := Ideal) (m ((c : Thread nD τ).loc main_arg0)) (m ((c : Thread nD τ).loc main_arg1)) (m ((c : Thread nD τ).loc main_arg2)) (m ((c : Thread nD τ).loc main_arg3)) (ix2 ⟨1024 * (t.val / 2) + x0, by omega⟩ ⟨128 * h + d, by omega⟩)
      = val_main_v69 (F := Ideal) (m ((c : Thread nD τ).loc main_arg0)) (m ((c : Thread nD τ).loc main_arg1)) (m ((c : Thread nD τ).loc main_arg2)) (m ((c : Thread nD τ).loc main_arg3)) (ix2 ⟨1024 * (t.val / 2) + r, by omega⟩ ⟨512 * (t.val % 2) + q, by omega⟩) := by
  have e1 : (⟨1024 * (t.val / 2) + x0, by omega⟩ : Fin 16384) = ⟨1024 * (t.val / 2) + r, by omega⟩ := Fin.ext (by simp only; omega)
  have e2 : (⟨128 * h + d, by omega⟩ : Fin 1024) = ⟨512 * (t.val % 2) + q, by omega⟩ := Fin.ext (by simp only; omega)
  exact congrArg₂ (fun a b => val_main_v69 (F := Ideal) (m ((c : Thread nD τ).loc main_arg0)) (m ((c : Thread nD τ).loc main_arg1)) (m ((c : Thread nD τ).loc main_arg2)) (m ((c : Thread nD τ).loc main_arg3)) (ix2 a b)) e1 e2

/-- The rows the point leaves in the first result's window. -/
theorem rows_point (c : Dev nD) (t : Fin cfg0.N) (ht : t.val < 32) (r : Fin 1024) (q : Fin 512) :
    (outsAt0 m c t.val t.isLt).1 (ix2 r q)
      = val_main_v69 (F := Ideal) (m ((c : Thread nD τ).loc main_arg0)) (m ((c : Thread nD τ).loc main_arg1)) (m ((c : Thread nD τ).loc main_arg2)) (m ((c : Thread nD τ).loc main_arg3)) (ix2 ⟨1024 * (t.val / 2) + r, by omega⟩ ⟨512 * (t.val % 2) + q, by omega⟩) := by
  by_cases h : t.val % 2 = 0
  · rw [outsAt0_A m c t h h (by omega)]
    frame_out
    canon_tiles x hx
    · idx_vars x
      exact (head3 _ _ _ _ _ x0 x1).trans ((key_point m c t ht h x0 3 x1).trans (tile m c t ht h r q 3 x0 x1 (by omega) (by omega)))
    · idx_vars x
      exact (head2 _ _ _ _ x0 x1).trans ((key_point m c t ht h x0 2 x1).trans (tile m c t ht h r q 2 x0 x1 (by omega) (by omega)))
    · idx_vars x
      exact (head1 _ _ _ _ x0 x1).trans ((key_point m c t ht h x0 1 x1).trans (tile m c t ht h r q 1 x0 x1 (by omega) (by omega)))
    · idx_vars x
      exact (head0 _ _ _ _ x0 x1).trans ((key_point m c t ht h x0 0 x1).trans (tile m c t ht h r q 0 x0 x1 (by omega) (by omega)))
  · rw [outsAt0_B m c t h h (by omega)]
    frame_out
    rw [read_unread_whole]
    exact value_point m c t ht h _ (fun r k => carry m c t h _ r k (by omega)) r q

/-- The same rows in the second result's window. -/
theorem cast_point (c : Dev nD) (t : Fin cfg0.N) (ht : t.val < 32) (r : Fin 1024) (q : Fin 512) :
    (outsAt0 m c t.val t.isLt).2.1 (ix2 r q)
      = val_main_v69 (F := Ideal) (m ((c : Thread nD τ).loc main_arg0)) (m ((c : Thread nD τ).loc main_arg1)) (m ((c : Thread nD τ).loc main_arg2)) (m ((c : Thread nD τ).loc main_arg3)) (ix2 ⟨1024 * (t.val / 2) + r, by omega⟩ ⟨512 * (t.val % 2) + q, by omega⟩) := by
  by_cases h : t.val % 2 = 0
  · rw [outsAt0_A m c t h h (by omega)]
    frame_out
    canon_tiles x hx
    · idx_vars x
      exact (head3b _ _ _ _ _ x0 x1).trans ((key_point m c t ht h x0 3 x1).trans (tile m c t ht h r q 3 x0 x1 (by omega) (by omega)))
    · idx_vars x
      exact (head2b _ _ _ _ x0 x1).trans ((key_point m c t ht h x0 2 x1).trans (tile m c t ht h r q 2 x0 x1 (by omega) (by omega)))
    · idx_vars x
      exact (head1b _ _ _ _ x0 x1).trans ((key_point m c t ht h x0 1 x1).trans (tile m c t ht h r q 1 x0 x1 (by omega) (by omega)))
    · idx_vars x
      exact (head0b _ _ _ _ x0 x1).trans ((key_point m c t ht h x0 0 x1).trans (tile m c t ht h r q 0 x0 x1 (by omega) (by omega)))
  · rw [outsAt0_B m c t h h (by omega)]
    frame_out
    rw [read_unread_whole]
    exact (cast_value _ _ r q).trans (value_point m c t ht h _ (fun r k => carry m c t h _ r k (by omega)) r q)

theorem final_rows (c : Dev nD) : (dats m 0 c).arrAt 6 (cfgs 0).N = val_main_v69 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  idx_vars y
  refine (rows_point m c t (lt_of_lt_of_eq t.isLt N_0) y0 y1).trans ?_
  blk_point [idx t]

theorem final_cast (c : Dev nD) : (dats m 0 c).arrAt 7 (cfgs 0).N = val_main_v70 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (cast_point m c t (lt_of_lt_of_eq t.isLt N_0) y0 y1).trans ?_
  rw [v70_eq]
  blk_point [idx t]

end Cert.KvIdeal.Val
-- ==== Proof.KvClaim.lean ====
module

public import proofs.«01_k».proof.Defs
public import proofs.«01_k».proof.Proof.Kv
public import Idealize.ShloMosaic.Lib.Claim

@[expose] public section

set_option maxRecDepth 16384

noncomputable section

open Idealize.ShloMosaic Idealize.ShloMosaic.TcCoe Idealize.SL.Sem

namespace Cert.Parts

theorem kvRef_frame : Cert.quiescent_KvRefIdeal := fun m g _ =>
  (θ_run Cert.KvRefIdeal.defs _ _).mono (fun r h => ⟨fun c => (h c).2.2, sem_eq_zero_of_no_sems (by decide) r.2⟩)
    (Cert.KvRefIdeal.Value.run m g)

theorem kv_algebraic : Cert.algebraic_KvIdeal_KvRefIdeal := by
  pair_intro
  · run_from Cert.KvIdeal.Gen.run_main m g
  · refine (θ_run _ _ _).mono (fun _ h c => ⟨(h c).1.trans ?_, (h c).2.1.trans ?_, (h c).2.2⟩)
      (Cert.KvRefIdeal.Value.run m' g')
    · rw [Cert.KvRefIdeal.Read.val_main_v69_eq, (hagree c).1, (hagree c).2.1, (hagree c).2.2.1, (hagree c).2.2.2]
      exact (Cert.KvIdeal.Val.final_rows m c).symm
    · rw [Cert.KvRefIdeal.Read.val_main_v70_eq, (hagree c).1, (hagree c).2.1, (hagree c).2.2.1, (hagree c).2.2.2]
      exact (Cert.KvIdeal.Val.final_cast m c).symm

end Cert.Parts
-- ==== Proof.Merge.lean ====
module

public import proofs.«01_k».proof.Proof.Gen.MergeIdeal.Frame
public import proofs.«01_k».proof.Proof.Gen.MergeRefIdeal.Read
public import proofs.«01_k».proof.Proof.Last
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.MergeIdeal.Val

open Cert.MergeIdeal Cert.MergeIdeal.Gen
open Cert.MergeRefIdeal.Read

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, 4 + t.val % 4] ∧ win0_3.index t = ![t.val / 4, 8 + t.val % 4]
    ∧ win0_4.index t = ![t.val / 4, t.val % 4] ∧ win0_5.index t = ![t.val / 4, t.val % 4] :=
  (by decide +kernel : ∀ t : Fin grid0.N, _)

theorem final (c : Dev nD) : (dats m 0 c).arrAt 5 (cfgs 0).N
    = val_main_v15 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  have hN : t.val < 64 := lt_of_lt_of_eq t.isLt N_0
  frame_out
  idx_vars y
  pointwise [k0_pay1, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0]
  simp only [zero_sub]
  blk_point [iblk, V, idx t]

end Cert.MergeIdeal.Val
-- ==== Proof.MergeClaim.lean ====
module

public import proofs.«01_k».proof.Defs
public import proofs.«01_k».proof.Proof.Merge
public import Idealize.ShloMosaic.Lib.Claim

@[expose] public section

set_option maxRecDepth 16384

noncomputable section

open Idealize.ShloMosaic Idealize.ShloMosaic.TcCoe Idealize.SL.Sem

namespace Cert.Parts

theorem mergeRef_frame : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

theorem merge_algebraic : Cert.algebraic_MergeIdeal_MergeRefIdeal := by
  pair_intro
  · run_from Cert.MergeIdeal.Gen.run_main m g
  · refine (θ_run _ _ _).mono (fun _ h c => ⟨(h c).1.trans ?_, (h c).2⟩)
      (Cert.MergeRefIdeal.Value.run m' g')
    · rw [Cert.MergeRefIdeal.Read.val_main_v15_eq, (hagree c).1, (hagree c).2.1, (hagree c).2.2.1, (hagree c).2.2.2]
      exact (Cert.MergeIdeal.Val.final m c).symm

end Cert.Parts
-- ==== Proof.Proj.lean ====
module

public import proofs.«01_k».proof.Proof.Gen.ProjIdeal.Frame
public import proofs.«01_k».proof.Proof.Gen.ProjRefIdeal.Read
public import proofs.«01_k».proof.Proof.Last
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ProjIdeal.Val

open Cert.ProjIdeal Cert.ProjIdeal.Gen
open Cert.ProjRefIdeal.Read

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem final (c : Dev nD) : (dats m 0 c).arrAt 3 (cfgs 0).N
    = val_main_v2 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  have hN : t.val < 64 := lt_of_lt_of_eq t.isLt N_0
  frame_out
  idx_vars y
  pointwise [k0_pay1, val_main_v2, val_main_v1, val_main_v0]
  blk_point [iblk, V, idx t]

end Cert.ProjIdeal.Val
-- ==== Proof.ProjClaim.lean ====
module

public import proofs.«01_k».proof.Defs
public import proofs.«01_k».proof.Proof.Proj
public import Idealize.ShloMosaic.Lib.Claim

@[expose] public section

set_option maxRecDepth 16384

noncomputable section

open Idealize.ShloMosaic Idealize.ShloMosaic.TcCoe Idealize.SL.Sem

namespace Cert.Parts

theorem projRef_frame : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run m g)

theorem proj_algebraic : Cert.algebraic_ProjIdeal_ProjRefIdeal := by
  pair_intro
  · run_from Cert.ProjIdeal.Gen.run_main m g
  · refine (θ_run _ _ _).mono (fun _ h c => ⟨(h c).1.trans ?_, (h c).2⟩)
      (Cert.ProjRefIdeal.Value.run m' g')
    · rw [Cert.ProjRefIdeal.Read.val_main_v2_eq, (hagree c).1, (hagree c).2.1, (hagree c).2.2]
      exact (Cert.ProjIdeal.Val.final m c).symm

end Cert.Parts
-- ==== Proof.RawSample.lean ====
module

public import proofs.«01_k».proof.Proof.Gen.RawSampleIdeal.Frame
public import proofs.«01_k».proof.Proof.Gen.RawSampleRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RawSampleIdeal.Val

open Cert.RawSampleIdeal Cert.RawSampleIdeal.Gen
open Cert.RawSampleRefIdeal.Read

variable (m : (ℓ : Loc nD τ sig) → Buf (Elt Ideal) ℓ)

theorem idx : ∀ t : Fin cfg0.N, win0_0.index t = ![t.val / 2, 0] ∧ win0_1.index t = ![0, 0]
    ∧ win0_2.index t = ![0, t.val % 2] ∧ win0_3.index t = ![t.val / 2, t.val % 2] :=
  (by decide +kernel : ∀ t : Fin grid0.N, _)

/-- The reference's normalised input, at an index. -/
theorem ref_norm (x : FVec Ideal Cert.RawSampleRefIdeal.S32x2048 .f32) (g : FVec Ideal Cert.RawSampleRefIdeal.S2048 .f32)
    (i : Fin 32) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- A first point of a row block leaves the block's normalised rows in the scratch. -/
theorem norm_point (c : Dev nD) (t : Fin cfg0.N) (r : Fin 32) (k : Fin 2048) (hb : 32 * (t.val / 2) + r < 32) :
    k0_pay1 (F := Ideal) (iblk m c 0 t) (iblk m c 1 t) (ix2 r k)
      = val_main_v12 (F := Ideal) (m ((c : Thread nD τ).loc main_arg0))
          (m ((c : Thread nD τ).loc main_arg1)) (ix2 ⟨32 * (t.val / 2) + r, hb⟩ k) := by
  rw [ref_norm]
  pointwise [k0_pay1]
  blk_point [iblk, V, idx t]

theorem carry_first (c : Dev nD) (t : Fin cfg0.N) (h : t.val % 2 = 0) (r : Fin 32) (k : Fin 2048)
    (hb : 32 * (t.val / 2) + r < 32) :
    (outsAt0 m c t.val t.isLt).2 (ix2 r k) = val_main_v12 (F := Ideal) (m ((c : Thread nD τ).loc main_arg0))
      (m ((c : Thread nD τ).loc main_arg1)) (ix2 ⟨32 * (t.val / 2) + r, hb⟩ k) := by
  rw [outsAt0_A m c t h]
  frame_out
  exact norm_point m c t r k hb

/-- After every point the scratch holds the normalised rows of the point's row block. -/
theorem carry (c : Dev nD) (n : ℕ) (hn : n < cfg0.N) (r : Fin 32) (k : Fin 2048)
    (hb : 32 * (n / 2) + r < 32) :
    (outsAt0 m c n hn).2 (ix2 r k) = val_main_v12 (F := Ideal) (m ((c : Thread nD τ).loc main_arg0))
      (m ((c : Thread nD τ).loc main_arg1)) (ix2 ⟨32 * (n / 2) + r, hb⟩ k) := by
  induction n with
  | zero => exact carry_first m c ⟨0, hn⟩ rfl r k hb
  | succ n ih =>
    by_cases h : (n + 1) % 2 = 0
    · exact carry_first m c ⟨n + 1, hn⟩ h r k hb
    · rw [outsAt0_B m c ⟨n + 1, hn⟩ h]
      have e : (n + 1) / 2 = n / 2 := by omega
      refine (ih (Nat.lt_of_succ_lt hn) (by omega)).trans ?_
      simp only [e]

/-- The product of the normalised rows with the point's columns of the weight. -/
theorem product (c : Dev nD) (t : Fin cfg0.N) (ht : t.val < 2) (s : Vec Ideal S32x2048 .bf16)
    (hs : ∀ (r : Fin 32) (k : Fin 2048), s (ix2 r k)
      = val_main_v12 (F := Ideal) (m ((c : Thread nD τ).loc main_arg0))
          (m ((c : Thread nD τ).loc main_arg1)) (ix2 ⟨32 * (t.val / 2) + r, by omega⟩ k))
    (y : S32x512.Idx) :
    k0_pay2 (F := Ideal) s (iblk m c 2 t) y
      = val_main_v13 (F := Ideal) (m ((c : Thread nD τ).loc main_arg0)) (m ((c : Thread nD τ).loc main_arg1))
          (m ((c : Thread nD τ).loc main_arg2)) (((cfg0.win 3).blk t).view.emb y) := by
  idx_vars y
  pointwise [k0_pay2, val_main_v13]
  simp only [hs]
  blk_point [iblk, V, idx t]

theorem final (c : Dev nD) : (dats m 0 c).arrAt 3 (cfgs 0).N
    = val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  have hN : t.val < 2 := lt_of_lt_of_eq t.isLt N_0
  by_cases h : t.val % 2 = 0
  · rw [outsAt0_A m c t h]
    frame_out
    exact product m c t hN _ (fun r k => norm_point m c t r k (by omega)) y
  · rw [outsAt0_B m c t h]
    frame_out
    have e : (t.val - 1) / 2 = t.val / 2 := by omega
    rw [read_unread_whole]
    refine product m c t hN _ (fun r k => (carry m c (t.val - 1) (lt_of_le_of_lt (Nat.sub_le _ _) t.isLt) r k (by omega)).trans ?_) y
    simp only [e]

end Cert.RawSampleIdeal.Val
-- ==== Proof.RawSampleClaim.lean ====
module

public import proofs.«01_k».proof.Defs
public import proofs.«01_k».proof.Proof.RawSample
public import Idealize.ShloMosaic.Lib.Claim

@[expose] public section

set_option maxRecDepth 16384

noncomputable section

open Idealize.ShloMosaic Idealize.ShloMosaic.TcCoe Idealize.SL.Sem

namespace Cert.Parts

theorem rawSampleRef_frame : Cert.quiescent_RawSampleRefIdeal := fun m g _ =>
  (θ_run Cert.RawSampleRefIdeal.defs _ _).mono (fun r h => ⟨fun c => (h c).2, sem_eq_zero_of_no_sems (by decide) r.2⟩)
    (Cert.RawSampleRefIdeal.Value.run m g)

theorem rawSample_algebraic : Cert.algebraic_RawSampleIdeal_RawSampleRefIdeal := by
  pair_intro
  · run_from Cert.RawSampleIdeal.Gen.run_main m g
  · refine (θ_run _ _ _).mono (fun _ h c => ⟨(h c).1.trans ?_, (h c).2⟩)
      (Cert.RawSampleRefIdeal.Value.run m' g')
    · rw [Cert.RawSampleRefIdeal.Read.val_main_v13_eq, (hagree c).1, (hagree c).2.1, (hagree c).2.2]
      exact (Cert.RawSampleIdeal.Val.final m c).symm

end Cert.Parts
-- ==== Proof.KvSample.lean ====
module

public import proofs.«01_k».proof.Proof.Gen.KvSampleIdeal.Frame
public import proofs.«01_k».proof.Proof.Gen.KvSampleRefIdeal.Read
public import proofs.«01_k».proof.Proof.Rope
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KvSampleIdeal.Val

open Cert.KvSampleIdeal Cert.KvSampleIdeal.Gen Cert.Rope
open Cert.KvSampleRefIdeal.Read

variable (m : (ℓ : Loc nD τ sig) → Buf (Elt Ideal) ℓ)

theorem idx : ∀ t : Fin cfg0.N, win0_0.index t = ![0, 0] ∧ win0_1.index t = ![0, 0]
    ∧ win0_2.index t = ![0, t.val % 2] ∧ win0_3.index t = ![0, 0] ∧ win0_4.index t = ![0, 0]
    ∧ win0_5.index t = ![0, 0] ∧ win0_6.index t = ![0, t.val % 2] ∧ win0_7.index t = ![0, t.val % 2] :=
  (by decide +kernel : ∀ t : Fin grid0.N, _)

theorem head0 (z : FVec Ideal S32x512 .f32) (g : Vec Ideal S1x128 .f32) (cos sin : Vec Ideal S32x128 .f32) (r : Fin 32) (d : Fin 128) :
    k0_pay7 (F := Ideal) z g cos sin (ix2 r d)
      = rot (fun q => z (ix2 r q)) (fun e => g (ix2 0 e)) (fun e => cos (ix2 r e)) (fun e => sin (ix2 r e)) 0 d := by
  unfold rot kn
  pointwise [k0_pay7]
  blk_point []

theorem head1 (z : FVec Ideal S32x512 .f32) (g : Vec Ideal S1x128 .f32) (cos sin : Vec Ideal S32x128 .f32) (r : Fin 32) (d : Fin 128) :
    k0_pay14 (F := Ideal) (k0_pay9 z) (k0_pay10 g) (k0_pay11 cos) (k0_pay12 sin) (k0_pay13 z) (Scalar.ofBits .f32 0x43000000#32) (ix2 r d)
      = rot (fun q => z (ix2 r q)) (fun e => g (ix2 0 e)) (fun e => cos (ix2 r e)) (fun e => sin (ix2 r e)) 1 d := by
  unfold rot kn
  pointwise [k0_pay14, k0_pay9, k0_pay10, k0_pay11, k0_pay12, k0_pay13]
  blk_point []

theorem head2 (z : FVec Ideal S32x512 .f32) (g : Vec Ideal S1x128 .f32) (cos sin : Vec Ideal S32x128 .f32) (r : Fin 32) (d : Fin 128) :
    k0_pay16 (F := Ideal) z g cos sin (ix2 r d)
      = rot (fun q => z (ix2 r q)) (fun e => g (ix2 0 e)) (fun e => cos (ix2 r e)) (fun e => sin (ix2 r e)) 2 d := by
  unfold rot kn
  pointwise [k0_pay16]
  blk_point []

theorem head3 (s : Vec Ideal S32x2048 .bf16) (w : Vec Ideal S2048x512 .bf16) (g : Vec Ideal S1x128 .f32) (cos sin : Vec Ideal S32x128 .f32) (r : Fin 32) (d : Fin 128) :
    k0_pay4 (F := Ideal) s w g cos sin (ix2 r d)
      = rot (fun q => k0_pay2 s w (ix2 r q)) (fun e => g (ix2 0 e)) (fun e => cos (ix2 r e)) (fun e => sin (ix2 r e)) 3 d := by
  unfold rot kn
  pointwise [k0_pay4, k0_pay2]
  blk_point []

theorem head0b (z : FVec Ideal S32x512 .f32) (g : Vec Ideal S1x128 .f32) (cos sin : Vec Ideal S32x128 .f32) (r : Fin 32) (d : Fin 128) :
    k0_pay8 (F := Ideal) z g cos sin (ix2 r d)
      = rot (fun q => z (ix2 r q)) (fun e => g (ix2 0 e)) (fun e => cos (ix2 r e)) (fun e => sin (ix2 r e)) 0 d := by
  unfold rot kn
  pointwise [k0_pay8]
  blk_point []

theorem head1b (z : FVec Ideal S32x512 .f32) (g : Vec Ideal S1x128 .f32) (cos sin : Vec Ideal S32x128 .f32) (r : Fin 32) (d : Fin 128) :
    k0_pay15 (F := Ideal) (k0_pay9 z) (k0_pay10 g) (k0_pay11 cos) (k0_pay12 sin) (k0_pay13 z) (Scalar.ofBits .f32 0x43000000#32) (ix2 r d)
      = rot (fun q => z (ix2 r q)) (fun e => g (ix2 0 e)) (fun e => cos (ix2 r e)) (fun e => sin (ix2 r e)) 1 d := by
  unfold rot kn
  pointwise [k0_pay15, k0_pay9, k0_pay10, k0_pay11, k0_pay12, k0_pay13]
  blk_point []

theorem head2b (z : FVec Ideal S32x512 .f32) (g : Vec Ideal S1x128 .f32) (cos sin : Vec Ideal S32x128 .f32) (r : Fin 32) (d : Fin 128) :
    k0_pay3 (F := Ideal) (k0_pay16 z g cos sin) (ix2 r d)
      = rot (fun q => z (ix2 r q)) (fun e => g (ix2 0 e)) (fun e => cos (ix2 r e)) (fun e => sin (ix2 r e)) 2 d := by
  refine Eq.trans ?_ (head2 z g cos sin r d)
  pointwise [k0_pay3]

theorem head3b (s : Vec Ideal S32x2048 .bf16) (w : Vec Ideal S2048x512 .bf16) (g : Vec Ideal S1x128 .f32) (cos sin : Vec Ideal S32x128 .f32) (r : Fin 32) (d : Fin 128) :
    k0_pay5 (F := Ideal) s w g cos sin (ix2 r d)
      = rot (fun q => k0_pay2 s w (ix2 r q)) (fun e => g (ix2 0 e)) (fun e => cos (ix2 r e)) (fun e => sin (ix2 r e)) 3 d := by
  simp only [show ∀ i, k0_pay5 (F := Ideal) s w g cos sin i = k0_pay3 (F := Ideal) (k0_pay4 s w g cos sin) i from fun _ => rfl]
  refine Eq.trans ?_ (head3 s w g cos sin r d)
  pointwise [k0_pay3]

theorem cast_value (s : Vec Ideal S32x2048 .bf16) (w : Vec Ideal S2048x512 .bf16) (r : Fin 32) (q : Fin 512) :
    k0_pay6 (F := Ideal) s w (ix2 r q) = k0_pay2 (F := Ideal) s w (ix2 r q) := by
  pointwise [k0_pay6, k0_pay2]

/-! ## The arrays the blocks are cut from -/

theorem V_cos (c : Dev nD) (p : Fin 32) (d : Fin 128) : V m c main_v15 (ix2 p d) = cosRow 16384 d := by
  simp only [V, hostOps0, List.flatten_cons, List.flatten_nil, List.append_nil, List.cons_append, List.nil_append]
  after_reads_at
  unfold cosRow ang
  split
  · rw [Nat.mod_eq_of_lt ‹_›]
  · rw [show d.val % 64 = d - 64 by omega]

theorem V_sin (c : Dev nD) (p : Fin 32) (d : Fin 128) : V m c main_v17 (ix2 p d) = sinRow 16384 d := by
  simp only [V, hostOps0, List.flatten_cons, List.flatten_nil, List.append_nil, List.cons_append, List.nil_append]
  after_reads_at
  unfold sinRow ang
  split
  · rw [Nat.mod_eq_of_lt ‹_›]
  · rw [show d.val % 64 = d - 64 by omega]

theorem V_gain (c : Dev nD) (d : Fin 128) : V m c main_v20 (ix2 0 d) = (m ((c : Thread nD τ).loc main_arg3)) (ix1 d) := by
  simp only [V, hostOps0, List.flatten_cons, List.flatten_nil, List.append_nil, List.cons_append, List.nil_append]
  after_reads_at

/-! ## The reference -/

/-- The reference's normalised input, at an index. -/
theorem ref_norm (x : FVec Ideal Cert.KvSampleRefIdeal.S32x2048 .f32) (g : FVec Ideal Cert.KvSampleRefIdeal.S2048 .f32)
    (i : Fin 32) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_val (x : FVec Ideal Cert.KvSampleRefIdeal.S32x2048 .f32) (g : FVec Ideal Cert.KvSampleRefIdeal.S2048 .f32)
    (w : FVec Ideal Cert.KvSampleRefIdeal.S2048x1024 .f32) (gk : FVec Ideal Cert.KvSampleRefIdeal.S128 .f32) (R : Fin 32) (q : Fin 512) :
    val_main_v70 (F := Ideal) x g w gk (ix2 R ⟨512 + q, by omega⟩) = val_main_v13 (F := Ideal) x g w (ix2 R ⟨512 + q, by omega⟩) := by
  pointwise [val_main_v70, val_main_v69, val_main_v68, val_main_v67, val_main_v66, val_main_v65, val_main_v14]
  rw [dif_neg (by omega)]
  congr 2
  exact Fin.ext (by simp only; omega)

theorem ref_kn (x : FVec Ideal Cert.KvSampleRefIdeal.S32x2048 .f32) (g : FVec Ideal Cert.KvSampleRefIdeal.S2048 .f32)
    (w : FVec Ideal Cert.KvSampleRefIdeal.S2048x1024 .f32) (gk : FVec Ideal Cert.KvSampleRefIdeal.S128 .f32) (b : Fin 32) (h : Fin 4) (d : Fin 128) :
    val_main_v29 (F := Ideal) x g w gk (ix4 b 0 h d)
      = kn (fun q => val_main_v13 (F := Ideal) x g w (ix2 b ⟨q, by omega⟩)) (fun e => gk (ix1 e)) h d := by
  unfold kn
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]
  blk_point []

theorem ref_cos (p : Fin 1) (i : Fin 64) : val_main_v44 (F := Ideal) (ix2 p i) = Ideal.cos (ang 16384 i) := by
  unfold ang
  pointwise [val_main_v44, val_main_v43, val_main_v42, val_main_v41, val_main_v40, val_main_v39, val_main_v38, val_main_v37, val_main_v36, val_main_v35, val_main_v34, val_main_v33, val_main_v32, val_main_v31, val_main_v30, val_main_c, val_main_cst_5, val_main_cst_6]
  rw [show IntOp.addi 16384#32 0#32 = 16384#32 from by decide]

theorem ref_sin (p : Fin 1) (i : Fin 64) : val_main_v46 (F := Ideal) (ix2 p i) = Ideal.sin (ang 16384 i) := by
  unfold ang
  pointwise [val_main_v46, val_main_v43, val_main_v42, val_main_v41, val_main_v40, val_main_v39, val_main_v38, val_main_v37, val_main_v36, val_main_v35, val_main_v34, val_main_v33, val_main_v32, val_main_v31, val_main_v30, val_main_c, val_main_cst_5, val_main_cst_6]
  rw [show IntOp.addi 16384#32 0#32 = 16384#32 from by decide]

/-- The reference's keys: the projected row's heads normalised and rotated. -/
theorem ref_key (x : FVec Ideal Cert.KvSampleRefIdeal.S32x2048 .f32) (g : FVec Ideal Cert.KvSampleRefIdeal.S2048 .f32)
    (w : FVec Ideal Cert.KvSampleRefIdeal.S2048x1024 .f32) (gk : FVec Ideal Cert.KvSampleRefIdeal.S128 .f32) (R : Fin 32) (h : Fin 4) (d : Fin 128) :
    val_main_v70 (F := Ideal) x g w gk (ix2 R ⟨128 * h + d, by omega⟩)
      = rot (fun q => val_main_v13 (F := Ideal) x g w (ix2 R ⟨q, by omega⟩)) (fun e => gk (ix1 e)) (cosRow 16384) (sinRow 16384) h d := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v45]
  have e0 : (128 * h.val + d.val) / 512 < 1 := by omega
  simp only [e0, dite_true]
  by_cases hd : d.val < 64
  · simp only [hd, dite_true]
    exact (congrArg₂ (· - ·)
      (congrArg₂ (· * ·) (ref_kn x g w gk R h d) (ref_cos 0 ⟨d.val, hd⟩))
      (congrArg₂ (· * ·) (ref_kn x g w gk R h ⟨64 + d.val, by omega⟩) (ref_sin 0 ⟨d.val, hd⟩))).trans
      (rot_lo _ _ 16384 h d hd)
  · simp only [hd, dite_false]
    exact (congrArg₂ (· + ·)
      (congrArg₂ (· * ·) (ref_kn x g w gk R h ⟨64 + (d.val - 64), by omega⟩) (ref_cos 0 ⟨d.val - 64, by omega⟩))
      (congrArg₂ (· * ·) (ref_kn x g w gk R h ⟨d.val - 64, by omega⟩) (ref_sin 0 ⟨d.val - 64, by omega⟩))).trans
      (rot_hi _ _ 16384 h d hd)

/-! ## The kernel -/

/-- A first point of a row block leaves the block's normalised rows in the scratch. -/
theorem norm_point (c : Dev nD) (t : Fin cfg0.N) (r : Fin 32) (k : Fin 2048)  :
    k0_pay1 (F := Ideal) (iblk m c 0 t) (iblk m c 1 t) (ix2 r k)
      = val_main_v12 (F := Ideal) (m ((c : Thread nD τ).loc main_arg0)) (m ((c : Thread nD τ).loc main_arg1)) (ix2 r k) := by
  rw [ref_norm]
  pointwise [k0_pay1]
  blk_point [iblk, V, idx t]

/-- The projected rows' columns of the point. -/
theorem product (c : Dev nD) (t : Fin cfg0.N) (ht : t.val < 2) (s : Vec Ideal S32x2048 .bf16)
    (hs : ∀ (r : Fin 32) (k : Fin 2048), s (ix2 r k)
      = val_main_v12 (F := Ideal) (m ((c : Thread nD τ).loc main_arg0)) (m ((c : Thread nD τ).loc main_arg1)) (ix2 r k))
    (r : Fin 32) (q : Fin 512) :
    k0_pay2 (F := Ideal) s (iblk m c 2 t) (ix2 r q)
      = val_main_v13 (F := Ideal) (m ((c : Thread nD τ).loc main_arg0)) (m ((c : Thread nD τ).loc main_arg1)) (m ((c : Thread nD τ).loc main_arg2)) (ix2 r ⟨512 * (t.val % 2) + q, by omega⟩) := by
  pointwise [k0_pay2, val_main_v13]
  simp only [hs]
  blk_point [iblk, V, idx t]

theorem v71_eq (x : FVec Ideal Cert.KvSampleRefIdeal.S32x2048 .f32) (g : FVec Ideal Cert.KvSampleRefIdeal.S2048 .f32)
    (w : FVec Ideal Cert.KvSampleRefIdeal.S2048x1024 .f32) (gk : FVec Ideal Cert.KvSampleRefIdeal.S128 .f32) (i : Cert.KvSampleRefIdeal.S32x1024.Idx) :
    val_main_v71 (F := Ideal) x g w gk i = val_main_v70 (F := Ideal) x g w gk i := by
  pointwise [val_main_v71]

/-- The keys of a point in the first half of the columns, a head at a time. -/
theorem key_point (c : Dev nD) (t : Fin cfg0.N) (ht : t.val < 2) (h0 : t.val % 2 = 0) (r : Fin 32) (h : Fin 4) (d : Fin 128) :
    rot (fun q => k0_pay2 (F := Ideal) (k0_pay1 (iblk m c 0 t) (iblk m c 1 t)) (iblk m c 2 t) (ix2 r q))
        (fun e => iblk m c 5 t (ix2 0 e)) (fun e => iblk m c 3 t (ix2 r e)) (fun e => iblk m c 4 t (ix2 r e)) h d
      = val_main_v70 (F := Ideal) (m ((c : Thread nD τ).loc main_arg0)) (m ((c : Thread nD τ).loc main_arg1)) (m ((c : Thread nD τ).loc main_arg2)) (m ((c : Thread nD τ).loc main_arg3)) (ix2 r ⟨128 * h + d, by omega⟩) := by
  refine (rot_congr (funext fun q => ?_) (funext fun e => ?_) (funext fun e => ?_) (funext fun e => ?_) h d).trans
    (ref_key (m ((c : Thread nD τ).loc main_arg0)) (m ((c : Thread nD τ).loc main_arg1)) (m ((c : Thread nD τ).loc main_arg2)) (m ((c : Thread nD τ).loc main_arg3)) r h d).symm
  · refine (product m c t ht _ (fun r k => norm_point m c t r k) r q).trans ?_
    exact congrArg (fun j : Fin 1024 => val_main_v13 (F := Ideal) (m ((c : Thread nD τ).loc main_arg0)) (m ((c : Thread nD τ).loc main_arg1)) (m ((c : Thread nD τ).loc main_arg2)) (ix2 r j))
      (Fin.ext (by simp only; omega))
  · exact (show iblk m c 5 t (ix2 0 e) = V m c main_v20 (ix2 0 e) by blk_point [iblk, idx t]).trans (V_gain m c e)
  · exact (show iblk m c 3 t (ix2 r e) = V m c main_v15 (ix2 r e) by
      blk_point [iblk, idx t]).trans (V_cos m c _ e)
  · exact (show iblk m c 4 t (ix2 r e) = V m c main_v17 (ix2 r e) by
      blk_point [iblk, idx t]).trans (V_sin m c _ e)

/-- The values of a point in the second half of the columns. -/
theorem value_point (c : Dev nD) (t : Fin cfg0.N) (ht : t.val < 2) (h1 : ¬ t.val % 2 = 0) (s : Vec Ideal S32x2048 .bf16)
    (hs : ∀ (r : Fin 32) (k : Fin 2048), s (ix2 r k)
      = val_main_v12 (F := Ideal) (m ((c : Thread nD τ).loc main_arg0)) (m ((c : Thread nD τ).loc main_arg1)) (ix2 r k))
    (r : Fin 32) (q : Fin 512) :
    k0_pay2 (F := Ideal) s (iblk m c 2 t) (ix2 r q)
      = val_main_v70 (F := Ideal) (m ((c : Thread nD τ).loc main_arg0)) (m ((c : Thread nD τ).loc main_arg1)) (m ((c : Thread nD τ).loc main_arg2)) (m ((c : Thread nD τ).loc main_arg3)) (ix2 r ⟨512 * (t.val % 2) + q, by omega⟩) := by
  have e : (⟨512 * (t.val % 2) + q.val, by omega⟩ : Fin 1024) = ⟨512 + q, by omega⟩ := Fin.ext (by simp only; omega)
  refine (product m c t ht s hs r q).trans ?_
  simp only [e]
  exact (ref_val (m ((c : Thread nD τ).loc main_arg0)) (m ((c : Thread nD τ).loc main_arg1)) (m ((c : Thread nD τ).loc main_arg2)) (m ((c : Thread nD τ).loc main_arg3)) _ q).symm

/-- After a first point of a row block the scratch holds the block's normalised rows. -/
theorem carry_first (c : Dev nD) (t : Fin cfg0.N) (h : t.val % 2 = 0) (r : Fin 32) (k : Fin 2048) :
    (outsAt0 m c t.val t.isLt).2.2 (ix2 r k) = val_main_v12 (F := Ideal) (m ((c : Thread nD τ).loc main_arg0)) (m ((c : Thread nD τ).loc main_arg1)) (ix2 r k) := by
  rw [outsAt0_A m c t h h (by omega)]
  frame_out
  exact norm_point m c t r k

/-- Before a second point of a row block the scratch holds the block's normalised rows. -/
theorem carry (c : Dev nD) (t : Fin cfg0.N) (h : ¬ t.val % 2 = 0) (hn : t.val - 1 < cfg0.N) (r : Fin 32) (k : Fin 2048) :
    (outsAt0 m c (t.val - 1) hn).2.2 (ix2 r k) = val_main_v12 (F := Ideal) (m ((c : Thread nD τ).loc main_arg0)) (m ((c : Thread nD τ).loc main_arg1)) (ix2 r k) := by
  exact carry_first m c ⟨t.val - 1, hn⟩ (by simp only; omega) r k

theorem tile (c : Dev nD) (t : Fin cfg0.N) (ht : t.val < 2) (h0 : t.val % 2 = 0) (r : Fin 32) (q : Fin 512) (h : Fin 4) (x0 : Fin 32) (d : Fin 128)
    (hr : r.val = x0) (hq : q.val = 128 * h + d) :
    val_main_v70 (F := Ideal) (m ((c : Thread nD τ).loc main_arg0)) (m ((c : Thread nD τ).loc main_arg1)) (m ((c : Thread nD τ).loc main_arg2)) (m ((c : Thread nD τ).loc main_arg3)) (ix2 x0 ⟨128 * h + d, by omega⟩)
      = val_main_v70 (F := Ideal) (m ((c : Thread nD τ).loc main_arg0)) (m ((c : Thread nD τ).loc main_arg1)) (m ((c : Thread nD τ).loc main_arg2)) (m ((c : Thread nD τ).loc main_arg3)) (ix2 r ⟨512 * (t.val % 2) + q, by omega⟩) := by
  have e1 : x0 = r := Fin.ext hr.symm
  have e2 : (⟨128 * h + d, by omega⟩ : Fin 1024) = ⟨512 * (t.val % 2) + q, by omega⟩ := Fin.ext (by simp only; omega)
  exact congrArg₂ (fun a b => val_main_v70 (F := Ideal) (m ((c : Thread nD τ).loc main_arg0)) (m ((c : Thread nD τ).loc main_arg1)) (m ((c : Thread nD τ).loc main_arg2)) (m ((c : Thread nD τ).loc main_arg3)) (ix2 a b)) e1 e2

/-- The rows the point leaves in the first result's window. -/
theorem rows_point (c : Dev nD) (t : Fin cfg0.N) (ht : t.val < 2) (r : Fin 32) (q : Fin 512) :
    (outsAt0 m c t.val t.isLt).1 (ix2 r q)
      = val_main_v70 (F := Ideal) (m ((c : Thread nD τ).loc main_arg0)) (m ((c : Thread nD τ).loc main_arg1)) (m ((c : Thread nD τ).loc main_arg2)) (m ((c : Thread nD τ).loc main_arg3)) (ix2 r ⟨512 * (t.val % 2) + q, by omega⟩) := by
  by_cases h : t.val % 2 = 0
  · rw [outsAt0_A m c t h h (by omega)]
    frame_out
    canon_tiles x hx
    · idx_vars x
      exact (head3 _ _ _ _ _ x0 x1).trans ((key_point m c t ht h x0 3 x1).trans (tile m c t ht h r q 3 x0 x1 (by omega) (by omega)))
    · idx_vars x
      exact (head2 _ _ _ _ x0 x1).trans ((key_point m c t ht h x0 2 x1).trans (tile m c t ht h r q 2 x0 x1 (by omega) (by omega)))
    · idx_vars x
      exact (head1 _ _ _ _ x0 x1).trans ((key_point m c t ht h x0 1 x1).trans (tile m c t ht h r q 1 x0 x1 (by omega) (by omega)))
    · idx_vars x
      exact (head0 _ _ _ _ x0 x1).trans ((key_point m c t ht h x0 0 x1).trans (tile m c t ht h r q 0 x0 x1 (by omega) (by omega)))
  · rw [outsAt0_B m c t h h (by omega)]
    frame_out
    rw [read_unread_whole]
    exact value_point m c t ht h _ (fun r k => carry m c t h _ r k) r q

/-- The same rows in the second result's window. -/
theorem cast_point (c : Dev nD) (t : Fin cfg0.N) (ht : t.val < 2) (r : Fin 32) (q : Fin 512) :
    (outsAt0 m c t.val t.isLt).2.1 (ix2 r q)
      = val_main_v70 (F := Ideal) (m ((c : Thread nD τ).loc main_arg0)) (m ((c : Thread nD τ).loc main_arg1)) (m ((c : Thread nD τ).loc main_arg2)) (m ((c : Thread nD τ).loc main_arg3)) (ix2 r ⟨512 * (t.val % 2) + q, by omega⟩) := by
  by_cases h : t.val % 2 = 0
  · rw [outsAt0_A m c t h h (by omega)]
    frame_out
    canon_tiles x hx
    · idx_vars x
      exact (head3b _ _ _ _ _ x0 x1).trans ((key_point m c t ht h x0 3 x1).trans (tile m c t ht h r q 3 x0 x1 (by omega) (by omega)))
    · idx_vars x
      exact (head2b _ _ _ _ x0 x1).trans ((key_point m c t ht h x0 2 x1).trans (tile m c t ht h r q 2 x0 x1 (by omega) (by omega)))
    · idx_vars x
      exact (head1b _ _ _ _ x0 x1).trans ((key_point m c t ht h x0 1 x1).trans (tile m c t ht h r q 1 x0 x1 (by omega) (by omega)))
    · idx_vars x
      exact (head0b _ _ _ _ x0 x1).trans ((key_point m c t ht h x0 0 x1).trans (tile m c t ht h r q 0 x0 x1 (by omega) (by omega)))
  · rw [outsAt0_B m c t h h (by omega)]
    frame_out
    rw [read_unread_whole]
    exact (cast_value _ _ r q).trans (value_point m c t ht h _ (fun r k => carry m c t h _ r k) r q)

theorem final_rows (c : Dev nD) : (dats m 0 c).arrAt 6 (cfgs 0).N = val_main_v70 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  idx_vars y
  refine (rows_point m c t (lt_of_lt_of_eq t.isLt N_0) y0 y1).trans ?_
  blk_point [idx t]

theorem final_cast (c : Dev nD) : (dats m 0 c).arrAt 7 (cfgs 0).N = val_main_v71 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (cast_point m c t (lt_of_lt_of_eq t.isLt N_0) y0 y1).trans ?_
  rw [v71_eq]
  blk_point [idx t]

end Cert.KvSampleIdeal.Val
-- ==== Proof.KvSampleClaim.lean ====
module

public import proofs.«01_k».proof.Defs
public import proofs.«01_k».proof.Proof.KvSample
public import Idealize.ShloMosaic.Lib.Claim

@[expose] public section

set_option maxRecDepth 16384

noncomputable section

open Idealize.ShloMosaic Idealize.ShloMosaic.TcCoe Idealize.SL.Sem

namespace Cert.Parts

theorem kvSampleRef_frame : Cert.quiescent_KvSampleRefIdeal := fun m g _ =>
  (θ_run Cert.KvSampleRefIdeal.defs _ _).mono (fun r h => ⟨fun c => (h c).2.2, sem_eq_zero_of_no_sems (by decide) r.2⟩)
    (Cert.KvSampleRefIdeal.Value.run m g)

theorem kvSample_algebraic : Cert.algebraic_KvSampleIdeal_KvSampleRefIdeal := by
  pair_intro
  · run_from Cert.KvSampleIdeal.Gen.run_main m g
  · refine (θ_run _ _ _).mono (fun _ h c => ⟨(h c).1.trans ?_, (h c).2.1.trans ?_, (h c).2.2⟩)
      (Cert.KvSampleRefIdeal.Value.run m' g')
    · rw [Cert.KvSampleRefIdeal.Read.val_main_v70_eq, (hagree c).1, (hagree c).2.1, (hagree c).2.2.1, (hagree c).2.2.2]
      exact (Cert.KvSampleIdeal.Val.final_rows m c).symm
    · rw [Cert.KvSampleRefIdeal.Read.val_main_v71_eq, (hagree c).1, (hagree c).2.1, (hagree c).2.2.1, (hagree c).2.2.2]
      exact (Cert.KvSampleIdeal.Val.final_cast m c).symm

end Cert.Parts
-- ==== Proof.FfnSample.lean ====
module

public import proofs.«01_k».proof.Proof.Gen.FfnSampleIdeal.Frame
public import proofs.«01_k».proof.Proof.Gen.FfnSampleRefIdeal.Read
public import proofs.«01_k».proof.Proof.Last
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnSampleIdeal.Val

open Cert.FfnSampleIdeal Cert.FfnSampleIdeal.Gen
open Cert.FfnSampleRefIdeal.Read

variable (m : (ℓ : Loc nD τ sig) → Buf (Elt Ideal) ℓ)

theorem idx : ∀ t : Fin cfg0.N, win0_0.index t = ![0, 0] ∧ win0_1.index t = ![0, 0] ∧ win0_2.index t = ![0, t.val]
    ∧ win0_3.index t = ![0, 12 + t.val] ∧ win0_4.index t = ![0, t.val] ∧ win0_5.index t = ![0, 12 + t.val]
    ∧ win0_6.index t = ![0, t.val] ∧ win0_7.index t = ![0, t.val] ∧ win0_8.index t = ![t.val, 0]
    ∧ win0_9.index t = ![0, 0] ∧ win0_10.index t = ![0, t.val] ∧ win0_11.index t = ![0, t.val] :=
  (by decide +kernel : ∀ t : Fin grid0.N, _)

theorem lt12 (t : Fin cfg0.N) : t.val < 12 := lt_of_lt_of_eq t.isLt N_0

/-! ## The arrays the blocks are cut from, and the blocks -/

theorem V_tap0 (c : Dev nD) (l : Fin 6144) : V m c main_v0 (ix2 0 l) = (m ((c : Thread nD τ).loc main_arg4)) (ix2 0 l) := by
  simp only [V, hostOps0, hostOps0_1, hostOps0_2, List.flatten_cons, List.flatten_nil, List.append_nil, List.cons_append,
    List.nil_append]
  after_reads_at

theorem V_tap1 (c : Dev nD) (l : Fin 6144) : V m c main_v0 (ix2 1 l) = (m ((c : Thread nD τ).loc main_arg4)) (ix2 1 l) := by
  simp only [V, hostOps0, hostOps0_1, hostOps0_2, List.flatten_cons, List.flatten_nil, List.append_nil, List.cons_append,
    List.nil_append]
  after_reads_at

theorem V_tap2 (c : Dev nD) (l : Fin 6144) : V m c main_v0 (ix2 2 l) = (m ((c : Thread nD τ).loc main_arg4)) (ix2 2 l) := by
  simp only [V, hostOps0, hostOps0_1, hostOps0_2, List.flatten_cons, List.flatten_nil, List.append_nil, List.cons_append,
    List.nil_append]
  after_reads_at

theorem V_gain (c : Dev nD) (l : Fin 2048) : V m c main_v1 (ix2 0 l) = (m ((c : Thread nD τ).loc main_arg2)) (ix1 l) := by
  simp only [V, hostOps0, hostOps0_1, hostOps0_2, List.flatten_cons, List.flatten_nil, List.append_nil, List.cons_append,
    List.nil_append]
  after_reads_at

theorem V_up (c : Dev nD) (k : Fin 2048) (l : Fin 12288) : V m c main_v2 (ix2 k l) = (m ((c : Thread nD τ).loc main_arg3)) (ix2 k l) := by
  simp only [V, hostOps0, hostOps0_1, hostOps0_2, List.flatten_cons, List.flatten_nil, List.append_nil, List.cons_append,
    List.nil_append]
  after_reads_at

theorem V_bias (c : Dev nD) (l : Fin 6144) : V m c main_v3 (ix2 0 l) = (m ((c : Thread nD τ).loc main_arg5)) (ix1 l) := by
  simp only [V, hostOps0, hostOps0_1, hostOps0_2, List.flatten_cons, List.flatten_nil, List.append_nil, List.cons_append,
    List.nil_append]
  after_reads_at

theorem V_down (c : Dev nD) (k : Fin 6144) (l : Fin 2048) : V m c main_v4 (ix2 k l) = (m ((c : Thread nD τ).loc main_arg6)) (ix2 k l) := by
  simp only [V, hostOps0, hostOps0_1, hostOps0_2, List.flatten_cons, List.flatten_nil, List.append_nil, List.cons_append,
    List.nil_append]
  after_reads_at

theorem V_st0 (c : Dev nD) (r : Fin 32) (l : Fin 6144) : V m c main_v5 (ix2 r ⟨l, by omega⟩) = (m ((c : Thread nD τ).loc main_arg1)) (ix3 r 0 l) := by
  simp only [V, hostOps0, hostOps0_1, hostOps0_2, List.flatten_cons, List.flatten_nil, List.append_nil, List.cons_append,
    List.nil_append]
  after_reads_at
  exact congrArg₂ (fun (a : Fin 2) (b : Fin 6144) => (m ((c : Thread nD τ).loc main_arg1)) (ix3 r a b)) (Fin.ext (Nat.div_eq_of_lt l.isLt)) (Fin.ext (Nat.mod_eq_of_lt l.isLt))

theorem V_st1 (c : Dev nD) (r : Fin 32) (l : Fin 6144) : V m c main_v5 (ix2 r ⟨6144 + l, by omega⟩) = (m ((c : Thread nD τ).loc main_arg1)) (ix3 r 1 l) := by
  simp only [V, hostOps0, hostOps0_1, hostOps0_2, List.flatten_cons, List.flatten_nil, List.append_nil, List.cons_append,
    List.nil_append]
  after_reads_at
  exact congrArg (fun (a : Fin 2) => (m ((c : Thread nD τ).loc main_arg1)) (ix3 r a l)) (Fin.ext (show (6144 + l.val) / 6144 = 1 by omega))

theorem b0 (c : Dev nD) (t : Fin cfg0.N) (ht : t.val < 12) (r : Fin 32) (k : Fin 2048) :
    iblk m c 0 t (ix2 r k) = (m ((c : Thread nD τ).loc main_arg0)) (ix2 r k) :=
  (show iblk m c 0 t (ix2 r k) = V m c main_arg0 (ix2 r k) by blk_point [iblk, idx t]).trans (congrFun (V_main_arg0 m c) _)

theorem b1 (c : Dev nD) (t : Fin cfg0.N) (ht : t.val < 12) (k : Fin 2048) :
    iblk m c 1 t (ix2 0 k) = (m ((c : Thread nD τ).loc main_arg2)) (ix1 k) :=
  (show iblk m c 1 t (ix2 0 k) = V m c main_v1 (ix2 0 k) by blk_point [iblk, idx t]).trans (V_gain m c k)

theorem b2 (c : Dev nD) (t : Fin cfg0.N) (ht : t.val < 12) (r : Fin 32) (f : Fin 512) :
    iblk m c 2 t (ix2 r f) = (m ((c : Thread nD τ).loc main_arg1)) (ix3 r 0 ⟨512 * t.val + f, by omega⟩) :=
  (show iblk m c 2 t (ix2 r f) = V m c main_v5 (ix2 r ⟨512 * t.val + f, by omega⟩) by blk_point [iblk, idx t]).trans (V_st0 m c r ⟨512 * t.val + f, by omega⟩)

theorem b3 (c : Dev nD) (t : Fin cfg0.N) (ht : t.val < 12) (r : Fin 32) (f : Fin 512) :
    iblk m c 3 t (ix2 r f) = (m ((c : Thread nD τ).loc main_arg1)) (ix3 r 1 ⟨512 * t.val + f, by omega⟩) :=
  (show iblk m c 3 t (ix2 r f) = V m c main_v5 (ix2 r ⟨6144 + (512 * t.val + f), by omega⟩) by blk_point [iblk, idx t]).trans (V_st1 m c r ⟨512 * t.val + f, by omega⟩)

theorem b4 (c : Dev nD) (t : Fin cfg0.N) (ht : t.val < 12) (k : Fin 2048) (f : Fin 512) :
    iblk m c 4 t (ix2 k f) = (m ((c : Thread nD τ).loc main_arg3)) (ix2 k ⟨512 * t.val + f, by omega⟩) :=
  (show iblk m c 4 t (ix2 k f) = V m c main_v2 (ix2 k ⟨512 * t.val + f, by omega⟩) by blk_point [iblk, idx t]).trans (V_up m c _ _)

theorem b5 (c : Dev nD) (t : Fin cfg0.N) (ht : t.val < 12) (k : Fin 2048) (f : Fin 512) :
    iblk m c 5 t (ix2 k f) = (m ((c : Thread nD τ).loc main_arg3)) (ix2 k ⟨6144 + (512 * t.val + f), by omega⟩) :=
  (show iblk m c 5 t (ix2 k f) = V m c main_v2 (ix2 k ⟨6144 + (512 * t.val + f), by omega⟩) by blk_point [iblk, idx t]).trans (V_up m c _ _)

theorem b6_0 (c : Dev nD) (t : Fin cfg0.N) (ht : t.val < 12) (f : Fin 512) :
    iblk m c 6 t (ix2 0 f) = (m ((c : Thread nD τ).loc main_arg4)) (ix2 0 ⟨512 * t.val + f, by omega⟩) :=
  (show iblk m c 6 t (ix2 0 f) = V m c main_v0 (ix2 0 ⟨512 * t.val + f, by omega⟩) by blk_point [iblk, idx t]).trans (V_tap0 m c _)

theorem b6_1 (c : Dev nD) (t : Fin cfg0.N) (ht : t.val < 12) (f : Fin 512) :
    iblk m c 6 t (ix2 1 f) = (m ((c : Thread nD τ).loc main_arg4)) (ix2 1 ⟨512 * t.val + f, by omega⟩) :=
  (show iblk m c 6 t (ix2 1 f) = V m c main_v0 (ix2 1 ⟨512 * t.val + f, by omega⟩) by blk_point [iblk, idx t]).trans (V_tap1 m c _)

theorem b6_2 (c : Dev nD) (t : Fin cfg0.N) (ht : t.val < 12) (f : Fin 512) :
    iblk m c 6 t (ix2 2 f) = (m ((c : Thread nD τ).loc main_arg4)) (ix2 2 ⟨512 * t.val + f, by omega⟩) :=
  (show iblk m c 6 t (ix2 2 f) = V m c main_v0 (ix2 2 ⟨512 * t.val + f, by omega⟩) by blk_point [iblk, idx t]).trans (V_tap2 m c _)

theorem b7 (c : Dev nD) (t : Fin cfg0.N) (ht : t.val < 12) (f : Fin 512) :
    iblk m c 7 t (ix2 0 f) = (m ((c : Thread nD τ).loc main_arg5)) (ix1 ⟨512 * t.val + f, by omega⟩) :=
  (show iblk m c 7 t (ix2 0 f) = V m c main_v3 (ix2 0 ⟨512 * t.val + f, by omega⟩) by blk_point [iblk, idx t]).trans (V_bias m c _)

theorem b8 (c : Dev nD) (t : Fin cfg0.N) (ht : t.val < 12) (f : Fin 512) (d : Fin 2048) :
    iblk m c 8 t (ix2 f d) = (m ((c : Thread nD τ).loc main_arg6)) (ix2 ⟨512 * t.val + f, by omega⟩ d) :=
  (show iblk m c 8 t (ix2 f d) = V m c main_v4 (ix2 ⟨512 * t.val + f, by omega⟩ d) by blk_point [iblk, idx t]).trans (V_down m c _ _)

/-- The first point leaves the normalised rows in the scratch. -/
theorem norm_point (c : Dev nD) (t : Fin cfg0.N) (r : Fin 32) (k : Fin 2048) :
    k0_pay5 (F := Ideal) (iblk m c 0 t) (iblk m c 1 t) (ix2 r k) = val_main_v12 (F := Ideal) (m ((c : Thread nD τ).loc main_arg0)) (m ((c : Thread nD τ).loc main_arg2)) (ix2 r k) := by
  have ht := lt12 t
  pointwise [k0_pay5, val_main_v12, val_main_v11, val_main_v10, val_main_v9, val_main_v8, val_main_v7, val_main_v6, val_main_v5, val_main_v4, val_main_v3, val_main_v2, val_main_v1, val_main_v0, val_main_cst, val_main_cst_0, val_main_cst_1]
  simp only [b0 m c t ht, b1 m c t ht]

theorem carry (c : Dev nD) (n : ℕ) (hn : n < cfg0.N) (r : Fin 32) (k : Fin 2048) :
    (outsAt0 m c n hn).2.2.2 (ix2 r k) = val_main_v12 (F := Ideal) (m ((c : Thread nD τ).loc main_arg0)) (m ((c : Thread nD τ).loc main_arg2)) (ix2 r k) := by
  induction n with
  | zero =>
    rw [outsAt0_A m c ⟨0, hn⟩ (by simp only) (by simp only) (by simp only; omega)]
    frame_out
    exact norm_point m c ⟨0, hn⟩ r k
  | succ n ih =>
    have h12 : n + 1 < 12 := lt12 ⟨n + 1, hn⟩
    rw [outsAt0_B m c ⟨n + 1, hn⟩ (by simp only; omega) (by simp only; omega) (by simp only; omega)]
    exact ih (Nat.lt_of_succ_lt hn)

/-! ## A point's products -/

theorem gate_point (c : Dev nD) (t : Fin cfg0.N) (s : Vec Ideal S32x2048 .bf16)
    (hs : ∀ (r : Fin 32) (k : Fin 2048), s (ix2 r k) = val_main_v12 (F := Ideal) (m ((c : Thread nD τ).loc main_arg0)) (m ((c : Thread nD τ).loc main_arg2)) (ix2 r k)) (r : Fin 32) (f : Fin 512) :
    k0_pay6 (F := Ideal) s (iblk m c 4 t) (ix2 r f)
      = val_main_v14 (F := Ideal) (m ((c : Thread nD τ).loc main_arg0)) (m ((c : Thread nD τ).loc main_arg2)) (m ((c : Thread nD τ).loc main_arg3)) (ix2 r ⟨512 * t.val + f, by have := lt12 t; omega⟩) := by
  have ht := lt12 t
  pointwise [k0_pay6, val_main_v14, val_main_v13]
  simp only [hs, b4 m c t ht]

theorem lin_point (c : Dev nD) (t : Fin cfg0.N) (s : Vec Ideal S32x2048 .bf16)
    (hs : ∀ (r : Fin 32) (k : Fin 2048), s (ix2 r k) = val_main_v12 (F := Ideal) (m ((c : Thread nD τ).loc main_arg0)) (m ((c : Thread nD τ).loc main_arg2)) (ix2 r k)) (r : Fin 32) (f : Fin 512) :
    k0_pay7 (F := Ideal) s (iblk m c 5 t) (ix2 r f)
      = val_main_v15 (F := Ideal) (m ((c : Thread nD τ).loc main_arg0)) (m ((c : Thread nD τ).loc main_arg2)) (m ((c : Thread nD τ).loc main_arg3)) (ix2 r ⟨512 * t.val + f, by have := lt12 t; omega⟩) := by
  have ht := lt12 t
  pointwise [k0_pay7, val_main_v15, val_main_v13]
  simp only [hs, b5 m c t ht]

/-- One point's part of the down-projection. -/
theorem update (c : Dev nD) (t : Fin cfg0.N) (ht : t.val < 12) (s : Vec Ideal S32x2048 .bf16)
    (hs : ∀ (r : Fin 32) (k : Fin 2048), s (ix2 r k) = val_main_v12 (F := Ideal) (m ((c : Thread nD τ).loc main_arg0)) (m ((c : Thread nD τ).loc main_arg2)) (ix2 r k)) (p : Fin 32) (d : Fin 2048) :
    k0_pay1 (F := Ideal) (k0_pay7 s (iblk m c 5 t))
      (k0_pay8 s (iblk m c 4 t) (iblk m c 2 t) (View.ld (iblk m c 6 t) (Rect.unit ![0, 0] ![1, 512] inb_S8x512_S1x512_0_0)) (iblk m c 3 t)
        (View.ld (iblk m c 6 t) (Rect.unit ![1, 0] ![1, 512] inb_S8x512_S1x512_1_0))
        (View.ld (iblk m c 6 t) (Rect.unit ![2, 0] ![1, 512] inb_S8x512_S1x512_2_0)) (iblk m c 7 t))
      (FloatOps.ofBits FTy.f32 0x3F000000#32) (iblk m c 8 t) (ix2 p d)
      = ∑ f : Fin 512, val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 p ⟨512 * t.val + f, by omega⟩)
          * (m ((c : Thread nD τ).loc main_arg6)) (ix2 ⟨512 * t.val + f, by omega⟩ d) := by
  have ha := gate_point m c t s hs
  have hb := lin_point m c t s hs
  pointwise [k0_pay1, k0_pay8, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_cst_2, val_main_cst_3]
  refine Finset.sum_congr rfl fun f _ => ?_
  simp only [neg_mul, Ideal.erfc_neg, Ideal.erf_def, ha, hb, b2 m c t ht, b3 m c t ht, b6_0 m c t ht, b6_1 m c t ht, b6_2 m c t ht,
    b7 m c t ht, b8 m c t ht]

theorem ref_out (x0 : FVec Ideal Cert.FfnSampleRefIdeal.S32x2048 .f32) (x1 : FVec Ideal Cert.FfnSampleRefIdeal.S32x2x6144 .f32)
    (x2 : FVec Ideal Cert.FfnSampleRefIdeal.S2048 .f32) (x3 : FVec Ideal Cert.FfnSampleRefIdeal.S2048x12288 .f32)
    (x4 : FVec Ideal Cert.FfnSampleRefIdeal.S3x6144 .f32) (x5 : FVec Ideal Cert.FfnSampleRefIdeal.S6144 .f32)
    (x6 : FVec Ideal Cert.FfnSampleRefIdeal.S6144x2048 .f32) (i : Fin 32) (d : Fin 2048) :
    val_main_v51 (F := Ideal) x0 x1 x2 x3 x4 x5 x6 (ix2 i d) = x0 (ix2 i d)
      + ∑ f : Fin 6144, val_main_v49 (F := Ideal) x0 x1 x2 x3 x4 x5 (ix2 i f) * x6 (ix2 f d) := by
  pointwise [val_main_v51, val_main_v50]

/-- What a point adds to the output. -/
def add (c : Dev nD) (t : Fin cfg0.N) (ht : t.val < 12) (p : Fin 32) (d : Fin 2048) : EReal :=
  ∑ f : Fin 512, val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 p ⟨512 * t.val + f, by omega⟩)
    * (m ((c : Thread nD τ).loc main_arg6)) (ix2 ⟨512 * t.val + f, by omega⟩ d)

theorem pay2_apply (v10 v32 : FVec Ideal S32x512 .f32) (h : Ideal .f32) (w : Vec Ideal S512x2048 .bf16) (x : Vec Ideal S32x2048 .f32) (y : S32x2048.Idx) :
    k0_pay2 (F := Ideal) v10 v32 h w x y = x y + k0_pay1 (F := Ideal) v10 v32 h w y := by
  idx_vars y
  pointwise [k0_pay2]

theorem pay3_apply (v10 v32 : FVec Ideal S32x512 .f32) (h : Ideal .f32) (w : Vec Ideal S512x2048 .bf16) (x : Vec Ideal S32x2048 .f32) (y : S32x2048.Idx) :
    k0_pay3 (F := Ideal) v10 v32 h w x y = x y + k0_pay1 (F := Ideal) v10 v32 h w y := by
  idx_vars y
  pointwise [k0_pay3]

theorem step0 (c : Dev nD) (t : Fin cfg0.N) (h : t.val % 12 = 0) (p : Fin 32) (d : Fin 2048) :
    (outsAt0 m c t.val t.isLt).1 (ix2 p d) = (show EReal from (m ((c : Thread nD τ).loc main_arg0)) (ix2 p d)) + add m c t (lt12 t) p d := by
  have ht := lt12 t
  rw [outsAt0_A m c t (by omega) (by omega) (by omega)]
  frame_out
  refine (pay2_apply _ _ _ _ _ _).trans (congrArg₂ (· + ·) (b0 m c t ht p d) ?_)
  exact update m c t ht _ (fun r k => norm_point m c t r k) p d

theorem step1 (c : Dev nD) (t : Fin cfg0.N) (h : ¬ t.val % 12 = 0) (p : Fin 32) (d : Fin 2048) :
    (outsAt0 m c t.val t.isLt).1 (ix2 p d)
      = (outsAt0 m c (t.val - 1) (lt_of_le_of_lt (Nat.sub_le _ _) t.isLt)).1 (ix2 p d) + add m c t (lt12 t) p d := by
  have ht := lt12 t
  rw [outsAt0_B m c t (by omega) (by omega) (by omega)]
  frame_out
  rw [read_unread_whole]
  refine (pay3_apply _ _ _ _ _ _).trans (congrArg₂ (· + ·) rfl ?_)
  exact update m c t ht _ (fun r k => carry m c _ _ r k) p d

theorem point9 (c : Dev nD) (t : Fin cfg0.N) (h : t.val % 12 = 11) (p : Fin 32) (d : Fin 2048) :
    (outsAt0 m c t.val t.isLt).1 (ix2 p d) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 p d) := by
  have ht := lt12 t
  have h' := Pipeline.eq_sum_fin_of_reset_step_apply_of_flush (ι := Unit) (fun n hn _ => (outsAt0 m c n hn).1 (ix2 p d)) 12
    (fun _ => (0 : EReal)) (fun t _ => (if t.val % 12 = 0 then (show EReal from (m ((c : Thread nD τ).loc main_arg0)) (ix2 p d)) else 0) + add m c t (lt12 t) p d)
    (fun t h _ => by simp only [h, if_true, zero_add]; exact step0 m c t h p d)
    (fun t h _ => by simp only [h, if_false, zero_add]; exact step1 m c t h p d) t h ()
  refine h'.trans ?_
  rw [zero_add, Finset.sum_add_distrib, ref_out]
  congr 1
  · rw [Finset.sum_eq_single (0 : Fin 12) (fun b _ hb => if_neg (by
      have : b.val ≠ 0 := fun e => hb (Fin.ext e)
      simp only
      omega)) (fun h => absurd (Finset.mem_univ _) h), if_pos (by simp only [Fin.val_zero]; omega)]
  · refine Fin.sum_mul_add_congr fun j f hl => ?_
    have e2 : (⟨512 * (12 * (t.val / 12) + j.val) + f.val, by omega⟩ : Fin 6144) = ⟨j * 512 + f, hl⟩ :=
      Fin.ext (by simp only; omega)
    simp only [e2]

theorem final (c : Dev nD) : (dats m 0 c).arrAt 9 (cfgs 0).N = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp
  rw [after0_9]
  have ht := lt12 t
  have h : t.val % 12 = 11 := (by decide +kernel : ∀ t : Fin grid0.N, win0_9.flush t = true → t.val % 12 = 11) t hf
  idx_vars y
  rw [point9 m c t h]
  blk_point [idx t]

/-! ## The new state -/

/-- The state's last row. -/
def last (x1 : FVec Ideal Cert.FfnSampleRefIdeal.S32x2x6144 .f32) : FVec Ideal S32x6144 .f32 := fun i => x1 (ix3 (i 0) 1 (i 1))

theorem final_last (c : Dev nD) : (dats m 0 c).arrAt 10 (cfgs 0).N = last (m ((c : Thread nD τ).loc main_arg1)) := by
  refine (dats m 0 c).arrAt_eq_of_covers 10 _ (by decide +kernel) fun t hf y => ?_
  blk_simp
  rw [after0_10]
  have ht := lt12 t
  idx_vars y
  have e : (outsAt0 m c t.val t.isLt).2.1 (ix2 y0 y1) = last (m ((c : Thread nD τ).loc main_arg1)) (ix2 y0 ⟨512 * t.val + y1, by omega⟩) := by
    refine Eq.trans ?_ (b3 m c t ht y0 y1)
    by_cases h : t.val = 0
    · rw [outsAt0_A m c t (by omega) (by omega) (by omega)]
      frame_out
      pointwise [k0_pay4]
    · rw [outsAt0_B m c t (by omega) (by omega) (by omega)]
      frame_out
      pointwise [k0_pay4]
  refine e.trans ?_
  blk_point [idx t]

theorem final_gate (c : Dev nD) : (dats m 0 c).arrAt 11 (cfgs 0).N = val_main_v14 (F := Ideal) (m ((c : Thread nD τ).loc main_arg0)) (m ((c : Thread nD τ).loc main_arg2)) (m ((c : Thread nD τ).loc main_arg3)) := by
  refine (dats m 0 c).arrAt_eq_of_covers 11 _ (by decide +kernel) fun t hf y => ?_
  blk_simp
  rw [after0_11]
  have ht := lt12 t
  idx_vars y
  have e : (outsAt0 m c t.val t.isLt).2.2.1 (ix2 y0 y1) = val_main_v14 (F := Ideal) (m ((c : Thread nD τ).loc main_arg0)) (m ((c : Thread nD τ).loc main_arg2)) (m ((c : Thread nD τ).loc main_arg3)) (ix2 y0 ⟨512 * t.val + y1, by omega⟩) := by
    by_cases h : t.val = 0
    · rw [outsAt0_A m c t (by omega) (by omega) (by omega)]
      frame_out
      exact gate_point m c t _ (fun r k => norm_point m c t r k) y0 y1
    · rw [outsAt0_B m c t (by omega) (by omega) (by omega)]
      frame_out
      rw [read_unread_whole]
      exact gate_point m c t _ (fun r k => carry m c _ _ r k) y0 y1
  refine e.trans ?_
  blk_point [idx t]

theorem arr_out (c : Dev nD) (w : Fin cfg0.W) : Pipeline.withArrays (cfgs 0).spec c (V0 m c) (fun w => (dats m 0 c).arrAt w (cfgs 0).N)
    (Proc.devRef .tc (Pipeline.arrRef (cfgs 0).spec w)) = (dats m 0 c).arrAt w (cfgs 0).N :=
  Pipeline.withArrays_arr_shared (cfgs 0).spec c (V0 m c) (fun w => (dats m 0 c).arrAt w (cfgs 0).N)
    ((dats m 0 c).arrAt_sharedIn sharedIn0 (V0 m c) (A_eq m c) (cfgs 0).N) w

/-- The stacked state after the host's last lines. -/
theorem final_state (c : Dev nD) : Pipeline.afterTail₀ cfgs (dats m) 0 (V0 m) [hostOps1] c main_v9
    = val_main_v52 (F := Ideal) (m ((c : Thread nD τ).loc main_arg0)) (m ((c : Thread nD τ).loc main_arg1)) (m ((c : Thread nD τ).loc main_arg2)) (m ((c : Thread nD τ).loc main_arg3)) := by
  funext y
  idx_vars y
  unfold Pipeline.afterTail₀
  simp only [hostOps1, List.flatten_cons, List.flatten_nil, List.append_nil, List.cons_append, List.nil_append]
  after_reads_at
  by_cases h : y1.val < 1
  · rw [dif_pos h]
    refine (congrFun (arr_out m c 10) _).trans ((congrFun (final_last m c) _).trans ?_)
    obtain rfl : y1 = 0 := Fin.ext (show y1.val = 0 by omega)
    pointwise [val_main_v52, val_main_v17]
    rfl
  · rw [dif_neg h]
    refine (congrFun (arr_out m c 11) _).trans ((congrFun (final_gate m c) _).trans ?_)
    obtain rfl : y1 = 1 := Fin.ext (show y1.val = 1 by omega)
    pointwise [val_main_v52, val_main_v17, val_main_v16]

end Cert.FfnSampleIdeal.Val
-- ==== Proof.FfnSampleClaim.lean ====
module

public import proofs.«01_k».proof.Defs
public import proofs.«01_k».proof.Proof.FfnSample
public import Idealize.ShloMosaic.Lib.Claim

@[expose] public section

set_option maxRecDepth 16384

noncomputable section

open Idealize.ShloMosaic Idealize.ShloMosaic.TcCoe Idealize.SL.Sem

namespace Cert.Parts

theorem ffnSampleRef_frame : Cert.quiescent_FfnSampleRefIdeal := fun m g _ =>
  (θ_run Cert.FfnSampleRefIdeal.defs _ _).mono (fun r h => ⟨fun c => (h c).2.2, sem_eq_zero_of_no_sems (by decide) r.2⟩)
    (Cert.FfnSampleRefIdeal.Value.run m g)

theorem ffnSample_algebraic : Cert.algebraic_FfnSampleIdeal_FfnSampleRefIdeal := by
  pair_intro
  · run_from Cert.FfnSampleIdeal.Gen.run_main m g
    all_goals first | exact Cert.FfnSampleIdeal.Gen.V_main_arg0 m c | exact Cert.FfnSampleIdeal.Gen.V_main_arg1 m c | exact Cert.FfnSampleIdeal.Gen.V_main_arg2 m c | exact Cert.FfnSampleIdeal.Gen.V_main_arg3 m c | exact Cert.FfnSampleIdeal.Gen.V_main_arg4 m c | exact Cert.FfnSampleIdeal.Gen.V_main_arg5 m c | exact Cert.FfnSampleIdeal.Gen.V_main_arg6 m c
  · refine (θ_run _ _ _).mono (fun _ h c => ⟨(h c).1.trans ?_, (h c).2.1.trans ?_, (h c).2.2⟩)
      (Cert.FfnSampleRefIdeal.Value.run m' g')
    · rw [Cert.FfnSampleRefIdeal.Read.val_main_v51_eq, (hagree c).1, (hagree c).2.1, (hagree c).2.2.1, (hagree c).2.2.2.1, (hagree c).2.2.2.2.1, (hagree c).2.2.2.2.2.1, (hagree c).2.2.2.2.2.2]
      exact (Cert.FfnSampleIdeal.Val.final m c).symm
    · rw [Cert.FfnSampleRefIdeal.Read.val_main_v52_eq, (hagree c).1, (hagree c).2.1, (hagree c).2.2.1, (hagree c).2.2.2.1]
      exact (Cert.FfnSampleIdeal.Val.final_state m c).symm

end Cert.Parts
-- ==== Proof.PleSample.lean ====
module

public import proofs.«01_k».proof.Proof.Gen.PleSampleIdeal.Frame
public import proofs.«01_k».proof.Proof.Gen.PleSampleRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleSampleIdeal.Val

open Cert.PleSampleIdeal Cert.PleSampleIdeal.Gen
open Cert.PleSampleRefIdeal.Read

variable (m : (ℓ : Loc nD τ sig) → Buf (Elt Ideal) ℓ)

theorem idx : ∀ t : Fin cfg0.N, win0_0.index t = ![t.val / 4, 0] ∧ win0_1.index t = ![0, 0]
    ∧ win0_2.index t = ![0, t.val % 4] ∧ win0_3.index t = ![t.val / 4, 0] ∧ win0_4.index t = ![0, t.val % 4]
    ∧ win0_5.index t = ![t.val / 4, t.val % 4] ∧ win0_6.index t = ![t.val / 4, t.val % 4] :=
  (by decide +kernel : ∀ t : Fin grid0.N, _)

/-- The reference's normalised input, at an index. -/
theorem ref_norm (x : FVec Ideal Cert.PleSampleRefIdeal.S32x2048 .f32) (g : FVec Ideal Cert.PleSampleRefIdeal.S2048 .f32)
    (i : Fin 32) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- A first point of a row block leaves the block's normalised rows in the scratch. -/
theorem norm_point (c : Dev nD) (t : Fin cfg0.N) (r : Fin 32) (k : Fin 2048) (hb : 32 * (t.val / 4) + r < 32) :
    k0_pay1 (F := Ideal) (iblk m c 0 t) (iblk m c 1 t) (ix2 r k)
      = val_main_v12 (F := Ideal) (m ((c : Thread nD τ).loc main_arg0))
          (m ((c : Thread nD τ).loc main_arg1)) (ix2 ⟨32 * (t.val / 4) + r, hb⟩ k) := by
  rw [ref_norm]
  pointwise [k0_pay1]
  blk_point [iblk, V, idx t]

theorem carry_first (c : Dev nD) (t : Fin cfg0.N) (h : t.val % 4 = 0) (r : Fin 32) (k : Fin 2048)
    (hb : 32 * (t.val / 4) + r < 32) :
    (outsAt0 m c t.val t.isLt).2 (ix2 r k) = val_main_v12 (F := Ideal) (m ((c : Thread nD τ).loc main_arg0))
      (m ((c : Thread nD τ).loc main_arg1)) (ix2 ⟨32 * (t.val / 4) + r, hb⟩ k) := by
  rw [outsAt0_A m c t h]
  frame_out
  exact norm_point m c t r k hb

/-- After every point the scratch holds the normalised rows of the point's row block. -/
theorem carry (c : Dev nD) (n : ℕ) (hn : n < cfg0.N) (r : Fin 32) (k : Fin 2048)
    (hb : 32 * (n / 4) + r < 32) :
    (outsAt0 m c n hn).2 (ix2 r k) = val_main_v12 (F := Ideal) (m ((c : Thread nD τ).loc main_arg0))
      (m ((c : Thread nD τ).loc main_arg1)) (ix2 ⟨32 * (n / 4) + r, hb⟩ k) := by
  induction n with
  | zero => exact carry_first m c ⟨0, hn⟩ rfl r k hb
  | succ n ih =>
    by_cases h : (n + 1) % 4 = 0
    · exact carry_first m c ⟨n + 1, hn⟩ h r k hb
    · rw [outsAt0_B m c ⟨n + 1, hn⟩ h]
      have e : (n + 1) / 4 = n / 4 := by omega
      refine (ih (Nat.lt_of_succ_lt hn) (by omega)).trans ?_
      simp only [e]

/-- A point's block of the result from its block's normalised rows. -/
theorem block (c : Dev nD) (t : Fin cfg0.N) (ht : t.val < 4) (s : Vec Ideal S32x2048 .bf16)
    (hs : ∀ (r : Fin 32) (k : Fin 2048), s (ix2 r k)
      = val_main_v12 (F := Ideal) (m ((c : Thread nD τ).loc main_arg0))
          (m ((c : Thread nD τ).loc main_arg1)) (ix2 ⟨32 * (t.val / 4) + r, by omega⟩ k))
    (y : S32x512.Idx) :
    k0_pay2 (F := Ideal) s (iblk m c 2 t) (iblk m c 5 t) (iblk m c 3 t) (iblk m c 4 t) y
      = val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) (((cfg0.win 6).blk t).view.emb y) := by
  idx_vars y
  pointwise [k0_pay2, val_main_v22, val_main_v21, val_main_v20, val_main_v19, val_main_v18, val_main_v17, val_main_v16, val_main_v15, val_main_v14, val_main_v13, val_main_cst_2, val_main_cst_3]
  simp only [hs, zero_sub]
  blk_point [iblk, V, idx t]

theorem final (c : Dev nD) : (dats m 0 c).arrAt 6 (cfgs 0).N
    = val_main_v22 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have hN : t.val < 4 := lt_of_lt_of_eq t.isLt N_0
  by_cases h : t.val % 4 = 0
  · rw [outsAt0_A m c t h]
    frame_out
    exact block m c t hN _ (fun r k => norm_point m c t r k (by omega)) y
  · rw [outsAt0_B m c t h]
    frame_out
    have e : (t.val - 1) / 4 = t.val / 4 := by omega
    rw [read_unread_whole]
    refine block m c t hN _ (fun r k => (carry m c (t.val - 1) (lt_of_le_of_lt (Nat.sub_le _ _) t.isLt) r k (by omega)).trans ?_) y
    simp only [e]

end Cert.PleSampleIdeal.Val
-- ==== Proof.PleSampleClaim.lean ====
module

public import proofs.«01_k».proof.Defs
public import proofs.«01_k».proof.Proof.PleSample
public import Idealize.ShloMosaic.Lib.Claim

@[expose] public section

set_option maxRecDepth 16384

noncomputable section

open Idealize.ShloMosaic Idealize.ShloMosaic.TcCoe Idealize.SL.Sem

namespace Cert.Parts

theorem pleSampleRef_frame : Cert.quiescent_PleSampleRefIdeal := fun m g _ =>
  (θ_run Cert.PleSampleRefIdeal.defs _ _).mono (fun r h => ⟨fun c => (h c).2, sem_eq_zero_of_no_sems (by decide) r.2⟩)
    (Cert.PleSampleRefIdeal.Value.run m g)

theorem pleSample_algebraic : Cert.algebraic_PleSampleIdeal_PleSampleRefIdeal := by
  pair_intro
  · run_from Cert.PleSampleIdeal.Gen.run_main m g
  · refine (θ_run _ _ _).mono (fun _ h c => ⟨(h c).1.trans ?_, (h c).2⟩)
      (Cert.PleSampleRefIdeal.Value.run m' g')
    · rw [Cert.PleSampleRefIdeal.Read.val_main_v22_eq, (hagree c).1, (hagree c).2.1, (hagree c).2.2.1, (hagree c).2.2.2.1, (hagree c).2.2.2.2]
      exact (Cert.PleSampleIdeal.Val.final m c).symm

end Cert.Parts
-- ==== Proof.WinSample.lean ====
module

public import proofs.«01_k».proof.Proof.Gen.WinSampleIdeal.Frame
public import proofs.«01_k».proof.Proof.Gen.WinSampleRefIdeal.Read
public import proofs.«01_k».proof.Proof.Last
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.WinSampleIdeal.Val

open Cert.WinSampleIdeal Cert.WinSampleIdeal.Gen
open Cert.WinSampleRefIdeal.Read

variable (m : (ℓ : Loc nD τ sig) → Buf (Elt Ideal) ℓ)

theorem idx : ∀ t : Fin cfg0.N, win0_1.index t = ![t.val, 0, 0] ∧ win0_2.index t = ![t.val, 0, 0] ∧ win0_7.index t = ![t.val, 0, 0] :=
  (by decide +kernel : ∀ t : Fin grid0.N, _)

theorem lt32 (t : Fin cfg0.N) : t.val < 32 := lt_of_lt_of_eq t.isLt N_0

/-- The reference's cache: the old rows but the first, then the new row. -/
theorem ref_old (x1 : FVec Ideal Cert.WinSampleRefIdeal.S32x512x1024 .f32) (x2 : FVec Ideal Cert.WinSampleRefIdeal.S32x1x1024 .f32)
    (b : Fin 32) (r : Fin 511) (l : Fin 1024) :
    val_main_v1 (F := Ideal) x1 x2 (ix3 b ⟨r, by omega⟩ l) = x1 (ix3 b ⟨1 + r, by omega⟩ l) := by
  pointwise [val_main_v1, val_main_v0]
  rw [dif_pos (by omega)]

theorem ref_new (x1 : FVec Ideal Cert.WinSampleRefIdeal.S32x512x1024 .f32) (x2 : FVec Ideal Cert.WinSampleRefIdeal.S32x1x1024 .f32)
    (b : Fin 32) (l : Fin 1024) :
    val_main_v1 (F := Ideal) x1 x2 (ix3 b 511 l) = x2 (ix3 b 0 l) := by
  pointwise [val_main_v1, val_main_v0]

theorem cover (A : Vec Ideal S1x1x1024 .f32) (B : Vec Ideal S1x511x1024 .f32) (y : S1x512x1024.Idx) :
    ∃ p ∈ ([⟨Rect.unit ![0, 511, 0] ![1, 1, 1024] inb_S1x512x1024_S1x1x1024_0_511_0, A⟩,
      ⟨Rect.unit ![0, 0, 0] ![1, 511, 1024] inb_S1x512x1024_S1x511x1024_0_0_0, B⟩] : List (View.Piece (Elt Ideal) S1x512x1024 .f32)), y ∈ p.1.set :=
  View.cover_of_tiledBy _ ![1, 1, 1024] (by sl_kernel_rfl) y

theorem new_piece (c : Dev nD) (t : Fin cfg0.N) (l : Fin 1024) :
    k0_pay2 (F := Ideal) (iblk m c 2 t) (ix3 0 0 l) = (m ((c : Thread nD τ).loc main_arg2)) (ix3 ⟨t.val, lt32 t⟩ 0 l) := by
  pointwise [k0_pay2]
  blk_point [iblk, V, idx t]

theorem old_piece (c : Dev nD) (t : Fin cfg0.N) (r : Fin 511) (l : Fin 1024) :
    k0_pay1 (F := Ideal) (k0_pay60 (View.ld (iblk m c 1 t) (Rect.unit ![0, 1, 0] ![1, 511, 1024] inb_S1x512x1024_S1x511x1024_0_1_0))) (ix3 0 r l)
      = (m ((c : Thread nD τ).loc main_arg1)) (ix3 ⟨t.val, lt32 t⟩ ⟨1 + r, by omega⟩ l) := by
  pointwise [k0_pay1, k0_pay60]
  blk_point [iblk, V, idx t]

/-- The rows a point leaves in the cache's window. -/
theorem point (c : Dev nD) (t : Fin cfg0.N) (r : Fin 512) (l : Fin 1024) :
    (outsAt0 m c t).2 (ix3 0 r l) = val_main_v1 (F := Ideal) (m ((c : Thread nD τ).loc main_arg1)) (m ((c : Thread nD τ).loc main_arg2)) (ix3 ⟨t.val, lt32 t⟩ r l) := by
  unfold outsAt0
  frame_out
  canon_tiles x hx using cover _ _ _
  · idx_vars x
    obtain rfl : x0 = 0 := Subsingleton.elim _ _
    obtain rfl : x1 = 0 := Subsingleton.elim _ _
    have hr : r = 511 := Fin.ext (by simpa using hx1)
    have hl : l = x2 := Fin.ext hx2
    rw [hr, hl]
    exact (new_piece m c t x2).trans (ref_new (m ((c : Thread nD τ).loc main_arg1)) (m ((c : Thread nD τ).loc main_arg2)) _ x2).symm
  · idx_vars x
    obtain rfl : x0 = 0 := Subsingleton.elim _ _
    have hr : r = ⟨x1, by omega⟩ := Fin.ext hx1
    have hl : l = x2 := Fin.ext hx2
    rw [hr, hl]
    exact (old_piece m c t x1 x2).trans (ref_old (m ((c : Thread nD τ).loc main_arg1)) (m ((c : Thread nD τ).loc main_arg2)) _ x1 x2).symm

theorem final (c : Dev nD) : (dats m 0 c).arrAt 7 (cfgs 0).N = val_main_v1 (F := Ideal) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  obtain rfl : y0 = 0 := Subsingleton.elim _ _
  refine (point m c t y1 y2).trans ?_
  blk_point [idx t]

end Cert.WinSampleIdeal.Val
-- ==== Proof.WinSampleClaim.lean ====
module

public import proofs.«01_k».proof.Defs
public import proofs.«01_k».proof.Proof.WinSample
public import Idealize.ShloMosaic.Lib.Claim

@[expose] public section

set_option maxRecDepth 16384

noncomputable section

open Idealize.ShloMosaic Idealize.ShloMosaic.TcCoe Idealize.SL.Sem

namespace Cert.Parts

theorem winSampleRef_frame : Cert.quiescent_WinSampleRefIdeal := fun m g _ =>
  (θ_run Cert.WinSampleRefIdeal.defs _ _).mono (fun r h => ⟨fun c => (h c).2, sem_eq_zero_of_no_sems (by decide) r.2⟩)
    (Cert.WinSampleRefIdeal.Value.run m g)

theorem winSample_algebraic : Cert.algebraic_WinSampleIdeal_WinSampleRefIdeal := by
  pair_intro
  · run_from Cert.WinSampleIdeal.Gen.run_main m g
  · refine (θ_run _ _ _).mono (fun _ h c => ⟨(h c).1.trans ?_, (h c).2⟩)
      (Cert.WinSampleRefIdeal.Value.run m' g')
    · rw [Cert.WinSampleRefIdeal.Read.val_main_v1_eq, (hagree c).2.1, (hagree c).2.2.1]
      exact (Cert.WinSampleIdeal.Val.final m c).symm

end Cert.Parts
-- ==== Proof.Query.lean ====
module

public import proofs.«01_k».proof.Proof.Gen.QueryIdeal.Frame
public import proofs.«01_k».proof.Proof.Gen.QueryRefIdeal.Read
public import proofs.«01_k».proof.Proof.Rope
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.QueryIdeal.Val

open Cert.QueryIdeal Cert.QueryIdeal.Gen Cert.Rope
open Cert.QueryRefIdeal.Read

variable (m : (ℓ : Loc nD τ sig) → Buf (Elt Ideal) ℓ)

theorem idx : ∀ t : Fin cfg0.N, win0_0.index t = ![t.val / 4, 0] ∧ win0_1.index t = ![0, 0]
    ∧ win0_2.index t = ![0, t.val % 4] ∧ win0_3.index t = ![t.val / 4 % 2, 0] ∧ win0_4.index t = ![t.val / 4 % 2, 0]
    ∧ win0_5.index t = ![0, 0] ∧ win0_6.index t = ![t.val / 4, t.val % 4] ∧ win0_7.index t = ![t.val / 4, t.val % 4] :=
  (by decide +kernel : ∀ t : Fin grid0.N, _)

/-! ## The heads of a block, normalised and rotated -/

theorem base0 (s : Vec Ideal S1024x2048 .bf16) (w : Vec Ideal S2048x512 .bf16) (g : Vec Ideal S1x128 .f32) (r : Fin 1024) (d : Fin 128) :
    k0_pay4 (F := Ideal) s w g (ix2 r d) = kn (fun q => k0_pay3 s w (ix2 r q)) (fun e => g (ix2 0 e)) 0 d := by
  unfold kn
  pointwise [k0_pay4]

theorem base1 (z : FVec Ideal S1024x512 .f32) (g : Vec Ideal S1x128 .f32) (r : Fin 1024) (d : Fin 128) :
    k0_pay7 (F := Ideal) z g (ix2 r d) = kn (fun q => z (ix2 r q)) (fun e => g (ix2 0 e)) 1 d := by
  unfold kn
  pointwise [k0_pay7]

theorem base2 (z : FVec Ideal S1024x512 .f32) (g : Vec Ideal S1x128 .f32) (r : Fin 1024) (d : Fin 128) :
    k0_pay15 (F := Ideal) (k0_pay10 z) (k0_pay11 g) (k0_pay14 z) (ix2 r d) = kn (fun q => z (ix2 r q)) (fun e => g (ix2 0 e)) 2 d := by
  unfold kn
  pointwise [k0_pay15, k0_pay10, k0_pay11, k0_pay14]

theorem base3 (z : FVec Ideal S1024x512 .f32) (g : Vec Ideal S1x128 .f32) (r : Fin 1024) (d : Fin 128) :
    k0_pay18 (F := Ideal) z g (ix2 r d) = kn (fun q => z (ix2 r q)) (fun e => g (ix2 0 e)) 3 d := by
  unfold kn
  pointwise [k0_pay18]

theorem norm0 (s : Vec Ideal S1024x2048 .bf16) (w : Vec Ideal S2048x512 .bf16) (g : Vec Ideal S1x128 .f32) (r : Fin 1024) (d : Fin 128) :
    k0_pay5 (F := Ideal) s w g (ix2 r d) = kn (fun q => k0_pay3 s w (ix2 r q)) (fun e => g (ix2 0 e)) 0 d := by
  refine Eq.trans ?_ (base0 s w g r d)
  pointwise [k0_pay5]

theorem norm1 (z : FVec Ideal S1024x512 .f32) (g : Vec Ideal S1x128 .f32) (r : Fin 1024) (d : Fin 128) :
    k0_pay8 (F := Ideal) z g (ix2 r d) = kn (fun q => z (ix2 r q)) (fun e => g (ix2 0 e)) 1 d := by
  refine Eq.trans ?_ (base1 z g r d)
  pointwise [k0_pay8]

theorem norm2 (z : FVec Ideal S1024x512 .f32) (g : Vec Ideal S1x128 .f32) (r : Fin 1024) (d : Fin 128) :
    k0_pay16 (F := Ideal) (k0_pay10 z) (k0_pay11 g) (k0_pay14 z) (ix2 r d) = kn (fun q => z (ix2 r q)) (fun e => g (ix2 0 e)) 2 d := by
  refine Eq.trans ?_ (base2 z g r d)
  pointwise [k0_pay16]

theorem norm3 (z : FVec Ideal S1024x512 .f32) (g : Vec Ideal S1x128 .f32) (r : Fin 1024) (d : Fin 128) :
    k0_pay20 (F := Ideal) z g (ix2 r d) = kn (fun q => z (ix2 r q)) (fun e => g (ix2 0 e)) 3 d := by
  refine Eq.trans ?_ (base3 z g r d)
  pointwise [k0_pay20]

theorem turn0 (s : Vec Ideal S1024x2048 .bf16) (w : Vec Ideal S2048x512 .bf16) (g : Vec Ideal S1x128 .f32) (cos sin : Vec Ideal S1024x128 .f32) (r : Fin 1024) (d : Fin 128) :
    k0_pay6 (F := Ideal) s w g cos sin (ix2 r d) = rot (fun q => k0_pay3 s w (ix2 r q)) (fun e => g (ix2 0 e)) (fun e => cos (ix2 r e)) (fun e => sin (ix2 r e)) 0 d := by
  unfold rot
  pointwise [k0_pay6]
  simp only [base0]
  blk_point []

theorem turn1 (z : FVec Ideal S1024x512 .f32) (g : Vec Ideal S1x128 .f32) (cos sin : Vec Ideal S1024x128 .f32) (r : Fin 1024) (d : Fin 128) :
    k0_pay9 (F := Ideal) z g cos sin (ix2 r d) = rot (fun q => z (ix2 r q)) (fun e => g (ix2 0 e)) (fun e => cos (ix2 r e)) (fun e => sin (ix2 r e)) 1 d := by
  unfold rot
  pointwise [k0_pay9]
  simp only [base1]
  blk_point []

theorem turn2 (z : FVec Ideal S1024x512 .f32) (g : Vec Ideal S1x128 .f32) (cos sin : Vec Ideal S1024x128 .f32) (r : Fin 1024) (d : Fin 128) :
    k0_pay17 (F := Ideal) (k0_pay10 z) (k0_pay11 g) (k0_pay12 cos) (k0_pay13 sin) (k0_pay14 z) (ix2 r d) = rot (fun q => z (ix2 r q)) (fun e => g (ix2 0 e)) (fun e => cos (ix2 r e)) (fun e => sin (ix2 r e)) 2 d := by
  unfold rot
  pointwise [k0_pay17, k0_pay12, k0_pay13]
  simp only [base2]
  blk_point []

theorem turn3 (z : FVec Ideal S1024x512 .f32) (g : Vec Ideal S1x128 .f32) (cos sin : Vec Ideal S1024x128 .f32) (r : Fin 1024) (d : Fin 128) :
    k0_pay1 (F := Ideal) (k0_pay19 z g cos sin) (ix2 r d) = rot (fun q => z (ix2 r q)) (fun e => g (ix2 0 e)) (fun e => cos (ix2 r e)) (fun e => sin (ix2 r e)) 3 d := by
  unfold rot
  pointwise [k0_pay1, k0_pay19]
  simp only [base3]
  blk_point []

/-! ## The arrays the blocks are cut from -/

theorem V_cos (c : Dev nD) (p : Fin 2048) (d : Fin 128) : V m c main_v15 (ix2 p d) = cosRow p d := by
  simp only [V, hostOps0, List.flatten_cons, List.flatten_nil, List.append_nil, List.cons_append, List.nil_append]
  after_reads_at
  unfold cosRow ang
  split
  · rw [Nat.mod_eq_of_lt ‹_›]
  · rw [show d.val % 64 = d - 64 by omega]

theorem V_sin (c : Dev nD) (p : Fin 2048) (d : Fin 128) : V m c main_v17 (ix2 p d) = sinRow p d := by
  simp only [V, hostOps0, List.flatten_cons, List.flatten_nil, List.append_nil, List.cons_append, List.nil_append]
  after_reads_at
  unfold sinRow ang
  split
  · rw [Nat.mod_eq_of_lt ‹_›]
  · rw [show d.val % 64 = d - 64 by omega]

theorem V_gain (c : Dev nD) (d : Fin 128) : V m c main_v20 (ix2 0 d) = (m ((c : Thread nD τ).loc main_arg3)) (ix1 d) := by
  simp only [V, hostOps0, List.flatten_cons, List.flatten_nil, List.append_nil, List.cons_append, List.nil_append]
  after_reads_at

/-! ## The reference -/

/-- The reference's normalised input, at an index. -/
theorem ref_norm (x : FVec Ideal Cert.QueryRefIdeal.S16384x2048 .f32) (g : FVec Ideal Cert.QueryRefIdeal.S2048 .f32)
    (i : Fin 16384) (k : Fin 2048) :
    val_main_v12 (F := Ideal) x g (ix2 i k)
      = x (ix2 i k) * Ideal.rsqrt (Ideal.div (∑ l : Fin 2048, x (ix2 i l) * x (ix2 i l)) (Ideal.ofBits FTy.f32 0x45000000#32)
          + Ideal.ofBits FTy.f32 0x358637BD#32) * g (ix1 k) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem ref_kn (x : FVec Ideal Cert.QueryRefIdeal.S16384x2048 .f32) (g : FVec Ideal Cert.QueryRefIdeal.S2048 .f32) (w : FVec Ideal Cert.QueryRefIdeal.S2048x2048 .f32) (gk : FVec Ideal Cert.QueryRefIdeal.S128 .f32) (b : Fin 8) (t : Fin 2048) (j h : Fin 4) (d : Fin 128) :
    val_main_v27 (F := Ideal) x g w gk (ix4 b t ⟨4 * j + h, by omega⟩ d)
      = kn (fun q => val_main_v13 (F := Ideal) x g w (ix2 ⟨2048 * b + t, by omega⟩ ⟨512 * j + q, by omega⟩)) (fun e => gk (ix1 e)) h d := by
  unfold kn
  pointwise [val_main_v27, val_main_v26, val_main_v25, val_main_v24, val_main_v23, val_main_v22, val_main_v21, val_main_v20, val_main_v19, val_main_v18, val_main_v17, val_main_v16, val_main_v15, val_main_v14, val_main_cst_2, val_main_cst_3, val_main_cst_4]
  blk_point []

theorem ref_cos (p : Fin 2048) (i : Fin 64) : val_main_v41 (F := Ideal) (ix2 p i) = Ideal.cos (ang p i) := by
  unfold ang
  pointwise [val_main_v41, val_main_v40, val_main_v39, val_main_v38, val_main_v37, val_main_v36, val_main_v35, val_main_v34, val_main_v33, val_main_v32, val_main_v31, val_main_v30, val_main_v29, val_main_v28, val_main_cst_5, val_main_cst_6]

theorem ref_sin (p : Fin 2048) (i : Fin 64) : val_main_v43 (F := Ideal) (ix2 p i) = Ideal.sin (ang p i) := by
  unfold ang
  pointwise [val_main_v43, val_main_v40, val_main_v39, val_main_v38, val_main_v37, val_main_v36, val_main_v35, val_main_v34, val_main_v33, val_main_v32, val_main_v31, val_main_v30, val_main_v29, val_main_v28, val_main_cst_5, val_main_cst_6]

/-- The reference's rotated head, from the row of the projection. -/
theorem ref_turn (x : FVec Ideal Cert.QueryRefIdeal.S16384x2048 .f32) (g : FVec Ideal Cert.QueryRefIdeal.S2048 .f32) (w : FVec Ideal Cert.QueryRefIdeal.S2048x2048 .f32) (gk : FVec Ideal Cert.QueryRefIdeal.S128 .f32) (b : Fin 8) (t : Fin 2048) (j h : Fin 4) (d : Fin 128) :
    val_main_v61 (F := Ideal) x g w gk (ix4 b t ⟨4 * j + h, by omega⟩ d)
      = rot (fun q => val_main_v13 (F := Ideal) x g w (ix2 ⟨2048 * b + t, by omega⟩ ⟨512 * j + q, by omega⟩)) (fun e => gk (ix1 e)) (cosRow t) (sinRow t) h d := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v42]
  by_cases hd : d.val < 64
  · simp only [hd, dite_true]
    exact (congrArg₂ (· - ·)
      (congrArg₂ (· * ·) (ref_kn x g w gk b t j h d) (ref_cos t ⟨d.val, hd⟩))
      (congrArg₂ (· * ·) (ref_kn x g w gk b t j h ⟨64 + d.val, by omega⟩) (ref_sin t ⟨d.val, hd⟩))).trans
      (rot_lo _ _ t.val h d hd)
  · simp only [hd, dite_false]
    exact (congrArg₂ (· + ·)
      (congrArg₂ (· * ·) (ref_kn x g w gk b t j h ⟨64 + (d.val - 64), by omega⟩) (ref_cos t ⟨d.val - 64, by omega⟩))
      (congrArg₂ (· * ·) (ref_kn x g w gk b t j h ⟨d.val - 64, by omega⟩) (ref_sin t ⟨d.val - 64, by omega⟩))).trans
      (rot_hi _ _ t.val h d hd)

theorem ref_q4 (x : FVec Ideal Cert.QueryRefIdeal.S16384x2048 .f32) (g : FVec Ideal Cert.QueryRefIdeal.S2048 .f32) (w : FVec Ideal Cert.QueryRefIdeal.S2048x2048 .f32) (gk : FVec Ideal Cert.QueryRefIdeal.S128 .f32) (R : Fin 16384) (q : Fin 2048) :
    val_main_v63 (F := Ideal) x g w gk (ix2 R q)
      = val_main_v27 (F := Ideal) x g w gk (ix4 ⟨R.val / 2048, by omega⟩ ⟨R.val % 2048, by omega⟩ ⟨q.val / 128, by omega⟩ ⟨q.val % 128, by omega⟩) := by
  pointwise [val_main_v63, val_main_v62]

theorem ref_r4 (x : FVec Ideal Cert.QueryRefIdeal.S16384x2048 .f32) (g : FVec Ideal Cert.QueryRefIdeal.S2048 .f32) (w : FVec Ideal Cert.QueryRefIdeal.S2048x2048 .f32) (gk : FVec Ideal Cert.QueryRefIdeal.S128 .f32) (R : Fin 16384) (q : Fin 2048) :
    val_main_v65 (F := Ideal) x g w gk (ix2 R q)
      = val_main_v61 (F := Ideal) x g w gk (ix4 ⟨R.val / 2048, by omega⟩ ⟨R.val % 2048, by omega⟩ ⟨q.val / 128, by omega⟩ ⟨q.val % 128, by omega⟩) := by
  pointwise [val_main_v65, val_main_v64]

theorem ref_q (x : FVec Ideal Cert.QueryRefIdeal.S16384x2048 .f32) (g : FVec Ideal Cert.QueryRefIdeal.S2048 .f32) (w : FVec Ideal Cert.QueryRefIdeal.S2048x2048 .f32) (gk : FVec Ideal Cert.QueryRefIdeal.S128 .f32) (R : Fin 16384) (q : Fin 2048) (j h : Fin 4) (d : Fin 128) (hq : q.val = 512 * j + (128 * h + d)) :
    val_main_v63 (F := Ideal) x g w gk (ix2 R q)
      = kn (fun q => val_main_v13 (F := Ideal) x g w (ix2 R ⟨512 * j + q, by omega⟩)) (fun e => gk (ix1 e)) h d := by
  have ea : (⟨q.val / 128, by omega⟩ : Fin 16) = ⟨4 * j + h, by omega⟩ := Fin.ext (by simp only; omega)
  have eb : (⟨q.val % 128, by omega⟩ : Fin 128) = d := Fin.ext (by simp only; omega)
  have er : (⟨2048 * (R.val / 2048) + R.val % 2048, by omega⟩ : Fin 16384) = R := Fin.ext (by simp only; omega)
  exact (ref_q4 x g w gk R q).trans ((congrArg₂ (fun a b => val_main_v27 (F := Ideal) x g w gk (ix4 ⟨R.val / 2048, by omega⟩ ⟨R.val % 2048, by omega⟩ a b)) ea eb).trans
    ((ref_kn x g w gk _ _ j h d).trans
      (congrArg (fun r : Fin 16384 => kn (fun q => val_main_v13 (F := Ideal) x g w (ix2 r ⟨512 * j + q, by omega⟩)) (fun e => gk (ix1 e)) h d) er)))

theorem ref_r (x : FVec Ideal Cert.QueryRefIdeal.S16384x2048 .f32) (g : FVec Ideal Cert.QueryRefIdeal.S2048 .f32) (w : FVec Ideal Cert.QueryRefIdeal.S2048x2048 .f32) (gk : FVec Ideal Cert.QueryRefIdeal.S128 .f32) (R : Fin 16384) (q : Fin 2048) (j h : Fin 4) (d : Fin 128) (hq : q.val = 512 * j + (128 * h + d)) :
    val_main_v65 (F := Ideal) x g w gk (ix2 R q)
      = rot (fun q => val_main_v13 (F := Ideal) x g w (ix2 R ⟨512 * j + q, by omega⟩)) (fun e => gk (ix1 e)) (cosRow (R % 2048)) (sinRow (R % 2048)) h d := by
  have ea : (⟨q.val / 128, by omega⟩ : Fin 16) = ⟨4 * j + h, by omega⟩ := Fin.ext (by simp only; omega)
  have eb : (⟨q.val % 128, by omega⟩ : Fin 128) = d := Fin.ext (by simp only; omega)
  have er : (⟨2048 * (R.val / 2048) + R.val % 2048, by omega⟩ : Fin 16384) = R := Fin.ext (by simp only; omega)
  exact (ref_r4 x g w gk R q).trans ((congrArg₂ (fun a b => val_main_v61 (F := Ideal) x g w gk (ix4 ⟨R.val / 2048, by omega⟩ ⟨R.val % 2048, by omega⟩ a b)) ea eb).trans
    ((ref_turn x g w gk _ _ j h d).trans
      (congrArg (fun r : Fin 16384 => rot (fun q => val_main_v13 (F := Ideal) x g w (ix2 r ⟨512 * j + q, by omega⟩)) (fun e => gk (ix1 e)) (cosRow (R % 2048)) (sinRow (R % 2048)) h d) er)))

/-! ## The kernel -/

/-- A first point of a row block leaves the block's normalised rows in the scratch. -/
theorem norm_point (c : Dev nD) (t : Fin cfg0.N) (r : Fin 1024) (k : Fin 2048) (hb : 1024 * (t.val / 4) + r < 16384) :
    k0_pay2 (F := Ideal) (iblk m c 0 t) (iblk m c 1 t) (ix2 r k)
      = val_main_v12 (F := Ideal) (m ((c : Thread nD τ).loc main_arg0)) (m ((c : Thread nD τ).loc main_arg1)) (ix2 ⟨1024 * (t.val / 4) + r, hb⟩ k) := by
  rw [ref_norm]
  pointwise [k0_pay2]
  blk_point [iblk, V, idx t]

theorem lt64 (t : Fin cfg0.N) : t.val < 64 := lt_of_lt_of_eq t.isLt N_0

/-- The scratch holds the normalised rows of the point's row block. -/
abbrev Rows (c : Dev nD) (t : Fin cfg0.N) (s : Vec Ideal S1024x2048 .bf16) : Prop :=
  ∀ (r : Fin 1024) (k : Fin 2048) (hb : 1024 * (t.val / 4) + r.val < 16384), s (ix2 r k)
      = val_main_v12 (F := Ideal) (m ((c : Thread nD τ).loc main_arg0)) (m ((c : Thread nD τ).loc main_arg1)) (ix2 ⟨1024 * (t.val / 4) + r, hb⟩ k)

/-- The projected rows' columns of the point. -/
theorem product (c : Dev nD) (t : Fin cfg0.N) (ht : t.val < 64) (s : Vec Ideal S1024x2048 .bf16) (hs : Rows m c t s)
    (r : Fin 1024) (q : Fin 512) :
    k0_pay3 (F := Ideal) s (iblk m c 2 t) (ix2 r q)
      = val_main_v13 (F := Ideal) (m ((c : Thread nD τ).loc main_arg0)) (m ((c : Thread nD τ).loc main_arg1)) (m ((c : Thread nD τ).loc main_arg2)) (ix2 ⟨1024 * (t.val / 4) + r, by omega⟩ ⟨512 * (t.val % 4) + q, by omega⟩) := by
  have hs' : ∀ (r : Fin 1024) (k : Fin 2048), s (ix2 r k) = val_main_v12 (F := Ideal) (m ((c : Thread nD τ).loc main_arg0)) (m ((c : Thread nD τ).loc main_arg1)) (ix2 ⟨1024 * (t.val / 4) + r, by omega⟩ k) :=
    fun r k => hs r k (by omega)
  pointwise [k0_pay3, val_main_v13]
  simp only [hs']
  blk_point [iblk, V, idx t]

theorem gain (c : Dev nD) (t : Fin cfg0.N) (e : Fin 128) : iblk m c 5 t (ix2 0 e) = (m ((c : Thread nD τ).loc main_arg3)) (ix1 e) :=
  (show iblk m c 5 t (ix2 0 e) = V m c main_v20 (ix2 0 e) by blk_point [iblk, idx t]).trans (V_gain m c e)

theorem kn_congr {z z' : Fin 512 → EReal} {g g' : Fin 128 → EReal} (hz : z = z') (hg : g = g') (h : Fin 4) (d : Fin 128) :
    kn z g h d = kn z' g' h d := by
  rw [hz, hg]

/-- The normalised heads of a point. -/
theorem norm_head (c : Dev nD) (t : Fin cfg0.N) (ht : t.val < 64) (s : Vec Ideal S1024x2048 .bf16) (hs : Rows m c t s)
    (r x0 : Fin 1024) (q : Fin 512) (h : Fin 4) (d : Fin 128) (hr : r.val = x0) (hq : q.val = 128 * h + d) :
    kn (fun q => k0_pay3 (F := Ideal) s (iblk m c 2 t) (ix2 x0 q)) (fun e => iblk m c 5 t (ix2 0 e)) h d
      = val_main_v63 (F := Ideal) (m ((c : Thread nD τ).loc main_arg0)) (m ((c : Thread nD τ).loc main_arg1)) (m ((c : Thread nD τ).loc main_arg2)) (m ((c : Thread nD τ).loc main_arg3)) (ix2 ⟨1024 * (t.val / 4) + r, by omega⟩ ⟨512 * (t.val % 4) + q, by omega⟩) := by
  obtain rfl : r = x0 := Fin.ext hr
  exact (kn_congr (funext fun q => product m c t ht s hs r q) (funext fun e => gain m c t e) h d).trans
    (ref_q (m ((c : Thread nD τ).loc main_arg0)) (m ((c : Thread nD τ).loc main_arg1)) (m ((c : Thread nD τ).loc main_arg2)) (m ((c : Thread nD τ).loc main_arg3)) _ _ ⟨t.val % 4, by omega⟩ h d (by simp only; omega)).symm

/-- The rotated heads of a point. -/
theorem turn_head (c : Dev nD) (t : Fin cfg0.N) (ht : t.val < 64) (s : Vec Ideal S1024x2048 .bf16) (hs : Rows m c t s)
    (r x0 : Fin 1024) (q : Fin 512) (h : Fin 4) (d : Fin 128) (hr : r.val = x0) (hq : q.val = 128 * h + d) :
    rot (fun q => k0_pay3 (F := Ideal) s (iblk m c 2 t) (ix2 x0 q)) (fun e => iblk m c 5 t (ix2 0 e))
        (fun e => iblk m c 3 t (ix2 x0 e)) (fun e => iblk m c 4 t (ix2 x0 e)) h d
      = val_main_v65 (F := Ideal) (m ((c : Thread nD τ).loc main_arg0)) (m ((c : Thread nD τ).loc main_arg1)) (m ((c : Thread nD τ).loc main_arg2)) (m ((c : Thread nD τ).loc main_arg3)) (ix2 ⟨1024 * (t.val / 4) + r, by omega⟩ ⟨512 * (t.val % 4) + q, by omega⟩) := by
  obtain rfl : r = x0 := Fin.ext hr
  have hp : 1024 * (t.val / 4 % 2) + r.val = (1024 * (t.val / 4) + r.val) % 2048 := by omega
  refine (rot_congr (funext fun q => product m c t ht s hs r q) (funext fun e => gain m c t e) (funext fun e => ?_) (funext fun e => ?_) h d).trans
    (ref_r (m ((c : Thread nD τ).loc main_arg0)) (m ((c : Thread nD τ).loc main_arg1)) (m ((c : Thread nD τ).loc main_arg2)) (m ((c : Thread nD τ).loc main_arg3)) _ _ ⟨t.val % 4, by omega⟩ h d (by simp only; omega)).symm
  · refine (show iblk m c 3 t (ix2 r e) = V m c main_v15 (ix2 ⟨1024 * (t.val / 4 % 2) + r, by omega⟩ e) by
      blk_point [iblk, idx t]).trans ((V_cos m c _ e).trans ?_)
    exact congrArg (fun p => cosRow p e) hp
  · refine (show iblk m c 4 t (ix2 r e) = V m c main_v17 (ix2 ⟨1024 * (t.val / 4 % 2) + r, by omega⟩ e) by
      blk_point [iblk, idx t]).trans ((V_sin m c _ e).trans ?_)
    exact congrArg (fun p => sinRow p e) hp

theorem carry_first (c : Dev nD) (t : Fin cfg0.N) (h : t.val % 4 = 0) (r : Fin 1024) (k : Fin 2048)
    (hb : 1024 * (t.val / 4) + r < 16384) :
    (outsAt0 m c t.val t.isLt).2.2 (ix2 r k) = val_main_v12 (F := Ideal) (m ((c : Thread nD τ).loc main_arg0)) (m ((c : Thread nD τ).loc main_arg1)) (ix2 ⟨1024 * (t.val / 4) + r, hb⟩ k) := by
  rw [outsAt0_A m c t h]
  frame_out
  exact norm_point m c t r k hb

/-- After every point the scratch holds the normalised rows of the point's row block. -/
theorem carry (c : Dev nD) (n : ℕ) (hn : n < cfg0.N) (r : Fin 1024) (k : Fin 2048)
    (hb : 1024 * (n / 4) + r < 16384) :
    (outsAt0 m c n hn).2.2 (ix2 r k) = val_main_v12 (F := Ideal) (m ((c : Thread nD τ).loc main_arg0)) (m ((c : Thread nD τ).loc main_arg1)) (ix2 ⟨1024 * (n / 4) + r, hb⟩ k) := by
  induction n with
  | zero => exact carry_first m c ⟨0, hn⟩ rfl r k hb
  | succ n ih =>
    by_cases h : (n + 1) % 4 = 0
    · exact carry_first m c ⟨n + 1, hn⟩ h r k hb
    · rw [outsAt0_B m c ⟨n + 1, hn⟩ h]
      have e : (n + 1) / 4 = n / 4 := by omega
      refine (ih (Nat.lt_of_succ_lt hn) (by omega)).trans ?_
      simp only [e]

theorem before (c : Dev nD) (t : Fin cfg0.N) (h : ¬ t.val % 4 = 0) (hn : t.val - 1 < cfg0.N) :
    Rows m c t (outsAt0 m c (t.val - 1) hn).2.2 := fun r k hb => by
  have e : (t.val - 1) / 4 = t.val / 4 := by omega
  refine (carry m c (t.val - 1) hn r k (by omega)).trans ?_
  simp only [e]

/-- The normalised heads a point leaves in the first result's window. -/
theorem q_point (c : Dev nD) (t : Fin cfg0.N) (ht : t.val < 64) (r : Fin 1024) (q : Fin 512) :
    (outsAt0 m c t.val t.isLt).1 (ix2 r q)
      = val_main_v63 (F := Ideal) (m ((c : Thread nD τ).loc main_arg0)) (m ((c : Thread nD τ).loc main_arg1)) (m ((c : Thread nD τ).loc main_arg2)) (m ((c : Thread nD τ).loc main_arg3)) (ix2 ⟨1024 * (t.val / 4) + r, by omega⟩ ⟨512 * (t.val % 4) + q, by omega⟩) := by
  by_cases h : t.val % 4 = 0
  · have hs : Rows m c t (k0_pay2 (F := Ideal) (iblk m c 0 t) (iblk m c 1 t)) := fun r k hb => norm_point m c t r k hb
    rw [outsAt0_A m c t h]
    frame_out
    canon_tiles x hx
    · idx_vars x
      exact (norm3 _ _ x0 x1).trans (norm_head m c t ht _ hs r x0 q 3 x1 (by omega) (by omega))
    · idx_vars x
      exact (norm2 _ _ x0 x1).trans (norm_head m c t ht _ hs r x0 q 2 x1 (by omega) (by omega))
    · idx_vars x
      exact (norm1 _ _ x0 x1).trans (norm_head m c t ht _ hs r x0 q 1 x1 (by omega) (by omega))
    · idx_vars x
      exact (norm0 _ _ _ x0 x1).trans (norm_head m c t ht _ hs r x0 q 0 x1 (by omega) (by omega))
  · have hs := before m c t h (Nat.lt_of_le_of_lt (Nat.sub_le _ _) t.isLt)
    rw [outsAt0_B m c t h]
    frame_out
    simp only [read_unread_whole]
    canon_tiles x hx
    · idx_vars x
      exact (norm3 _ _ x0 x1).trans (norm_head m c t ht _ hs r x0 q 3 x1 (by omega) (by omega))
    · idx_vars x
      exact (norm2 _ _ x0 x1).trans (norm_head m c t ht _ hs r x0 q 2 x1 (by omega) (by omega))
    · idx_vars x
      exact (norm1 _ _ x0 x1).trans (norm_head m c t ht _ hs r x0 q 1 x1 (by omega) (by omega))
    · idx_vars x
      exact (norm0 _ _ _ x0 x1).trans (norm_head m c t ht _ hs r x0 q 0 x1 (by omega) (by omega))

/-- The rotated heads a point leaves in the second result's window. -/
theorem r_point (c : Dev nD) (t : Fin cfg0.N) (ht : t.val < 64) (r : Fin 1024) (q : Fin 512) :
    (outsAt0 m c t.val t.isLt).2.1 (ix2 r q)
      = val_main_v65 (F := Ideal) (m ((c : Thread nD τ).loc main_arg0)) (m ((c : Thread nD τ).loc main_arg1)) (m ((c : Thread nD τ).loc main_arg2)) (m ((c : Thread nD τ).loc main_arg3)) (ix2 ⟨1024 * (t.val / 4) + r, by omega⟩ ⟨512 * (t.val % 4) + q, by omega⟩) := by
  by_cases h : t.val % 4 = 0
  · have hs : Rows m c t (k0_pay2 (F := Ideal) (iblk m c 0 t) (iblk m c 1 t)) := fun r k hb => norm_point m c t r k hb
    rw [outsAt0_A m c t h]
    frame_out
    canon_tiles x hx
    · idx_vars x
      exact (turn3 _ _ _ _ x0 x1).trans (turn_head m c t ht _ hs r x0 q 3 x1 (by omega) (by omega))
    · idx_vars x
      exact (turn2 _ _ _ _ x0 x1).trans (turn_head m c t ht _ hs r x0 q 2 x1 (by omega) (by omega))
    · idx_vars x
      exact (turn1 _ _ _ _ x0 x1).trans (turn_head m c t ht _ hs r x0 q 1 x1 (by omega) (by omega))
    · idx_vars x
      exact (turn0 _ _ _ _ _ x0 x1).trans (turn_head m c t ht _ hs r x0 q 0 x1 (by omega) (by omega))
  · have hs := before m c t h (Nat.lt_of_le_of_lt (Nat.sub_le _ _) t.isLt)
    rw [outsAt0_B m c t h]
    frame_out
    simp only [read_unread_whole]
    canon_tiles x hx
    · idx_vars x
      exact (turn3 _ _ _ _ x0 x1).trans (turn_head m c t ht _ hs r x0 q 3 x1 (by omega) (by omega))
    · idx_vars x
      exact (turn2 _ _ _ _ x0 x1).trans (turn_head m c t ht _ hs r x0 q 2 x1 (by omega) (by omega))
    · idx_vars x
      exact (turn1 _ _ _ _ x0 x1).trans (turn_head m c t ht _ hs r x0 q 1 x1 (by omega) (by omega))
    · idx_vars x
      exact (turn0 _ _ _ _ _ x0 x1).trans (turn_head m c t ht _ hs r x0 q 0 x1 (by omega) (by omega))

theorem final_q (c : Dev nD) : (dats m 0 c).arrAt 6 (cfgs 0).N = val_main_v63 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  idx_vars y
  refine (q_point m c t (lt64 t) y0 y1).trans ?_
  blk_point [idx t]

theorem final_r (c : Dev nD) : (dats m 0 c).arrAt 7 (cfgs 0).N = val_main_v65 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (r_point m c t (lt64 t) y0 y1).trans ?_
  blk_point [idx t]

end Cert.QueryIdeal.Val
-- ==== Proof.QueryClaim.lean ====
module

public import proofs.«01_k».proof.Defs
public import proofs.«01_k».proof.Proof.Query
public import Idealize.ShloMosaic.Lib.Claim

@[expose] public section

set_option maxRecDepth 16384

noncomputable section

open Idealize.ShloMosaic Idealize.ShloMosaic.TcCoe Idealize.SL.Sem

namespace Cert.Parts

theorem queryRef_frame : Cert.quiescent_QueryRefIdeal := fun m g _ =>
  (θ_run Cert.QueryRefIdeal.defs _ _).mono (fun r h => ⟨fun c => (h c).2.2, sem_eq_zero_of_no_sems (by decide) r.2⟩)
    (Cert.QueryRefIdeal.Value.run m g)

theorem query_algebraic : Cert.algebraic_QueryIdeal_QueryRefIdeal := by
  pair_intro
  · run_from Cert.QueryIdeal.Gen.run_main m g
  · refine (θ_run _ _ _).mono (fun _ h c => ⟨(h c).1.trans ?_, (h c).2.1.trans ?_, (h c).2.2⟩)
      (Cert.QueryRefIdeal.Value.run m' g')
    · rw [Cert.QueryRefIdeal.Read.val_main_v63_eq, (hagree c).1, (hagree c).2.1, (hagree c).2.2.1, (hagree c).2.2.2]
      exact (Cert.QueryIdeal.Val.final_q m c).symm
    · rw [Cert.QueryRefIdeal.Read.val_main_v65_eq, (hagree c).1, (hagree c).2.1, (hagree c).2.2.1, (hagree c).2.2.2]
      exact (Cert.QueryIdeal.Val.final_r m c).symm

end Cert.Parts
-- ==== Proof.Conv.lean ====
module

public import proofs.«01_k».proof.Proof.Gen.ConvIdeal.Frame
public import proofs.«01_k».proof.Proof.Gen.ConvRefIdeal.Read
public import proofs.«01_k».proof.Proof.Last
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ConvIdeal.Val

open Cert.ConvIdeal Cert.ConvIdeal.Gen
open Cert.ConvRefIdeal.Read

variable (m : (ℓ : Loc nD τ sig) → Buf (Elt Ideal) ℓ)

theorem idx : ∀ t : Fin cfg0.N, win0_0.index t = ![t.val, 0] ∧ win0_8.index t = ![t.val / 8, 0, 0] :=
  (by decide +kernel : ∀ t : Fin grid0.N, _)

theorem lt64 (t : Fin cfg0.N) : t.val < 64 := lt_of_lt_of_eq t.isLt N_0

theorem flush_last : ∀ t : Fin cfg0.N, (cfg0.win 8).flush t = true → t.val % 8 = 7 :=
  (by decide +kernel : ∀ t : Fin grid0.N, win0_8.flush t = true → t.val % 8 = 7)

theorem ref_in (x : FVec Ideal Cert.ConvRefIdeal.S16384x6144 .f32) (b : Fin 8) (s : Fin 2048) (k : Fin 2048) :
    val_main_v1 (F := Ideal) x (ix3 b s k) = x (ix2 ⟨2048 * b + s, by omega⟩ ⟨k, by omega⟩) := by
  pointwise [val_main_v1, val_main_v0]
  blk_point []

/-- The reference's state: the last rows of the history. -/
theorem ref_state (x : FVec Ideal Cert.ConvRefIdeal.S16384x6144 .f32) (b : Fin 8) (r : Fin 32) (l : Fin 1024) :
    val_main_v13 (F := Ideal) x (ix3 b r l) = val_main_v10 (F := Ideal) x (ix3 b ⟨2016 + r, by omega⟩ l) := by
  pointwise [val_main_v13, val_main_v12, val_main_v11, val_main_cst_1]
  rw [dif_neg (by omega)]
  exact congrArg (fun i => val_main_v10 (F := Ideal) x (ix3 b i l)) (Fin.ext (by simp only; omega))

/-- The gated rows of a point's block. -/
theorem block_glu (c : Dev nD) (t : Fin cfg0.N) (ht : t.val < 64) (r : Fin 256) (l : Fin 1024) :
    k0_pay3 (F := Ideal) (iblk m c 0 t) (ix2 r l)
      = val_main_v10 (F := Ideal) (m ((c : Thread nD τ).loc main_arg0)) (ix3 ⟨t.val / 8, by omega⟩ ⟨256 * (t.val % 8) + r, by omega⟩ l) := by
  pointwise [k0_pay3, val_main_v10, val_main_v9, val_main_v8, val_main_cst_0, val_main_v7, val_main_v6, val_main_cst, val_main_v5, val_main_v4, val_main_v3, val_main_v2]
  simp only [zero_sub, ref_in]
  blk_point [iblk, V, idx t]

/-- The rows a sequence's last point leaves in the state's window. -/
theorem point (c : Dev nD) (t : Fin cfg0.N) (ht : t.val < 64) (h : t.val % 8 = 7) (r : Fin 32) (l : Fin 1024) :
    (outsAt0 m c t).2 (ix3 0 r l) = val_main_v13 (F := Ideal) (m ((c : Thread nD τ).loc main_arg0)) (ix3 ⟨t.val / 8, by omega⟩ r l) := by
  rw [ref_state]
  unfold outsAt0
  frame_out
  pointwise [k0_pay2]
  refine (block_glu m c t ht _ l).trans ?_
  exact congrArg (fun i => val_main_v10 (F := Ideal) (m ((c : Thread nD τ).loc main_arg0)) (ix3 ⟨t.val / 8, by omega⟩ i l)) (Fin.ext (by simp only; omega))

theorem final (c : Dev nD) : (dats m 0 c).arrAt 8 (cfgs 0).N = val_main_v13 (F := Ideal) (m ((c : Thread nD τ).loc main_arg0)) := by
  refine (dats m 0 c).arrAt_eq_of_covers 8 _ (by decide +kernel) fun t hf y => ?_
  have h := flush_last t hf
  blk_simp
  rw [after0_8]
  idx_vars y
  obtain rfl : y0 = 0 := Subsingleton.elim _ _
  refine (point m c t (lt64 t) h y1 y2).trans ?_
  blk_point [idx t]

end Cert.ConvIdeal.Val
-- ==== Proof.ConvClaim.lean ====
module

public import proofs.«01_k».proof.Defs
public import proofs.«01_k».proof.Proof.Conv
public import Idealize.ShloMosaic.Lib.Claim

@[expose] public section

set_option maxRecDepth 16384

noncomputable section

open Idealize.ShloMosaic Idealize.ShloMosaic.TcCoe Idealize.SL.Sem

namespace Cert.Parts

theorem convRef_frame : Cert.quiescent_ConvRefIdeal := fun m g _ =>
  (θ_run Cert.ConvRefIdeal.defs _ _).mono (fun r h => ⟨fun c => (h c).2, sem_eq_zero_of_no_sems (by decide) r.2⟩)
    (Cert.ConvRefIdeal.Value.run m g)

theorem conv_algebraic : Cert.algebraic_ConvIdeal_ConvRefIdeal := by
  pair_intro
  · run_from Cert.ConvIdeal.Gen.run_main m g
    all_goals first | exact Cert.ConvIdeal.Gen.V_main_arg0 m c | exact Cert.ConvIdeal.Gen.V_main_arg1 m c | exact Cert.ConvIdeal.Gen.V_main_arg2 m c | exact Cert.ConvIdeal.Gen.V_main_arg3 m c | exact Cert.ConvIdeal.Gen.V_main_arg4 m c | exact Cert.ConvIdeal.Gen.V_main_arg5 m c
  · refine (θ_run _ _ _).mono (fun _ h c => ⟨(h c).1.trans ?_, (h c).2⟩)
      (Cert.ConvRefIdeal.Value.run m' g')
    · rw [Cert.ConvRefIdeal.Read.val_main_v13_eq, (hagree c).1]
      exact (Cert.ConvIdeal.Val.final m c).symm

end Cert.Parts
-- ==== Proof.ConvSample.lean ====
module

public import proofs.«01_k».proof.Proof.Gen.ConvSampleIdeal.Frame
public import proofs.«01_k».proof.Proof.Gen.ConvSampleRefIdeal.Read
public import proofs.«01_k».proof.Proof.Last
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ConvSampleIdeal.Val

open Cert.ConvSampleIdeal Cert.ConvSampleIdeal.Gen
open Cert.ConvSampleRefIdeal.Read

variable (m : (ℓ : Loc nD τ sig) → Buf (Elt Ideal) ℓ)

theorem idx : ∀ t : Fin cfg0.N, win0_0.index t = ![0, 0] ∧ win0_1.index t = ![0, 0, 0] ∧ win0_8.index t = ![0, 0, 0] :=
  (by decide +kernel : ∀ t : Fin grid0.N, _)

/-- The reference's state: the old rows but the first, then the new row. -/
theorem ref_old (x : FVec Ideal Cert.ConvSampleRefIdeal.S32x2048 .f32) (s : FVec Ideal Cert.ConvSampleRefIdeal.S32x30x1024 .f32) (b : Fin 32) (r : Fin 29) (l : Fin 1024) :
    val_main_v11 (F := Ideal) x s (ix3 b ⟨r, by omega⟩ l) = s (ix3 b ⟨1 + r, by omega⟩ l) := by
  pointwise [val_main_v11, val_main_v10]
  rw [dif_pos (by omega)]

theorem ref_new (x : FVec Ideal Cert.ConvSampleRefIdeal.S32x2048 .f32) (s : FVec Ideal Cert.ConvSampleRefIdeal.S32x30x1024 .f32) (b : Fin 32) (l : Fin 1024) :
    val_main_v11 (F := Ideal) x s (ix3 b 29 l) = val_main_v8 (F := Ideal) x (ix2 b l) := by
  pointwise [val_main_v11, val_main_v10, val_main_v9]

theorem glu (c : Dev nD) (t : Fin cfg0.N) (b : Fin 32) (l : Fin 1024) :
    k0_pay1 (F := Ideal) (iblk m c 0 t) (ix2 b l) = val_main_v8 (F := Ideal) (m ((c : Thread nD τ).loc main_arg0)) (ix2 b l) := by
  pointwise [k0_pay1, val_main_v8, val_main_v7, val_main_v6, val_main_cst_0, val_main_v5, val_main_v4, val_main_cst, val_main_v3, val_main_v2, val_main_v1, val_main_v0]
  simp only [zero_sub]
  blk_point [iblk, V, idx t]

theorem state_block (c : Dev nD) (t : Fin cfg0.N) (b : Fin 32) (r : Fin 30) (l : Fin 1024) :
    (iblk m c 1 t : Vec Ideal S32x30x1024 .f32) (ix3 b r l) = (m ((c : Thread nD τ).loc main_arg1)) (ix3 b r l) := by
  blk_point [iblk, V, idx t]

theorem new_goal (c : Dev nD) (t : Fin cfg0.N) (b B : Fin 32) (r : Fin 30) (l x2 : Fin 1024) {v : EReal}
    (hv : v = k0_pay1 (F := Ideal) (iblk m c 0 t) (ix2 B x2)) (hb : b.val = B.val) (hr : r.val = 29) (hl : l.val = x2.val) :
    v = val_main_v11 (F := Ideal) (m ((c : Thread nD τ).loc main_arg0)) (m ((c : Thread nD τ).loc main_arg1)) (ix3 b r l) := by
  obtain rfl : b = B := Fin.ext hb
  obtain rfl : r = 29 := Fin.ext hr
  obtain rfl : l = x2 := Fin.ext hl
  exact hv.trans ((glu m c t b l).trans (ref_new (m ((c : Thread nD τ).loc main_arg0)) (m ((c : Thread nD τ).loc main_arg1)) b l).symm)

theorem old_goal (c : Dev nD) (t : Fin cfg0.N) (b B : Fin 32) (r : Fin 30) (x1 : Fin 29) (l x2 : Fin 1024) {v : EReal}
    (hv : v = (iblk m c 1 t : Vec Ideal S32x30x1024 .f32) (ix3 B ⟨1 + x1, by omega⟩ x2)) (hb : b.val = B.val) (hr : r.val = x1.val) (hl : l.val = x2.val) :
    v = val_main_v11 (F := Ideal) (m ((c : Thread nD τ).loc main_arg0)) (m ((c : Thread nD τ).loc main_arg1)) (ix3 b r l) := by
  obtain rfl : b = B := Fin.ext hb
  rw [show r = ⟨x1, by omega⟩ from Fin.ext hr]
  obtain rfl : l = x2 := Fin.ext hl
  exact hv.trans ((state_block m c t b _ l).trans (ref_old (m ((c : Thread nD τ).loc main_arg0)) (m ((c : Thread nD τ).loc main_arg1)) b x1 l).symm)

/-! ## The rows stored for each sequence -/

theorem new0 (v : Vec Ideal S32x2048 .f32) (x0 x1 : Fin 1) (l : Fin 1024) :
    k0_pay5 (F := Ideal) v (ix3 x0 x1 l) = k0_pay1 (F := Ideal) v (ix2 0 l) := by
  obtain rfl : x0 = 0 := Subsingleton.elim _ _
  obtain rfl : x1 = 0 := Subsingleton.elim _ _
  pointwise [k0_pay5]

theorem old0 (s : Vec Ideal S32x30x1024 .f32) (x0 : Fin 1) (r : Fin 29) (l : Fin 1024) :
    k0_pay4 (F := Ideal) (View.ld s (Rect.unit ![0, 1, 0] ![1, 29, 1024] inb_S32x30x1024_S1x29x1024_0_1_0)) (ix3 x0 r l)
      = s (ix3 0 ⟨1 + r, by omega⟩ l) := by
  obtain rfl : x0 = 0 := Subsingleton.elim _ _
  pointwise [k0_pay4]

theorem new1 (v : Vec Ideal S32x2048 .f32) (x0 x1 : Fin 1) (l : Fin 1024) :
    k0_pay8 (F := Ideal) (k0_pay1 v) (ix3 x0 x1 l) = k0_pay1 (F := Ideal) v (ix2 1 l) := by
  obtain rfl : x0 = 0 := Subsingleton.elim _ _
  obtain rfl : x1 = 0 := Subsingleton.elim _ _
  pointwise [k0_pay8]

theorem old1 (s : Vec Ideal S32x30x1024 .f32) (x0 : Fin 1) (r : Fin 29) (l : Fin 1024) :
    k0_pay7 (F := Ideal) (View.ld s (Rect.unit ![1, 1, 0] ![1, 29, 1024] inb_S32x30x1024_S1x29x1024_1_1_0)) (ix3 x0 r l)
      = s (ix3 1 ⟨1 + r, by omega⟩ l) := by
  obtain rfl : x0 = 0 := Subsingleton.elim _ _
  pointwise [k0_pay7]

theorem new2 (v : Vec Ideal S32x2048 .f32) (x0 x1 : Fin 1) (l : Fin 1024) :
    k0_pay12 (F := Ideal) (k0_pay11 (k0_pay1 v)) (ix3 x0 x1 l) = k0_pay1 (F := Ideal) v (ix2 2 l) := by
  obtain rfl : x0 = 0 := Subsingleton.elim _ _
  obtain rfl : x1 = 0 := Subsingleton.elim _ _
  pointwise [k0_pay12, k0_pay11]

theorem old2 (s : Vec Ideal S32x30x1024 .f32) (x0 : Fin 1) (r : Fin 29) (l : Fin 1024) :
    k0_pay10 (F := Ideal) (View.ld s (Rect.unit ![2, 1, 0] ![1, 29, 1024] inb_S32x30x1024_S1x29x1024_2_1_0)) (ix3 x0 r l)
      = s (ix3 2 ⟨1 + r, by omega⟩ l) := by
  obtain rfl : x0 = 0 := Subsingleton.elim _ _
  pointwise [k0_pay10]

theorem new3 (v : Vec Ideal S32x2048 .f32) (x0 x1 : Fin 1) (l : Fin 1024) :
    k0_pay15 (F := Ideal) (k0_pay1 v) (ix3 x0 x1 l) = k0_pay1 (F := Ideal) v (ix2 3 l) := by
  obtain rfl : x0 = 0 := Subsingleton.elim _ _
  obtain rfl : x1 = 0 := Subsingleton.elim _ _
  pointwise [k0_pay15]

theorem old3 (s : Vec Ideal S32x30x1024 .f32) (x0 : Fin 1) (r : Fin 29) (l : Fin 1024) :
    k0_pay14 (F := Ideal) (View.ld s (Rect.unit ![3, 1, 0] ![1, 29, 1024] inb_S32x30x1024_S1x29x1024_3_1_0)) (ix3 x0 r l)
      = s (ix3 3 ⟨1 + r, by omega⟩ l) := by
  obtain rfl : x0 = 0 := Subsingleton.elim _ _
  pointwise [k0_pay14]

theorem new4 (v : Vec Ideal S32x2048 .f32) (x0 x1 : Fin 1) (l : Fin 1024) :
    k0_pay19 (F := Ideal) (k0_pay1 v) (ix3 x0 x1 l) = k0_pay1 (F := Ideal) v (ix2 4 l) := by
  obtain rfl : x0 = 0 := Subsingleton.elim _ _
  obtain rfl : x1 = 0 := Subsingleton.elim _ _
  pointwise [k0_pay19]

theorem old4 (s : Vec Ideal S32x30x1024 .f32) (x0 : Fin 1) (r : Fin 29) (l : Fin 1024) :
    k0_pay18 (F := Ideal) (k0_pay17 (F := Ideal) (View.ld s (Rect.unit ![4, 1, 0] ![1, 29, 1024] inb_S32x30x1024_S1x29x1024_4_1_0))) (ix3 x0 r l)
      = s (ix3 4 ⟨1 + r, by omega⟩ l) := by
  obtain rfl : x0 = 0 := Subsingleton.elim _ _
  pointwise [k0_pay18, k0_pay17]

theorem new5 (v : Vec Ideal S32x2048 .f32) (x0 x1 : Fin 1) (l : Fin 1024) :
    k0_pay22 (F := Ideal) (k0_pay1 v) (ix3 x0 x1 l) = k0_pay1 (F := Ideal) v (ix2 5 l) := by
  obtain rfl : x0 = 0 := Subsingleton.elim _ _
  obtain rfl : x1 = 0 := Subsingleton.elim _ _
  pointwise [k0_pay22]

theorem old5 (s : Vec Ideal S32x30x1024 .f32) (x0 : Fin 1) (r : Fin 29) (l : Fin 1024) :
    k0_pay21 (F := Ideal) (View.ld s (Rect.unit ![5, 1, 0] ![1, 29, 1024] inb_S32x30x1024_S1x29x1024_5_1_0)) (ix3 x0 r l)
      = s (ix3 5 ⟨1 + r, by omega⟩ l) := by
  obtain rfl : x0 = 0 := Subsingleton.elim _ _
  pointwise [k0_pay21]

theorem new6 (v : Vec Ideal S32x2048 .f32) (x0 x1 : Fin 1) (l : Fin 1024) :
    k0_pay25 (F := Ideal) (k0_pay1 v) (ix3 x0 x1 l) = k0_pay1 (F := Ideal) v (ix2 6 l) := by
  obtain rfl : x0 = 0 := Subsingleton.elim _ _
  obtain rfl : x1 = 0 := Subsingleton.elim _ _
  pointwise [k0_pay25]

theorem old6 (s : Vec Ideal S32x30x1024 .f32) (x0 : Fin 1) (r : Fin 29) (l : Fin 1024) :
    k0_pay24 (F := Ideal) (View.ld s (Rect.unit ![6, 1, 0] ![1, 29, 1024] inb_S32x30x1024_S1x29x1024_6_1_0)) (ix3 x0 r l)
      = s (ix3 6 ⟨1 + r, by omega⟩ l) := by
  obtain rfl : x0 = 0 := Subsingleton.elim _ _
  pointwise [k0_pay24]

theorem new7 (v : Vec Ideal S32x2048 .f32) (x0 x1 : Fin 1) (l : Fin 1024) :
    k0_pay28 (F := Ideal) (k0_pay1 v) (ix3 x0 x1 l) = k0_pay1 (F := Ideal) v (ix2 7 l) := by
  obtain rfl : x0 = 0 := Subsingleton.elim _ _
  obtain rfl : x1 = 0 := Subsingleton.elim _ _
  pointwise [k0_pay28]

theorem old7 (s : Vec Ideal S32x30x1024 .f32) (x0 : Fin 1) (r : Fin 29) (l : Fin 1024) :
    k0_pay27 (F := Ideal) (View.ld s (Rect.unit ![7, 1, 0] ![1, 29, 1024] inb_S32x30x1024_S1x29x1024_7_1_0)) (ix3 x0 r l)
      = s (ix3 7 ⟨1 + r, by omega⟩ l) := by
  obtain rfl : x0 = 0 := Subsingleton.elim _ _
  pointwise [k0_pay27]

theorem new8 (v : Vec Ideal S32x2048 .f32) (x0 x1 : Fin 1) (l : Fin 1024) :
    k0_pay32 (F := Ideal) (k0_pay1 v) (ix3 x0 x1 l) = k0_pay1 (F := Ideal) v (ix2 8 l) := by
  obtain rfl : x0 = 0 := Subsingleton.elim _ _
  obtain rfl : x1 = 0 := Subsingleton.elim _ _
  pointwise [k0_pay32]

theorem old8 (s : Vec Ideal S32x30x1024 .f32) (x0 : Fin 1) (r : Fin 29) (l : Fin 1024) :
    k0_pay31 (F := Ideal) (View.ld s (Rect.unit ![8, 1, 0] ![1, 29, 1024] inb_S32x30x1024_S1x29x1024_8_1_0)) (ix3 x0 r l)
      = s (ix3 8 ⟨1 + r, by omega⟩ l) := by
  obtain rfl : x0 = 0 := Subsingleton.elim _ _
  pointwise [k0_pay31]

theorem new9 (v : Vec Ideal S32x2048 .f32) (x0 x1 : Fin 1) (l : Fin 1024) :
    k0_pay35 (F := Ideal) (k0_pay1 v) (ix3 x0 x1 l) = k0_pay1 (F := Ideal) v (ix2 9 l) := by
  obtain rfl : x0 = 0 := Subsingleton.elim _ _
  obtain rfl : x1 = 0 := Subsingleton.elim _ _
  pointwise [k0_pay35]

theorem old9 (s : Vec Ideal S32x30x1024 .f32) (x0 : Fin 1) (r : Fin 29) (l : Fin 1024) :
    k0_pay34 (F := Ideal) (View.ld s (Rect.unit ![9, 1, 0] ![1, 29, 1024] inb_S32x30x1024_S1x29x1024_9_1_0)) (ix3 x0 r l)
      = s (ix3 9 ⟨1 + r, by omega⟩ l) := by
  obtain rfl : x0 = 0 := Subsingleton.elim _ _
  pointwise [k0_pay34]

theorem new10 (v : Vec Ideal S32x2048 .f32) (x0 x1 : Fin 1) (l : Fin 1024) :
    k0_pay38 (F := Ideal) (k0_pay1 v) (ix3 x0 x1 l) = k0_pay1 (F := Ideal) v (ix2 10 l) := by
  obtain rfl : x0 = 0 := Subsingleton.elim _ _
  obtain rfl : x1 = 0 := Subsingleton.elim _ _
  pointwise [k0_pay38]

theorem old10 (s : Vec Ideal S32x30x1024 .f32) (x0 : Fin 1) (r : Fin 29) (l : Fin 1024) :
    k0_pay37 (F := Ideal) (View.ld s (Rect.unit ![10, 1, 0] ![1, 29, 1024] inb_S32x30x1024_S1x29x1024_10_1_0)) (ix3 x0 r l)
      = s (ix3 10 ⟨1 + r, by omega⟩ l) := by
  obtain rfl : x0 = 0 := Subsingleton.elim _ _
  pointwise [k0_pay37]

theorem new11 (v : Vec Ideal S32x2048 .f32) (x0 x1 : Fin 1) (l : Fin 1024) :
    k0_pay42 (F := Ideal) (k0_pay41 (k0_pay1 v)) (ix3 x0 x1 l) = k0_pay1 (F := Ideal) v (ix2 11 l) := by
  obtain rfl : x0 = 0 := Subsingleton.elim _ _
  obtain rfl : x1 = 0 := Subsingleton.elim _ _
  pointwise [k0_pay42, k0_pay41]

theorem old11 (s : Vec Ideal S32x30x1024 .f32) (x0 : Fin 1) (r : Fin 29) (l : Fin 1024) :
    k0_pay40 (F := Ideal) (View.ld s (Rect.unit ![11, 1, 0] ![1, 29, 1024] inb_S32x30x1024_S1x29x1024_11_1_0)) (ix3 x0 r l)
      = s (ix3 11 ⟨1 + r, by omega⟩ l) := by
  obtain rfl : x0 = 0 := Subsingleton.elim _ _
  pointwise [k0_pay40]

theorem new12 (v : Vec Ideal S32x2048 .f32) (x0 x1 : Fin 1) (l : Fin 1024) :
    k0_pay45 (F := Ideal) (k0_pay1 v) (ix3 x0 x1 l) = k0_pay1 (F := Ideal) v (ix2 12 l) := by
  obtain rfl : x0 = 0 := Subsingleton.elim _ _
  obtain rfl : x1 = 0 := Subsingleton.elim _ _
  pointwise [k0_pay45]

theorem old12 (s : Vec Ideal S32x30x1024 .f32) (x0 : Fin 1) (r : Fin 29) (l : Fin 1024) :
    k0_pay44 (F := Ideal) (View.ld s (Rect.unit ![12, 1, 0] ![1, 29, 1024] inb_S32x30x1024_S1x29x1024_12_1_0)) (ix3 x0 r l)
      = s (ix3 12 ⟨1 + r, by omega⟩ l) := by
  obtain rfl : x0 = 0 := Subsingleton.elim _ _
  pointwise [k0_pay44]

theorem new13 (v : Vec Ideal S32x2048 .f32) (x0 x1 : Fin 1) (l : Fin 1024) :
    k0_pay49 (F := Ideal) (k0_pay1 v) (ix3 x0 x1 l) = k0_pay1 (F := Ideal) v (ix2 13 l) := by
  obtain rfl : x0 = 0 := Subsingleton.elim _ _
  obtain rfl : x1 = 0 := Subsingleton.elim _ _
  pointwise [k0_pay49]

theorem old13 (s : Vec Ideal S32x30x1024 .f32) (x0 : Fin 1) (r : Fin 29) (l : Fin 1024) :
    k0_pay48 (F := Ideal) (k0_pay47 (F := Ideal) (View.ld s (Rect.unit ![13, 1, 0] ![1, 29, 1024] inb_S32x30x1024_S1x29x1024_13_1_0))) (ix3 x0 r l)
      = s (ix3 13 ⟨1 + r, by omega⟩ l) := by
  obtain rfl : x0 = 0 := Subsingleton.elim _ _
  pointwise [k0_pay48, k0_pay47]

theorem new14 (v : Vec Ideal S32x2048 .f32) (x0 x1 : Fin 1) (l : Fin 1024) :
    k0_pay52 (F := Ideal) (k0_pay1 v) (ix3 x0 x1 l) = k0_pay1 (F := Ideal) v (ix2 14 l) := by
  obtain rfl : x0 = 0 := Subsingleton.elim _ _
  obtain rfl : x1 = 0 := Subsingleton.elim _ _
  pointwise [k0_pay52]

theorem old14 (s : Vec Ideal S32x30x1024 .f32) (x0 : Fin 1) (r : Fin 29) (l : Fin 1024) :
    k0_pay51 (F := Ideal) (View.ld s (Rect.unit ![14, 1, 0] ![1, 29, 1024] inb_S32x30x1024_S1x29x1024_14_1_0)) (ix3 x0 r l)
      = s (ix3 14 ⟨1 + r, by omega⟩ l) := by
  obtain rfl : x0 = 0 := Subsingleton.elim _ _
  pointwise [k0_pay51]

theorem new15 (v : Vec Ideal S32x2048 .f32) (x0 x1 : Fin 1) (l : Fin 1024) :
    k0_pay55 (F := Ideal) (k0_pay1 v) (ix3 x0 x1 l) = k0_pay1 (F := Ideal) v (ix2 15 l) := by
  obtain rfl : x0 = 0 := Subsingleton.elim _ _
  obtain rfl : x1 = 0 := Subsingleton.elim _ _
  pointwise [k0_pay55]

theorem old15 (s : Vec Ideal S32x30x1024 .f32) (x0 : Fin 1) (r : Fin 29) (l : Fin 1024) :
    k0_pay54 (F := Ideal) (View.ld s (Rect.unit ![15, 1, 0] ![1, 29, 1024] inb_S32x30x1024_S1x29x1024_15_1_0)) (ix3 x0 r l)
      = s (ix3 15 ⟨1 + r, by omega⟩ l) := by
  obtain rfl : x0 = 0 := Subsingleton.elim _ _
  pointwise [k0_pay54]

theorem new16 (v : Vec Ideal S32x2048 .f32) (x0 x1 : Fin 1) (l : Fin 1024) :
    k0_pay58 (F := Ideal) (k0_pay1 v) (ix3 x0 x1 l) = k0_pay1 (F := Ideal) v (ix2 16 l) := by
  obtain rfl : x0 = 0 := Subsingleton.elim _ _
  obtain rfl : x1 = 0 := Subsingleton.elim _ _
  pointwise [k0_pay58]

theorem old16 (s : Vec Ideal S32x30x1024 .f32) (x0 : Fin 1) (r : Fin 29) (l : Fin 1024) :
    k0_pay57 (F := Ideal) (View.ld s (Rect.unit ![16, 1, 0] ![1, 29, 1024] inb_S32x30x1024_S1x29x1024_16_1_0)) (ix3 x0 r l)
      = s (ix3 16 ⟨1 + r, by omega⟩ l) := by
  obtain rfl : x0 = 0 := Subsingleton.elim _ _
  pointwise [k0_pay57]

theorem new17 (v : Vec Ideal S32x2048 .f32) (x0 x1 : Fin 1) (l : Fin 1024) :
    k0_pay62 (F := Ideal) (k0_pay1 v) (ix3 x0 x1 l) = k0_pay1 (F := Ideal) v (ix2 17 l) := by
  obtain rfl : x0 = 0 := Subsingleton.elim _ _
  obtain rfl : x1 = 0 := Subsingleton.elim _ _
  pointwise [k0_pay62]

theorem old17 (s : Vec Ideal S32x30x1024 .f32) (x0 : Fin 1) (r : Fin 29) (l : Fin 1024) :
    k0_pay61 (F := Ideal) (View.ld s (Rect.unit ![17, 1, 0] ![1, 29, 1024] inb_S32x30x1024_S1x29x1024_17_1_0)) (ix3 x0 r l)
      = s (ix3 17 ⟨1 + r, by omega⟩ l) := by
  obtain rfl : x0 = 0 := Subsingleton.elim _ _
  pointwise [k0_pay61]

theorem new18 (v : Vec Ideal S32x2048 .f32) (x0 x1 : Fin 1) (l : Fin 1024) :
    k0_pay65 (F := Ideal) (k0_pay1 v) (ix3 x0 x1 l) = k0_pay1 (F := Ideal) v (ix2 18 l) := by
  obtain rfl : x0 = 0 := Subsingleton.elim _ _
  obtain rfl : x1 = 0 := Subsingleton.elim _ _
  pointwise [k0_pay65]

theorem old18 (s : Vec Ideal S32x30x1024 .f32) (x0 : Fin 1) (r : Fin 29) (l : Fin 1024) :
    k0_pay64 (F := Ideal) (View.ld s (Rect.unit ![18, 1, 0] ![1, 29, 1024] inb_S32x30x1024_S1x29x1024_18_1_0)) (ix3 x0 r l)
      = s (ix3 18 ⟨1 + r, by omega⟩ l) := by
  obtain rfl : x0 = 0 := Subsingleton.elim _ _
  pointwise [k0_pay64]

theorem new19 (v : Vec Ideal S32x2048 .f32) (x0 x1 : Fin 1) (l : Fin 1024) :
    k0_pay69 (F := Ideal) (k0_pay1 v) (ix3 x0 x1 l) = k0_pay1 (F := Ideal) v (ix2 19 l) := by
  obtain rfl : x0 = 0 := Subsingleton.elim _ _
  obtain rfl : x1 = 0 := Subsingleton.elim _ _
  pointwise [k0_pay69]

theorem old19 (s : Vec Ideal S32x30x1024 .f32) (x0 : Fin 1) (r : Fin 29) (l : Fin 1024) :
    k0_pay68 (F := Ideal) (View.ld s (Rect.unit ![19, 1, 0] ![1, 29, 1024] inb_S32x30x1024_S1x29x1024_19_1_0)) (ix3 x0 r l)
      = s (ix3 19 ⟨1 + r, by omega⟩ l) := by
  obtain rfl : x0 = 0 := Subsingleton.elim _ _
  pointwise [k0_pay68]

theorem new20 (v : Vec Ideal S32x2048 .f32) (x0 x1 : Fin 1) (l : Fin 1024) :
    k0_pay72 (F := Ideal) (k0_pay1 v) (ix3 x0 x1 l) = k0_pay1 (F := Ideal) v (ix2 20 l) := by
  obtain rfl : x0 = 0 := Subsingleton.elim _ _
  obtain rfl : x1 = 0 := Subsingleton.elim _ _
  pointwise [k0_pay72]

theorem old20 (s : Vec Ideal S32x30x1024 .f32) (x0 : Fin 1) (r : Fin 29) (l : Fin 1024) :
    k0_pay71 (F := Ideal) (View.ld s (Rect.unit ![20, 1, 0] ![1, 29, 1024] inb_S32x30x1024_S1x29x1024_20_1_0)) (ix3 x0 r l)
      = s (ix3 20 ⟨1 + r, by omega⟩ l) := by
  obtain rfl : x0 = 0 := Subsingleton.elim _ _
  pointwise [k0_pay71]

theorem new21 (v : Vec Ideal S32x2048 .f32) (x0 x1 : Fin 1) (l : Fin 1024) :
    k0_pay75 (F := Ideal) (k0_pay1 v) (ix3 x0 x1 l) = k0_pay1 (F := Ideal) v (ix2 21 l) := by
  obtain rfl : x0 = 0 := Subsingleton.elim _ _
  obtain rfl : x1 = 0 := Subsingleton.elim _ _
  pointwise [k0_pay75]

theorem old21 (s : Vec Ideal S32x30x1024 .f32) (x0 : Fin 1) (r : Fin 29) (l : Fin 1024) :
    k0_pay74 (F := Ideal) (View.ld s (Rect.unit ![21, 1, 0] ![1, 29, 1024] inb_S32x30x1024_S1x29x1024_21_1_0)) (ix3 x0 r l)
      = s (ix3 21 ⟨1 + r, by omega⟩ l) := by
  obtain rfl : x0 = 0 := Subsingleton.elim _ _
  pointwise [k0_pay74]

theorem new22 (v : Vec Ideal S32x2048 .f32) (x0 x1 : Fin 1) (l : Fin 1024) :
    k0_pay79 (F := Ideal) (k0_pay78 (k0_pay1 v)) (ix3 x0 x1 l) = k0_pay1 (F := Ideal) v (ix2 22 l) := by
  obtain rfl : x0 = 0 := Subsingleton.elim _ _
  obtain rfl : x1 = 0 := Subsingleton.elim _ _
  pointwise [k0_pay79, k0_pay78]

theorem old22 (s : Vec Ideal S32x30x1024 .f32) (x0 : Fin 1) (r : Fin 29) (l : Fin 1024) :
    k0_pay77 (F := Ideal) (View.ld s (Rect.unit ![22, 1, 0] ![1, 29, 1024] inb_S32x30x1024_S1x29x1024_22_1_0)) (ix3 x0 r l)
      = s (ix3 22 ⟨1 + r, by omega⟩ l) := by
  obtain rfl : x0 = 0 := Subsingleton.elim _ _
  pointwise [k0_pay77]

theorem new23 (v : Vec Ideal S32x2048 .f32) (x0 x1 : Fin 1) (l : Fin 1024) :
    k0_pay82 (F := Ideal) (k0_pay1 v) (ix3 x0 x1 l) = k0_pay1 (F := Ideal) v (ix2 23 l) := by
  obtain rfl : x0 = 0 := Subsingleton.elim _ _
  obtain rfl : x1 = 0 := Subsingleton.elim _ _
  pointwise [k0_pay82]

theorem old23 (s : Vec Ideal S32x30x1024 .f32) (x0 : Fin 1) (r : Fin 29) (l : Fin 1024) :
    k0_pay81 (F := Ideal) (View.ld s (Rect.unit ![23, 1, 0] ![1, 29, 1024] inb_S32x30x1024_S1x29x1024_23_1_0)) (ix3 x0 r l)
      = s (ix3 23 ⟨1 + r, by omega⟩ l) := by
  obtain rfl : x0 = 0 := Subsingleton.elim _ _
  pointwise [k0_pay81]

theorem new24 (v : Vec Ideal S32x2048 .f32) (x0 x1 : Fin 1) (l : Fin 1024) :
    k0_pay86 (F := Ideal) (k0_pay1 v) (ix3 x0 x1 l) = k0_pay1 (F := Ideal) v (ix2 24 l) := by
  obtain rfl : x0 = 0 := Subsingleton.elim _ _
  obtain rfl : x1 = 0 := Subsingleton.elim _ _
  pointwise [k0_pay86]

theorem old24 (s : Vec Ideal S32x30x1024 .f32) (x0 : Fin 1) (r : Fin 29) (l : Fin 1024) :
    k0_pay85 (F := Ideal) (k0_pay84 (F := Ideal) (View.ld s (Rect.unit ![24, 1, 0] ![1, 29, 1024] inb_S32x30x1024_S1x29x1024_24_1_0))) (ix3 x0 r l)
      = s (ix3 24 ⟨1 + r, by omega⟩ l) := by
  obtain rfl : x0 = 0 := Subsingleton.elim _ _
  pointwise [k0_pay85, k0_pay84]

theorem new25 (v : Vec Ideal S32x2048 .f32) (x0 x1 : Fin 1) (l : Fin 1024) :
    k0_pay89 (F := Ideal) (k0_pay1 v) (ix3 x0 x1 l) = k0_pay1 (F := Ideal) v (ix2 25 l) := by
  obtain rfl : x0 = 0 := Subsingleton.elim _ _
  obtain rfl : x1 = 0 := Subsingleton.elim _ _
  pointwise [k0_pay89]

theorem old25 (s : Vec Ideal S32x30x1024 .f32) (x0 : Fin 1) (r : Fin 29) (l : Fin 1024) :
    k0_pay88 (F := Ideal) (View.ld s (Rect.unit ![25, 1, 0] ![1, 29, 1024] inb_S32x30x1024_S1x29x1024_25_1_0)) (ix3 x0 r l)
      = s (ix3 25 ⟨1 + r, by omega⟩ l) := by
  obtain rfl : x0 = 0 := Subsingleton.elim _ _
  pointwise [k0_pay88]

theorem new26 (v : Vec Ideal S32x2048 .f32) (x0 x1 : Fin 1) (l : Fin 1024) :
    k0_pay92 (F := Ideal) (k0_pay1 v) (ix3 x0 x1 l) = k0_pay1 (F := Ideal) v (ix2 26 l) := by
  obtain rfl : x0 = 0 := Subsingleton.elim _ _
  obtain rfl : x1 = 0 := Subsingleton.elim _ _
  pointwise [k0_pay92]

theorem old26 (s : Vec Ideal S32x30x1024 .f32) (x0 : Fin 1) (r : Fin 29) (l : Fin 1024) :
    k0_pay91 (F := Ideal) (View.ld s (Rect.unit ![26, 1, 0] ![1, 29, 1024] inb_S32x30x1024_S1x29x1024_26_1_0)) (ix3 x0 r l)
      = s (ix3 26 ⟨1 + r, by omega⟩ l) := by
  obtain rfl : x0 = 0 := Subsingleton.elim _ _
  pointwise [k0_pay91]

theorem new27 (v : Vec Ideal S32x2048 .f32) (x0 x1 : Fin 1) (l : Fin 1024) :
    k0_pay95 (F := Ideal) (k0_pay1 v) (ix3 x0 x1 l) = k0_pay1 (F := Ideal) v (ix2 27 l) := by
  obtain rfl : x0 = 0 := Subsingleton.elim _ _
  obtain rfl : x1 = 0 := Subsingleton.elim _ _
  pointwise [k0_pay95]

theorem old27 (s : Vec Ideal S32x30x1024 .f32) (x0 : Fin 1) (r : Fin 29) (l : Fin 1024) :
    k0_pay94 (F := Ideal) (View.ld s (Rect.unit ![27, 1, 0] ![1, 29, 1024] inb_S32x30x1024_S1x29x1024_27_1_0)) (ix3 x0 r l)
      = s (ix3 27 ⟨1 + r, by omega⟩ l) := by
  obtain rfl : x0 = 0 := Subsingleton.elim _ _
  pointwise [k0_pay94]

theorem new28 (v : Vec Ideal S32x2048 .f32) (x0 x1 : Fin 1) (l : Fin 1024) :
    k0_pay99 (F := Ideal) (k0_pay1 v) (ix3 x0 x1 l) = k0_pay1 (F := Ideal) v (ix2 28 l) := by
  obtain rfl : x0 = 0 := Subsingleton.elim _ _
  obtain rfl : x1 = 0 := Subsingleton.elim _ _
  pointwise [k0_pay99]

theorem old28 (s : Vec Ideal S32x30x1024 .f32) (x0 : Fin 1) (r : Fin 29) (l : Fin 1024) :
    k0_pay98 (F := Ideal) (View.ld s (Rect.unit ![28, 1, 0] ![1, 29, 1024] inb_S32x30x1024_S1x29x1024_28_1_0)) (ix3 x0 r l)
      = s (ix3 28 ⟨1 + r, by omega⟩ l) := by
  obtain rfl : x0 = 0 := Subsingleton.elim _ _
  pointwise [k0_pay98]

theorem new29 (v : Vec Ideal S32x2048 .f32) (x0 x1 : Fin 1) (l : Fin 1024) :
    k0_pay102 (F := Ideal) (k0_pay1 v) (ix3 x0 x1 l) = k0_pay1 (F := Ideal) v (ix2 29 l) := by
  obtain rfl : x0 = 0 := Subsingleton.elim _ _
  obtain rfl : x1 = 0 := Subsingleton.elim _ _
  pointwise [k0_pay102]

theorem old29 (s : Vec Ideal S32x30x1024 .f32) (x0 : Fin 1) (r : Fin 29) (l : Fin 1024) :
    k0_pay101 (F := Ideal) (View.ld s (Rect.unit ![29, 1, 0] ![1, 29, 1024] inb_S32x30x1024_S1x29x1024_29_1_0)) (ix3 x0 r l)
      = s (ix3 29 ⟨1 + r, by omega⟩ l) := by
  obtain rfl : x0 = 0 := Subsingleton.elim _ _
  pointwise [k0_pay101]

theorem new30 (v : Vec Ideal S32x2048 .f32) (x0 x1 : Fin 1) (l : Fin 1024) :
    k0_pay105 (F := Ideal) (k0_pay1 v) (ix3 x0 x1 l) = k0_pay1 (F := Ideal) v (ix2 30 l) := by
  obtain rfl : x0 = 0 := Subsingleton.elim _ _
  obtain rfl : x1 = 0 := Subsingleton.elim _ _
  pointwise [k0_pay105]

theorem old30 (s : Vec Ideal S32x30x1024 .f32) (x0 : Fin 1) (r : Fin 29) (l : Fin 1024) :
    k0_pay104 (F := Ideal) (View.ld s (Rect.unit ![30, 1, 0] ![1, 29, 1024] inb_S32x30x1024_S1x29x1024_30_1_0)) (ix3 x0 r l)
      = s (ix3 30 ⟨1 + r, by omega⟩ l) := by
  obtain rfl : x0 = 0 := Subsingleton.elim _ _
  pointwise [k0_pay104]

theorem new31 (v : Vec Ideal S32x2048 .f32) (x0 x1 : Fin 1) (l : Fin 1024) :
    k0_pay109 (F := Ideal) (k0_pay108 (k0_pay1 v)) (ix3 x0 x1 l) = k0_pay1 (F := Ideal) v (ix2 31 l) := by
  obtain rfl : x0 = 0 := Subsingleton.elim _ _
  obtain rfl : x1 = 0 := Subsingleton.elim _ _
  pointwise [k0_pay109, k0_pay108]

theorem old31 (s : Vec Ideal S32x30x1024 .f32) (x0 : Fin 1) (r : Fin 29) (l : Fin 1024) :
    k0_pay107 (F := Ideal) (View.ld s (Rect.unit ![31, 1, 0] ![1, 29, 1024] inb_S32x30x1024_S1x29x1024_31_1_0)) (ix3 x0 r l)
      = s (ix3 31 ⟨1 + r, by omega⟩ l) := by
  obtain rfl : x0 = 0 := Subsingleton.elim _ _
  pointwise [k0_pay107]

/-- The rows stored cover the state. -/
theorem cover (n0 n1 n2 n3 n4 n5 n6 n7 n8 n9 n10 n11 n12 n13 n14 n15 n16 n17 n18 n19 n20 n21 n22 n23 n24 n25 n26 n27 n28 n29 n30 n31 : Vec Ideal S1x1x1024 .f32) (o0 o1 o2 o3 o4 o5 o6 o7 o8 o9 o10 o11 o12 o13 o14 o15 o16 o17 o18 o19 o20 o21 o22 o23 o24 o25 o26 o27 o28 o29 o30 o31 : Vec Ideal S1x29x1024 .f32) (y : S32x30x1024.Idx) :
    ∃ p ∈ ([⟨Rect.unit ![31, 29, 0] ![1, 1, 1024] inb_S32x30x1024_S1x1x1024_31_29_0, n31⟩,
      ⟨Rect.unit ![31, 0, 0] ![1, 29, 1024] inb_S32x30x1024_S1x29x1024_31_0_0, o31⟩,
      ⟨Rect.unit ![30, 29, 0] ![1, 1, 1024] inb_S32x30x1024_S1x1x1024_30_29_0, n30⟩,
      ⟨Rect.unit ![30, 0, 0] ![1, 29, 1024] inb_S32x30x1024_S1x29x1024_30_0_0, o30⟩,
      ⟨Rect.unit ![29, 29, 0] ![1, 1, 1024] inb_S32x30x1024_S1x1x1024_29_29_0, n29⟩,
      ⟨Rect.unit ![29, 0, 0] ![1, 29, 1024] inb_S32x30x1024_S1x29x1024_29_0_0, o29⟩,
      ⟨Rect.unit ![28, 29, 0] ![1, 1, 1024] inb_S32x30x1024_S1x1x1024_28_29_0, n28⟩,
      ⟨Rect.unit ![28, 0, 0] ![1, 29, 1024] inb_S32x30x1024_S1x29x1024_28_0_0, o28⟩,
      ⟨Rect.unit ![27, 29, 0] ![1, 1, 1024] inb_S32x30x1024_S1x1x1024_27_29_0, n27⟩,
      ⟨Rect.unit ![27, 0, 0] ![1, 29, 1024] inb_S32x30x1024_S1x29x1024_27_0_0, o27⟩,
      ⟨Rect.unit ![26, 29, 0] ![1, 1, 1024] inb_S32x30x1024_S1x1x1024_26_29_0, n26⟩,
      ⟨Rect.unit ![26, 0, 0] ![1, 29, 1024] inb_S32x30x1024_S1x29x1024_26_0_0, o26⟩,
      ⟨Rect.unit ![25, 29, 0] ![1, 1, 1024] inb_S32x30x1024_S1x1x1024_25_29_0, n25⟩,
      ⟨Rect.unit ![25, 0, 0] ![1, 29, 1024] inb_S32x30x1024_S1x29x1024_25_0_0, o25⟩,
      ⟨Rect.unit ![24, 29, 0] ![1, 1, 1024] inb_S32x30x1024_S1x1x1024_24_29_0, n24⟩,
      ⟨Rect.unit ![24, 0, 0] ![1, 29, 1024] inb_S32x30x1024_S1x29x1024_24_0_0, o24⟩,
      ⟨Rect.unit ![23, 29, 0] ![1, 1, 1024] inb_S32x30x1024_S1x1x1024_23_29_0, n23⟩,
      ⟨Rect.unit ![23, 0, 0] ![1, 29, 1024] inb_S32x30x1024_S1x29x1024_23_0_0, o23⟩,
      ⟨Rect.unit ![22, 29, 0] ![1, 1, 1024] inb_S32x30x1024_S1x1x1024_22_29_0, n22⟩,
      ⟨Rect.unit ![22, 0, 0] ![1, 29, 1024] inb_S32x30x1024_S1x29x1024_22_0_0, o22⟩,
      ⟨Rect.unit ![21, 29, 0] ![1, 1, 1024] inb_S32x30x1024_S1x1x1024_21_29_0, n21⟩,
      ⟨Rect.unit ![21, 0, 0] ![1, 29, 1024] inb_S32x30x1024_S1x29x1024_21_0_0, o21⟩,
      ⟨Rect.unit ![20, 29, 0] ![1, 1, 1024] inb_S32x30x1024_S1x1x1024_20_29_0, n20⟩,
      ⟨Rect.unit ![20, 0, 0] ![1, 29, 1024] inb_S32x30x1024_S1x29x1024_20_0_0, o20⟩,
      ⟨Rect.unit ![19, 29, 0] ![1, 1, 1024] inb_S32x30x1024_S1x1x1024_19_29_0, n19⟩,
      ⟨Rect.unit ![19, 0, 0] ![1, 29, 1024] inb_S32x30x1024_S1x29x1024_19_0_0, o19⟩,
      ⟨Rect.unit ![18, 29, 0] ![1, 1, 1024] inb_S32x30x1024_S1x1x1024_18_29_0, n18⟩,
      ⟨Rect.unit ![18, 0, 0] ![1, 29, 1024] inb_S32x30x1024_S1x29x1024_18_0_0, o18⟩,
      ⟨Rect.unit ![17, 29, 0] ![1, 1, 1024] inb_S32x30x1024_S1x1x1024_17_29_0, n17⟩,
      ⟨Rect.unit ![17, 0, 0] ![1, 29, 1024] inb_S32x30x1024_S1x29x1024_17_0_0, o17⟩,
      ⟨Rect.unit ![16, 29, 0] ![1, 1, 1024] inb_S32x30x1024_S1x1x1024_16_29_0, n16⟩,
      ⟨Rect.unit ![16, 0, 0] ![1, 29, 1024] inb_S32x30x1024_S1x29x1024_16_0_0, o16⟩,
      ⟨Rect.unit ![15, 29, 0] ![1, 1, 1024] inb_S32x30x1024_S1x1x1024_15_29_0, n15⟩,
      ⟨Rect.unit ![15, 0, 0] ![1, 29, 1024] inb_S32x30x1024_S1x29x1024_15_0_0, o15⟩,
      ⟨Rect.unit ![14, 29, 0] ![1, 1, 1024] inb_S32x30x1024_S1x1x1024_14_29_0, n14⟩,
      ⟨Rect.unit ![14, 0, 0] ![1, 29, 1024] inb_S32x30x1024_S1x29x1024_14_0_0, o14⟩,
      ⟨Rect.unit ![13, 29, 0] ![1, 1, 1024] inb_S32x30x1024_S1x1x1024_13_29_0, n13⟩,
      ⟨Rect.unit ![13, 0, 0] ![1, 29, 1024] inb_S32x30x1024_S1x29x1024_13_0_0, o13⟩,
      ⟨Rect.unit ![12, 29, 0] ![1, 1, 1024] inb_S32x30x1024_S1x1x1024_12_29_0, n12⟩,
      ⟨Rect.unit ![12, 0, 0] ![1, 29, 1024] inb_S32x30x1024_S1x29x1024_12_0_0, o12⟩,
      ⟨Rect.unit ![11, 29, 0] ![1, 1, 1024] inb_S32x30x1024_S1x1x1024_11_29_0, n11⟩,
      ⟨Rect.unit ![11, 0, 0] ![1, 29, 1024] inb_S32x30x1024_S1x29x1024_11_0_0, o11⟩,
      ⟨Rect.unit ![10, 29, 0] ![1, 1, 1024] inb_S32x30x1024_S1x1x1024_10_29_0, n10⟩,
      ⟨Rect.unit ![10, 0, 0] ![1, 29, 1024] inb_S32x30x1024_S1x29x1024_10_0_0, o10⟩,
      ⟨Rect.unit ![9, 29, 0] ![1, 1, 1024] inb_S32x30x1024_S1x1x1024_9_29_0, n9⟩,
      ⟨Rect.unit ![9, 0, 0] ![1, 29, 1024] inb_S32x30x1024_S1x29x1024_9_0_0, o9⟩,
      ⟨Rect.unit ![8, 29, 0] ![1, 1, 1024] inb_S32x30x1024_S1x1x1024_8_29_0, n8⟩,
      ⟨Rect.unit ![8, 0, 0] ![1, 29, 1024] inb_S32x30x1024_S1x29x1024_8_0_0, o8⟩,
      ⟨Rect.unit ![7, 29, 0] ![1, 1, 1024] inb_S32x30x1024_S1x1x1024_7_29_0, n7⟩,
      ⟨Rect.unit ![7, 0, 0] ![1, 29, 1024] inb_S32x30x1024_S1x29x1024_7_0_0, o7⟩,
      ⟨Rect.unit ![6, 29, 0] ![1, 1, 1024] inb_S32x30x1024_S1x1x1024_6_29_0, n6⟩,
      ⟨Rect.unit ![6, 0, 0] ![1, 29, 1024] inb_S32x30x1024_S1x29x1024_6_0_0, o6⟩,
      ⟨Rect.unit ![5, 29, 0] ![1, 1, 1024] inb_S32x30x1024_S1x1x1024_5_29_0, n5⟩,
      ⟨Rect.unit ![5, 0, 0] ![1, 29, 1024] inb_S32x30x1024_S1x29x1024_5_0_0, o5⟩,
      ⟨Rect.unit ![4, 29, 0] ![1, 1, 1024] inb_S32x30x1024_S1x1x1024_4_29_0, n4⟩,
      ⟨Rect.unit ![4, 0, 0] ![1, 29, 1024] inb_S32x30x1024_S1x29x1024_4_0_0, o4⟩,
      ⟨Rect.unit ![3, 29, 0] ![1, 1, 1024] inb_S32x30x1024_S1x1x1024_3_29_0, n3⟩,
      ⟨Rect.unit ![3, 0, 0] ![1, 29, 1024] inb_S32x30x1024_S1x29x1024_3_0_0, o3⟩,
      ⟨Rect.unit ![2, 29, 0] ![1, 1, 1024] inb_S32x30x1024_S1x1x1024_2_29_0, n2⟩,
      ⟨Rect.unit ![2, 0, 0] ![1, 29, 1024] inb_S32x30x1024_S1x29x1024_2_0_0, o2⟩,
      ⟨Rect.unit ![1, 29, 0] ![1, 1, 1024] inb_S32x30x1024_S1x1x1024_1_29_0, n1⟩,
      ⟨Rect.unit ![1, 0, 0] ![1, 29, 1024] inb_S32x30x1024_S1x29x1024_1_0_0, o1⟩,
      ⟨Rect.unit ![0, 29, 0] ![1, 1, 1024] inb_S32x30x1024_S1x1x1024_0_29_0, n0⟩,
      ⟨Rect.unit ![0, 0, 0] ![1, 29, 1024] inb_S32x30x1024_S1x29x1024_0_0_0, o0⟩] : List (View.Piece (Elt Ideal) S32x30x1024 .f32)), y ∈ p.1.set :=
  View.cover_of_tiledBy _ ![1, 1, 1024] (by sl_kernel_rfl) y

/-- The rows the point leaves in the state's window. -/
theorem point (c : Dev nD) (t : Fin cfg0.N) (b : Fin 32) (r : Fin 30) (l : Fin 1024) :
    (outsAt0 m c t).2 (ix3 b r l) = val_main_v11 (F := Ideal) (m ((c : Thread nD τ).loc main_arg0)) (m ((c : Thread nD τ).loc main_arg1)) (ix3 b r l) := by
  unfold outsAt0
  frame_out
  simp only [read_unread_whole]
  canon_tiles x hx using cover _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  · idx_vars x
    exact new_goal m c t b 31 r l x2 (new31 _ x0 x1 x2) (by omega) (by omega) (by omega)
  · idx_vars x
    exact old_goal m c t b 31 r x1 l x2 (old31 _ x0 x1 x2) (by omega) (by omega) (by omega)
  · idx_vars x
    exact new_goal m c t b 30 r l x2 (new30 _ x0 x1 x2) (by omega) (by omega) (by omega)
  · idx_vars x
    exact old_goal m c t b 30 r x1 l x2 (old30 _ x0 x1 x2) (by omega) (by omega) (by omega)
  · idx_vars x
    exact new_goal m c t b 29 r l x2 (new29 _ x0 x1 x2) (by omega) (by omega) (by omega)
  · idx_vars x
    exact old_goal m c t b 29 r x1 l x2 (old29 _ x0 x1 x2) (by omega) (by omega) (by omega)
  · idx_vars x
    exact new_goal m c t b 28 r l x2 (new28 _ x0 x1 x2) (by omega) (by omega) (by omega)
  · idx_vars x
    exact old_goal m c t b 28 r x1 l x2 (old28 _ x0 x1 x2) (by omega) (by omega) (by omega)
  · idx_vars x
    exact new_goal m c t b 27 r l x2 (new27 _ x0 x1 x2) (by omega) (by omega) (by omega)
  · idx_vars x
    exact old_goal m c t b 27 r x1 l x2 (old27 _ x0 x1 x2) (by omega) (by omega) (by omega)
  · idx_vars x
    exact new_goal m c t b 26 r l x2 (new26 _ x0 x1 x2) (by omega) (by omega) (by omega)
  · idx_vars x
    exact old_goal m c t b 26 r x1 l x2 (old26 _ x0 x1 x2) (by omega) (by omega) (by omega)
  · idx_vars x
    exact new_goal m c t b 25 r l x2 (new25 _ x0 x1 x2) (by omega) (by omega) (by omega)
  · idx_vars x
    exact old_goal m c t b 25 r x1 l x2 (old25 _ x0 x1 x2) (by omega) (by omega) (by omega)
  · idx_vars x
    exact new_goal m c t b 24 r l x2 (new24 _ x0 x1 x2) (by omega) (by omega) (by omega)
  · idx_vars x
    exact old_goal m c t b 24 r x1 l x2 (old24 _ x0 x1 x2) (by omega) (by omega) (by omega)
  · idx_vars x
    exact new_goal m c t b 23 r l x2 (new23 _ x0 x1 x2) (by omega) (by omega) (by omega)
  · idx_vars x
    exact old_goal m c t b 23 r x1 l x2 (old23 _ x0 x1 x2) (by omega) (by omega) (by omega)
  · idx_vars x
    exact new_goal m c t b 22 r l x2 (new22 _ x0 x1 x2) (by omega) (by omega) (by omega)
  · idx_vars x
    exact old_goal m c t b 22 r x1 l x2 (old22 _ x0 x1 x2) (by omega) (by omega) (by omega)
  · idx_vars x
    exact new_goal m c t b 21 r l x2 (new21 _ x0 x1 x2) (by omega) (by omega) (by omega)
  · idx_vars x
    exact old_goal m c t b 21 r x1 l x2 (old21 _ x0 x1 x2) (by omega) (by omega) (by omega)
  · idx_vars x
    exact new_goal m c t b 20 r l x2 (new20 _ x0 x1 x2) (by omega) (by omega) (by omega)
  · idx_vars x
    exact old_goal m c t b 20 r x1 l x2 (old20 _ x0 x1 x2) (by omega) (by omega) (by omega)
  · idx_vars x
    exact new_goal m c t b 19 r l x2 (new19 _ x0 x1 x2) (by omega) (by omega) (by omega)
  · idx_vars x
    exact old_goal m c t b 19 r x1 l x2 (old19 _ x0 x1 x2) (by omega) (by omega) (by omega)
  · idx_vars x
    exact new_goal m c t b 18 r l x2 (new18 _ x0 x1 x2) (by omega) (by omega) (by omega)
  · idx_vars x
    exact old_goal m c t b 18 r x1 l x2 (old18 _ x0 x1 x2) (by omega) (by omega) (by omega)
  · idx_vars x
    exact new_goal m c t b 17 r l x2 (new17 _ x0 x1 x2) (by omega) (by omega) (by omega)
  · idx_vars x
    exact old_goal m c t b 17 r x1 l x2 (old17 _ x0 x1 x2) (by omega) (by omega) (by omega)
  · idx_vars x
    exact new_goal m c t b 16 r l x2 (new16 _ x0 x1 x2) (by omega) (by omega) (by omega)
  · idx_vars x
    exact old_goal m c t b 16 r x1 l x2 (old16 _ x0 x1 x2) (by omega) (by omega) (by omega)
  · idx_vars x
    exact new_goal m c t b 15 r l x2 (new15 _ x0 x1 x2) (by omega) (by omega) (by omega)
  · idx_vars x
    exact old_goal m c t b 15 r x1 l x2 (old15 _ x0 x1 x2) (by omega) (by omega) (by omega)
  · idx_vars x
    exact new_goal m c t b 14 r l x2 (new14 _ x0 x1 x2) (by omega) (by omega) (by omega)
  · idx_vars x
    exact old_goal m c t b 14 r x1 l x2 (old14 _ x0 x1 x2) (by omega) (by omega) (by omega)
  · idx_vars x
    exact new_goal m c t b 13 r l x2 (new13 _ x0 x1 x2) (by omega) (by omega) (by omega)
  · idx_vars x
    exact old_goal m c t b 13 r x1 l x2 (old13 _ x0 x1 x2) (by omega) (by omega) (by omega)
  · idx_vars x
    exact new_goal m c t b 12 r l x2 (new12 _ x0 x1 x2) (by omega) (by omega) (by omega)
  · idx_vars x
    exact old_goal m c t b 12 r x1 l x2 (old12 _ x0 x1 x2) (by omega) (by omega) (by omega)
  · idx_vars x
    exact new_goal m c t b 11 r l x2 (new11 _ x0 x1 x2) (by omega) (by omega) (by omega)
  · idx_vars x
    exact old_goal m c t b 11 r x1 l x2 (old11 _ x0 x1 x2) (by omega) (by omega) (by omega)
  · idx_vars x
    exact new_goal m c t b 10 r l x2 (new10 _ x0 x1 x2) (by omega) (by omega) (by omega)
  · idx_vars x
    exact old_goal m c t b 10 r x1 l x2 (old10 _ x0 x1 x2) (by omega) (by omega) (by omega)
  · idx_vars x
    exact new_goal m c t b 9 r l x2 (new9 _ x0 x1 x2) (by omega) (by omega) (by omega)
  · idx_vars x
    exact old_goal m c t b 9 r x1 l x2 (old9 _ x0 x1 x2) (by omega) (by omega) (by omega)
  · idx_vars x
    exact new_goal m c t b 8 r l x2 (new8 _ x0 x1 x2) (by omega) (by omega) (by omega)
  · idx_vars x
    exact old_goal m c t b 8 r x1 l x2 (old8 _ x0 x1 x2) (by omega) (by omega) (by omega)
  · idx_vars x
    exact new_goal m c t b 7 r l x2 (new7 _ x0 x1 x2) (by omega) (by omega) (by omega)
  · idx_vars x
    exact old_goal m c t b 7 r x1 l x2 (old7 _ x0 x1 x2) (by omega) (by omega) (by omega)
  · idx_vars x
    exact new_goal m c t b 6 r l x2 (new6 _ x0 x1 x2) (by omega) (by omega) (by omega)
  · idx_vars x
    exact old_goal m c t b 6 r x1 l x2 (old6 _ x0 x1 x2) (by omega) (by omega) (by omega)
  · idx_vars x
    exact new_goal m c t b 5 r l x2 (new5 _ x0 x1 x2) (by omega) (by omega) (by omega)
  · idx_vars x
    exact old_goal m c t b 5 r x1 l x2 (old5 _ x0 x1 x2) (by omega) (by omega) (by omega)
  · idx_vars x
    exact new_goal m c t b 4 r l x2 (new4 _ x0 x1 x2) (by omega) (by omega) (by omega)
  · idx_vars x
    exact old_goal m c t b 4 r x1 l x2 (old4 _ x0 x1 x2) (by omega) (by omega) (by omega)
  · idx_vars x
    exact new_goal m c t b 3 r l x2 (new3 _ x0 x1 x2) (by omega) (by omega) (by omega)
  · idx_vars x
    exact old_goal m c t b 3 r x1 l x2 (old3 _ x0 x1 x2) (by omega) (by omega) (by omega)
  · idx_vars x
    exact new_goal m c t b 2 r l x2 (new2 _ x0 x1 x2) (by omega) (by omega) (by omega)
  · idx_vars x
    exact old_goal m c t b 2 r x1 l x2 (old2 _ x0 x1 x2) (by omega) (by omega) (by omega)
  · idx_vars x
    exact new_goal m c t b 1 r l x2 (new1 _ x0 x1 x2) (by omega) (by omega) (by omega)
  · idx_vars x
    exact old_goal m c t b 1 r x1 l x2 (old1 _ x0 x1 x2) (by omega) (by omega) (by omega)
  · idx_vars x
    exact new_goal m c t b 0 r l x2 (new0 _ x0 x1 x2) (by omega) (by omega) (by omega)
  · idx_vars x
    exact old_goal m c t b 0 r x1 l x2 (old0 _ x0 x1 x2) (by omega) (by omega) (by omega)

theorem final (c : Dev nD) : (dats m 0 c).arrAt 8 (cfgs 0).N = val_main_v11 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  idx_vars y
  refine (point m c t y0 y1 y2).trans ?_
  blk_point [idx t]

end Cert.ConvSampleIdeal.Val
-- ==== Proof.ConvSampleClaim.lean ====
module

public import proofs.«01_k».proof.Defs
public import proofs.«01_k».proof.Proof.ConvSample
public import Idealize.ShloMosaic.Lib.Claim

@[expose] public section

set_option maxRecDepth 16384

noncomputable section

open Idealize.ShloMosaic Idealize.ShloMosaic.TcCoe Idealize.SL.Sem

namespace Cert.Parts

theorem convSampleRef_frame : Cert.quiescent_ConvSampleRefIdeal := fun m g _ =>
  (θ_run Cert.ConvSampleRefIdeal.defs _ _).mono (fun r h => ⟨fun c => (h c).2, sem_eq_zero_of_no_sems (by decide) r.2⟩)
    (Cert.ConvSampleRefIdeal.Value.run m g)

theorem convSample_algebraic : Cert.algebraic_ConvSampleIdeal_ConvSampleRefIdeal := by
  pair_intro
  · run_from Cert.ConvSampleIdeal.Gen.run_main m g
    all_goals first | exact Cert.ConvSampleIdeal.Gen.V_main_arg0 m c | exact Cert.ConvSampleIdeal.Gen.V_main_arg1 m c | exact Cert.ConvSampleIdeal.Gen.V_main_arg2 m c | exact Cert.ConvSampleIdeal.Gen.V_main_arg3 m c | exact Cert.ConvSampleIdeal.Gen.V_main_arg4 m c | exact Cert.ConvSampleIdeal.Gen.V_main_arg5 m c | exact Cert.ConvSampleIdeal.Gen.V_main_arg6 m c
  · refine (θ_run _ _ _).mono (fun _ h c => ⟨(h c).1.trans ?_, (h c).2⟩)
      (Cert.ConvSampleRefIdeal.Value.run m' g')
    · rw [Cert.ConvSampleRefIdeal.Read.val_main_v11_eq, (hagree c).1, (hagree c).2.1]
      exact (Cert.ConvSampleIdeal.Val.final m c).symm

end Cert.Parts
-- ==== Proof.lean ====
module

public import proofs.«01_k».proof.Defs
public import proofs.«01_k».proof.Proof.Gen.CmpAttn
public import proofs.«01_k».proof.Proof.Gen.CmpAttn.Skeleton
public import proofs.«01_k».proof.Proof.Gen.CmpAttn.Launch
public import proofs.«01_k».proof.Proof.Gen.CmpAttn.Points
public import proofs.«01_k».proof.Proof.Gen.CmpAttn.Frame
public import proofs.«01_k».proof.Proof.Gen.CmpAttnIdeal
public import proofs.«01_k».proof.Proof.Gen.CmpAttnIdeal.Skeleton
public import proofs.«01_k».proof.Proof.Gen.CmpAttnIdeal.Launch
public import proofs.«01_k».proof.Proof.Gen.CmpAttnIdeal.Points
public import proofs.«01_k».proof.Proof.Gen.CmpAttnIdeal.Frame
public import proofs.«01_k».proof.Proof.Gen.CmpAttnRefIdeal
public import proofs.«01_k».proof.Proof.Gen.CmpAttnRefIdeal.Run
public import proofs.«01_k».proof.Proof.Gen.CmpAttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Raw
public import proofs.«01_k».proof.Proof.Gen.Raw.Skeleton
public import proofs.«01_k».proof.Proof.Gen.Raw.Launch
public import proofs.«01_k».proof.Proof.Gen.Raw.Points
public import proofs.«01_k».proof.Proof.Gen.Raw.Frame
public import proofs.«01_k».proof.Proof.Gen.RawIdeal
public import proofs.«01_k».proof.Proof.Gen.RawIdeal.Skeleton
public import proofs.«01_k».proof.Proof.Gen.RawIdeal.Launch
public import proofs.«01_k».proof.Proof.Gen.RawIdeal.Points
public import proofs.«01_k».proof.Proof.Gen.RawIdeal.Frame
public import proofs.«01_k».proof.Proof.Gen.RawRefIdeal
public import proofs.«01_k».proof.Proof.Gen.RawRefIdeal.Run
public import proofs.«01_k».proof.Proof.Gen.RawRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Gen.RawCmp
public import proofs.«01_k».proof.Proof.Gen.RawCmp.Skeleton
public import proofs.«01_k».proof.Proof.Gen.RawCmp.Launch
public import proofs.«01_k».proof.Proof.Gen.RawCmp.Points
public import proofs.«01_k».proof.Proof.Gen.RawCmp.Frame
public import proofs.«01_k».proof.Proof.Gen.RawCmpIdeal
public import proofs.«01_k».proof.Proof.Gen.RawCmpIdeal.Skeleton
public import proofs.«01_k».proof.Proof.Gen.RawCmpIdeal.Launch
public import proofs.«01_k».proof.Proof.Gen.RawCmpIdeal.Points
public import proofs.«01_k».proof.Proof.Gen.RawCmpIdeal.Frame
public import proofs.«01_k».proof.Proof.Gen.RawCmpRefIdeal
public import proofs.«01_k».proof.Proof.Gen.RawCmpRefIdeal.Run
public import proofs.«01_k».proof.Proof.Gen.RawCmpRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import proofs.«01_k».proof.Proof.Gen.KvRefIdeal.Run
public import proofs.«01_k».proof.Proof.Gen.KvRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.RawSample
public import proofs.«01_k».proof.Proof.Gen.RawSample.Skeleton
public import proofs.«01_k».proof.Proof.Gen.RawSample.Launch
public import proofs.«01_k».proof.Proof.Gen.RawSample.Points
public import proofs.«01_k».proof.Proof.Gen.RawSample.Frame
public import proofs.«01_k».proof.Proof.Gen.RawSampleIdeal
public import proofs.«01_k».proof.Proof.Gen.RawSampleIdeal.Skeleton
public import proofs.«01_k».proof.Proof.Gen.RawSampleIdeal.Launch
public import proofs.«01_k».proof.Proof.Gen.RawSampleIdeal.Points
public import proofs.«01_k».proof.Proof.Gen.RawSampleIdeal.Frame
public import proofs.«01_k».proof.Proof.Gen.RawSampleRefIdeal
public import proofs.«01_k».proof.Proof.Gen.RawSampleRefIdeal.Run
public import proofs.«01_k».proof.Proof.Gen.RawSampleRefIdeal.Read
public import proofs.«01_k».proof.Proof.Gen.KvSample
public import proofs.«01_k».proof.Proof.Gen.KvSample.Skeleton
public import proofs.«01_k».proof.Proof.Gen.KvSample.Launch
public import proofs.«01_k».proof.Proof.Gen.KvSample.Points
public import proofs.«01_k».proof.Proof.Gen.KvSample.Frame
public import proofs.«01_k».proof.Proof.Gen.KvSampleIdeal
public import proofs.«01_k».proof.Proof.Gen.KvSampleIdeal.Skeleton
public import proofs.«01_k».proof.Proof.Gen.KvSampleIdeal.Launch
public import proofs.«01_k».proof.Proof.Gen.KvSampleIdeal.Points
public import proofs.«01_k».proof.Proof.Gen.KvSampleIdeal.Frame
public import proofs.«01_k».proof.Proof.Gen.KvSampleRefIdeal
public import proofs.«01_k».proof.Proof.Gen.KvSampleRefIdeal.Run
public import proofs.«01_k».proof.Proof.Gen.KvSampleRefIdeal.Read
public import proofs.«01_k».proof.Proof.Gen.FfnSample
public import proofs.«01_k».proof.Proof.Gen.FfnSample.Skeleton
public import proofs.«01_k».proof.Proof.Gen.FfnSample.Launch
public import proofs.«01_k».proof.Proof.Gen.FfnSample.Points
public import proofs.«01_k».proof.Proof.Gen.FfnSample.Frame
public import proofs.«01_k».proof.Proof.Gen.FfnSampleIdeal
public import proofs.«01_k».proof.Proof.Gen.FfnSampleIdeal.Skeleton
public import proofs.«01_k».proof.Proof.Gen.FfnSampleIdeal.Launch
public import proofs.«01_k».proof.Proof.Gen.FfnSampleIdeal.Points
public import proofs.«01_k».proof.Proof.Gen.FfnSampleIdeal.Frame
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.Gen.PleSample
public import proofs.«01_k».proof.Proof.Gen.PleSample.Skeleton
public import proofs.«01_k».proof.Proof.Gen.PleSample.Launch
public import proofs.«01_k».proof.Proof.Gen.PleSample.Points
public import proofs.«01_k».proof.Proof.Gen.PleSample.Frame
public import proofs.«01_k».proof.Proof.Gen.PleSampleIdeal
public import proofs.«01_k».proof.Proof.Gen.PleSampleIdeal.Skeleton
public import proofs.«01_k».proof.Proof.Gen.PleSampleIdeal.Launch
public import proofs.«01_k».proof.Proof.Gen.PleSampleIdeal.Points
public import proofs.«01_k».proof.Proof.Gen.PleSampleIdeal.Frame
public import proofs.«01_k».proof.Proof.Gen.PleSampleRefIdeal
public import proofs.«01_k».proof.Proof.Gen.PleSampleRefIdeal.Run
public import proofs.«01_k».proof.Proof.Gen.PleSampleRefIdeal.Read
public import proofs.«01_k».proof.Proof.Gen.WinSample
public import proofs.«01_k».proof.Proof.Gen.WinSample.Skeleton
public import proofs.«01_k».proof.Proof.Gen.WinSample.Launch
public import proofs.«01_k».proof.Proof.Gen.WinSample.Points
public import proofs.«01_k».proof.Proof.Gen.WinSample.Frame
public import proofs.«01_k».proof.Proof.Gen.WinSampleIdeal
public import proofs.«01_k».proof.Proof.Gen.WinSampleIdeal.Skeleton
public import proofs.«01_k».proof.Proof.Gen.WinSampleIdeal.Launch
public import proofs.«01_k».proof.Proof.Gen.WinSampleIdeal.Points
public import proofs.«01_k».proof.Proof.Gen.WinSampleIdeal.Frame
public import proofs.«01_k».proof.Proof.Gen.WinSampleRefIdeal
public import proofs.«01_k».proof.Proof.Gen.WinSampleRefIdeal.Run
public import proofs.«01_k».proof.Proof.Gen.WinSampleRefIdeal.Read
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryRefIdeal
public import proofs.«01_k».proof.Proof.Gen.QueryRefIdeal.Run
public import proofs.«01_k».proof.Proof.Gen.QueryRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.ConvSample
public import proofs.«01_k».proof.Proof.Gen.ConvSample.Skeleton
public import proofs.«01_k».proof.Proof.Gen.ConvSample.Launch
public import proofs.«01_k».proof.Proof.Gen.ConvSample.Points
public import proofs.«01_k».proof.Proof.Gen.ConvSample.Frame
public import proofs.«01_k».proof.Proof.Gen.ConvSampleIdeal
public import proofs.«01_k».proof.Proof.Gen.ConvSampleIdeal.Skeleton
public import proofs.«01_k».proof.Proof.Gen.ConvSampleIdeal.Launch
public import proofs.«01_k».proof.Proof.Gen.ConvSampleIdeal.Points
public import proofs.«01_k».proof.Proof.Gen.ConvSampleIdeal.Frame
public import proofs.«01_k».proof.Proof.Gen.ConvSampleRefIdeal
public import proofs.«01_k».proof.Proof.Gen.ConvSampleRefIdeal.Run
public import proofs.«01_k».proof.Proof.Gen.ConvSampleRefIdeal.Read
public import proofs.«01_k».proof.Proof.CmpAttnClaim
public import proofs.«01_k».proof.Proof.FfnClaim
public import proofs.«01_k».proof.Proof.RawClaim
public import proofs.«01_k».proof.Proof.PleClaim
public import proofs.«01_k».proof.Proof.RawCmpClaim
public import proofs.«01_k».proof.Proof.KvClaim
public import proofs.«01_k».proof.Proof.MergeClaim
public import proofs.«01_k».proof.Proof.ProjClaim
public import proofs.«01_k».proof.Proof.RawSampleClaim
public import proofs.«01_k».proof.Proof.KvSampleClaim
public import proofs.«01_k».proof.Proof.FfnSampleClaim
public import proofs.«01_k».proof.Proof.PleSampleClaim
public import proofs.«01_k».proof.Proof.WinSampleClaim
public import proofs.«01_k».proof.Proof.QueryClaim
public import proofs.«01_k».proof.Proof.ConvClaim
public import proofs.«01_k».proof.Proof.ConvSampleClaim
public import Idealize.ShloMosaic.Adequacy
public import Idealize.ShloMosaic.Init

@[expose] public section

noncomputable section

namespace Cert.Proof

open Idealize.ShloMosaic Idealize.SL.Sem Cert.CmpAttn

theorem claim : Cert.Claim :=
  ⟨Cert.CmpAttn.Gen.facts,
    Cert.CmpAttnIdeal.Gen.facts,
    Cert.CmpAttnRefIdeal.Gen.facts,
    Cert.Ffn.Gen.facts,
    Cert.FfnIdeal.Gen.facts,
    Cert.FfnRefIdeal.Gen.facts,
    Cert.Raw.Gen.facts,
    Cert.RawIdeal.Gen.facts,
    Cert.RawRefIdeal.Gen.facts,
    Cert.Ple.Gen.facts,
    Cert.PleIdeal.Gen.facts,
    Cert.PleRefIdeal.Gen.facts,
    Cert.RawCmp.Gen.facts,
    Cert.RawCmpIdeal.Gen.facts,
    Cert.RawCmpRefIdeal.Gen.facts,
    Cert.Kv.Gen.facts,
    Cert.KvIdeal.Gen.facts,
    Cert.KvRefIdeal.Gen.facts,
    Cert.Merge.Gen.facts,
    Cert.MergeIdeal.Gen.facts,
    Cert.MergeRefIdeal.Gen.facts,
    Cert.Proj.Gen.facts,
    Cert.ProjIdeal.Gen.facts,
    Cert.ProjRefIdeal.Gen.facts,
    Cert.RawSample.Gen.facts,
    Cert.RawSampleIdeal.Gen.facts,
    Cert.RawSampleRefIdeal.Gen.facts,
    Cert.KvSample.Gen.facts,
    Cert.KvSampleIdeal.Gen.facts,
    Cert.KvSampleRefIdeal.Gen.facts,
    Cert.FfnSample.Gen.facts,
    Cert.FfnSampleIdeal.Gen.facts,
    Cert.FfnSampleRefIdeal.Gen.facts,
    Cert.PleSample.Gen.facts,
    Cert.PleSampleIdeal.Gen.facts,
    Cert.PleSampleRefIdeal.Gen.facts,
    Cert.WinSample.Gen.facts,
    Cert.WinSampleIdeal.Gen.facts,
    Cert.WinSampleRefIdeal.Gen.facts,
    Cert.Query.Gen.facts,
    Cert.QueryIdeal.Gen.facts,
    Cert.QueryRefIdeal.Gen.facts,
    Cert.Conv.Gen.facts,
    Cert.ConvIdeal.Gen.facts,
    Cert.ConvRefIdeal.Gen.facts,
    Cert.ConvSample.Gen.facts,
    Cert.ConvSampleIdeal.Gen.facts,
    Cert.ConvSampleRefIdeal.Gen.facts,
    fun m g _ => Cert.CmpAttn.Gen.frame m g,
    fun m g _ => Cert.CmpAttnIdeal.Gen.frame m g,
    Cert.Parts.cmpAttnRef_frame,
    fun m g _ => Cert.Ffn.Gen.frame m g,
    fun m g _ => Cert.FfnIdeal.Gen.frame m g,
    Cert.Parts.ffnRef_frame,
    fun m g _ => Cert.Raw.Gen.frame m g,
    fun m g _ => Cert.RawIdeal.Gen.frame m g,
    Cert.Parts.rawRef_frame,
    fun m g _ => Cert.Ple.Gen.frame m g,
    fun m g _ => Cert.PleIdeal.Gen.frame m g,
    Cert.Parts.pleRef_frame,
    fun m g _ => Cert.RawCmp.Gen.frame m g,
    fun m g _ => Cert.RawCmpIdeal.Gen.frame m g,
    Cert.Parts.rawCmpRef_frame,
    fun m g _ => Cert.Kv.Gen.frame m g,
    fun m g _ => Cert.KvIdeal.Gen.frame m g,
    Cert.Parts.kvRef_frame,
    fun m g _ => Cert.Merge.Gen.frame m g,
    fun m g _ => Cert.MergeIdeal.Gen.frame m g,
    Cert.Parts.mergeRef_frame,
    fun m g _ => Cert.Proj.Gen.frame m g,
    fun m g _ => Cert.ProjIdeal.Gen.frame m g,
    Cert.Parts.projRef_frame,
    fun m g _ => Cert.RawSample.Gen.frame m g,
    fun m g _ => Cert.RawSampleIdeal.Gen.frame m g,
    Cert.Parts.rawSampleRef_frame,
    fun m g _ => Cert.KvSample.Gen.frame m g,
    fun m g _ => Cert.KvSampleIdeal.Gen.frame m g,
    Cert.Parts.kvSampleRef_frame,
    fun m g _ => Cert.FfnSample.Gen.frame m g,
    fun m g _ => Cert.FfnSampleIdeal.Gen.frame m g,
    Cert.Parts.ffnSampleRef_frame,
    fun m g _ => Cert.PleSample.Gen.frame m g,
    fun m g _ => Cert.PleSampleIdeal.Gen.frame m g,
    Cert.Parts.pleSampleRef_frame,
    fun m g _ => Cert.WinSample.Gen.frame m g,
    fun m g _ => Cert.WinSampleIdeal.Gen.frame m g,
    Cert.Parts.winSampleRef_frame,
    fun m g _ => Cert.Query.Gen.frame m g,
    fun m g _ => Cert.QueryIdeal.Gen.frame m g,
    Cert.Parts.queryRef_frame,
    fun m g _ => Cert.Conv.Gen.frame m g,
    fun m g _ => Cert.ConvIdeal.Gen.frame m g,
    Cert.Parts.convRef_frame,
    fun m g _ => Cert.ConvSample.Gen.frame m g,
    fun m g _ => Cert.ConvSampleIdeal.Gen.frame m g,
    Cert.Parts.convSampleRef_frame,
    trivial,
    Cert.Parts.cmpAttn_algebraic,
    trivial,
    Cert.Parts.ffn_algebraic,
    trivial,
    Cert.Parts.raw_algebraic,
    trivial,
    Cert.Parts.ple_algebraic,
    trivial,
    Cert.Parts.rawCmp_algebraic,
    trivial,
    Cert.Parts.kv_algebraic,
    trivial,
    Cert.Parts.merge_algebraic,
    trivial,
    Cert.Parts.proj_algebraic,
    trivial,
    Cert.Parts.rawSample_algebraic,
    trivial,
    Cert.Parts.kvSample_algebraic,
    trivial,
    Cert.Parts.ffnSample_algebraic,
    trivial,
    Cert.Parts.pleSample_algebraic,
    trivial,
    Cert.Parts.winSample_algebraic,
    trivial,
    Cert.Parts.query_algebraic,
    trivial,
    Cert.Parts.conv_algebraic,
    trivial,
    Cert.Parts.convSample_algebraic⟩

end Cert.Proof

end
